-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite [hPre_finite : Cert.Pre_finite.Facts] (m : (ℓ : Loc Cert.SwaIdeal.nD Cert.SwaIdeal.τ Cert.SwaIdeal.sig) → Buf (Elt Ideal) ℓ) : Prop :=
  ∀ c : Dev Cert.SwaIdeal.nD,
    (Cert.Pre_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3))).1 = (fun _ => 1#1)
    ∧ (Cert.Pre_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3))).2.1 = (fun _ => 1#1)
    ∧ (Cert.Pre_finite.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2)) (m ((c.tc : Thread Cert.SwaIdeal.nD Cert.SwaIdeal.τ).loc Cert.SwaIdeal.main_arg3))).2.2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite [hPre_finite : Cert.Pre_finite.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))).1 = (fun _ => 1#1)
    ∧ (Cert.Pre_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))).2.1 = (fun _ => 1#1)
    ∧ (Cert.Pre_finite.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2)) (m ((c.tc : Thread Cert.SwaRefIdeal.nD Cert.SwaRefIdeal.τ).loc Cert.SwaRefIdeal.main_arg3))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidRefIdeal (m : (ℓ : Loc Cert.MidRefIdeal.nD Cert.MidRefIdeal.τ Cert.MidRefIdeal.sig) → Buf (Elt Ideal) ℓ) : Prop :=
  True

def Pre_OutEven (m : (ℓ : Loc Cert.OutEven.nD Cert.OutEven.τ Cert.OutEven.sig) → Buf (Elt Bits) ℓ) : Prop :=
  True

def Pre_OutEvenIdeal (m : (ℓ : Loc Cert.OutEvenIdeal.nD Cert.OutEvenIdeal.τ Cert.OutEvenIdeal.sig) → Buf (Elt Ideal) ℓ) : Prop :=
  True

def Pre_OutEvenRefIdeal (m : (ℓ : Loc Cert.OutEvenRefIdeal.nD Cert.OutEvenRefIdeal.τ Cert.OutEvenRefIdeal.sig) → Buf (Elt Ideal) ℓ) : Prop :=
  True

def Pre_OutOdd (m : (ℓ : Loc Cert.OutOdd.nD Cert.OutOdd.τ Cert.OutOdd.sig) → Buf (Elt Bits) ℓ) : Prop :=
  True

def Pre_OutOddIdeal (m : (ℓ : Loc Cert.OutOddIdeal.nD Cert.OutOddIdeal.τ Cert.OutOddIdeal.sig) → Buf (Elt Ideal) ℓ) : Prop :=
  True

def Pre_OutOddRefIdeal (m : (ℓ : Loc Cert.OutOddRefIdeal.nD Cert.OutOddRefIdeal.τ Cert.OutOddRefIdeal.sig) → Buf (Elt Ideal) ℓ) : Prop :=
  True

def Pre_ProjEven (m : (ℓ : Loc Cert.ProjEven.nD Cert.ProjEven.τ Cert.ProjEven.sig) → Buf (Elt Bits) ℓ) : Prop :=
  True

def Pre_ProjEvenIdeal (m : (ℓ : Loc Cert.ProjEvenIdeal.nD Cert.ProjEvenIdeal.τ Cert.ProjEvenIdeal.sig) → Buf (Elt Ideal) ℓ) : Prop :=
  True

def Pre_ProjEvenRefIdeal (m : (ℓ : Loc Cert.ProjEvenRefIdeal.nD Cert.ProjEvenRefIdeal.τ Cert.ProjEvenRefIdeal.sig) → Buf (Elt Ideal) ℓ) : Prop :=
  True

def Pre_ProjOdd (m : (ℓ : Loc Cert.ProjOdd.nD Cert.ProjOdd.τ Cert.ProjOdd.sig) → Buf (Elt Bits) ℓ) : Prop :=
  True

def Pre_ProjOddIdeal (m : (ℓ : Loc Cert.ProjOddIdeal.nD Cert.ProjOddIdeal.τ Cert.ProjOddIdeal.sig) → Buf (Elt Ideal) ℓ) : Prop :=
  True

def Pre_ProjOddRefIdeal (m : (ℓ : Loc Cert.ProjOddRefIdeal.nD Cert.ProjOddRefIdeal.τ Cert.ProjOddRefIdeal.sig) → Buf (Elt Ideal) ℓ) : Prop :=
  True

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2)
      ∧ r.2.mem ((c.tc : Thread Cert.Swa.nD Cert.Swa.τ).loc Cert.Swa.main_arg3) = m ((c.tc : Thread Cert.Swa.nD Cert.Swa.τ).loc Cert.Swa.main_arg3))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaIdeal_pre_finite [hSwaIdeal : Cert.SwaIdeal.Facts] [hPre_finite : Cert.Pre_finite.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
      ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_SwaRefIdeal_pre_finite [hSwaRefIdeal : Cert.SwaRefIdeal.Facts] [hPre_finite : Cert.Pre_finite.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2)
      ∧ r.2.mem ((c.tc : Thread Cert.SwaRefIdeal.nD Cert.SwaRefIdeal.τ).loc Cert.SwaRefIdeal.main_arg3) = m ((c.tc : Thread Cert.SwaRefIdeal.nD Cert.SwaRefIdeal.τ).loc Cert.SwaRefIdeal.main_arg3))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3))
      ∧ r.2.sem = fun _ => 0)

def quiescent_OutEven [hOutEven : Cert.OutEven.Facts] : Prop :=
  ∀ (m : (ℓ : Loc Cert.OutEven.nD Cert.OutEven.τ Cert.OutEven.sig) → Buf (Elt Bits) ℓ) (g : Dev Cert.OutEven.nD → PrngReg), Pre_OutEven m →
    θ_run (Cert.OutEven.defs (F := Bits)) (onTc (τ := Cert.OutEven.τ) (Cert.OutEven.main (F := Bits))) ⟨m, fun _ => 0, g⟩ (fun r => (∀ c : Dev Cert.OutEven.nD,
      r.2.mem ((c.tc : Thread Cert.OutEven.nD Cert.OutEven.τ).loc Cert.OutEven.main_arg0) = m ((c.tc : Thread Cert.OutEven.nD Cert.OutEven.τ).loc Cert.OutEven.main_arg0)
      ∧ r.2.mem ((c.tc : Thread Cert.OutEven.nD Cert.OutEven.τ).loc Cert.OutEven.main_arg1) = m ((c.tc : Thread Cert.OutEven.nD Cert.OutEven.τ).loc Cert.OutEven.main_arg1)
      ∧ r.2.mem ((c.tc : Thread Cert.OutEven.nD Cert.OutEven.τ).loc Cert.OutEven.main_arg2) = m ((c.tc : Thread Cert.OutEven.nD Cert.OutEven.τ).loc Cert.OutEven.main_arg2)
      ∧ r.2.mem ((c.tc : Thread Cert.OutEven.nD Cert.OutEven.τ).loc Cert.OutEven.main_arg3) = m ((c.tc : Thread Cert.OutEven.nD Cert.OutEven.τ).loc Cert.OutEven.main_arg3)
      ∧ r.2.mem ((c.tc : Thread Cert.OutEven.nD Cert.OutEven.τ).loc Cert.OutEven.main_arg4) = m ((c.tc : Thread Cert.OutEven.nD Cert.OutEven.τ).loc Cert.OutEven.main_arg4))
      ∧ r.2.sem = fun _ => 0)

def quiescent_OutEvenIdeal [hOutEvenIdeal : Cert.OutEvenIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg), Pre_OutEvenIdeal m →
    θ_run (Cert.OutEvenIdeal.defs (F := Ideal)) (onTc (τ := Cert.OutEvenIdeal.τ) (Cert.OutEvenIdeal.main (F := Ideal))) ⟨m, fun _ => 0, g⟩ (fun r => (∀ c : Dev Cert.OutEvenIdeal.nD,
      r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
      ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
      ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
      ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
      ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4))
      ∧ r.2.sem = fun _ => 0)

def quiescent_OutEvenRefIdeal [hOutEvenRefIdeal : Cert.OutEvenRefIdeal.Facts] : Prop :=
  ∀ (m : (ℓ : Loc Cert.OutEvenRefIdeal.nD Cert.OutEvenRefIdeal.τ Cert.OutEvenRefIdeal.sig) → Buf (Elt Ideal) ℓ) (g : Dev Cert.OutEvenRefIdeal.nD → PrngReg), Pre_OutEvenRefIdeal m →
    θ_run (Cert.OutEvenRefIdeal.defs (F := Ideal)) (onTc (τ := Cert.OutEvenRefIdeal.τ) (Cert.OutEvenRefIdeal.main (F := Ideal))) ⟨m, fun _ => 0, g⟩ (fun r => (∀ c : Dev Cert.OutEvenRefIdeal.nD,
      r.2.mem ((c.tc : Thread Cert.OutEvenRefIdeal.nD Cert.OutEvenRefIdeal.τ).loc Cert.OutEvenRefIdeal.main_arg0) = m ((c.tc : Thread Cert.OutEvenRefIdeal.nD Cert.OutEvenRefIdeal.τ).loc Cert.OutEvenRefIdeal.main_arg0)
      ∧ r.2.mem ((c.tc : Thread Cert.OutEvenRefIdeal.nD Cert.OutEvenRefIdeal.τ).loc Cert.OutEvenRefIdeal.main_arg1) = m ((c.tc : Thread Cert.OutEvenRefIdeal.nD Cert.OutEvenRefIdeal.τ).loc Cert.OutEvenRefIdeal.main_arg1)
      ∧ r.2.mem ((c.tc : Thread Cert.OutEvenRefIdeal.nD Cert.OutEvenRefIdeal.τ).loc Cert.OutEvenRefIdeal.main_arg2) = m ((c.tc : Thread Cert.OutEvenRefIdeal.nD Cert.OutEvenRefIdeal.τ).loc Cert.OutEvenRefIdeal.main_arg2)
      ∧ r.2.mem ((c.tc : Thread Cert.OutEvenRefIdeal.nD Cert.OutEvenRefIdeal.τ).loc Cert.OutEvenRefIdeal.main_arg3) = m ((c.tc : Thread Cert.OutEvenRefIdeal.nD Cert.OutEvenRefIdeal.τ).loc Cert.OutEvenRefIdeal.main_arg3)
      ∧ r.2.mem ((c.tc : Thread Cert.OutEvenRefIdeal.nD Cert.OutEvenRefIdeal.τ).loc Cert.OutEvenRefIdeal.main_arg4) = m ((c.tc : Thread Cert.OutEvenRefIdeal.nD Cert.OutEvenRefIdeal.τ).loc Cert.OutEvenRefIdeal.main_arg4))
      ∧ r.2.sem = fun _ => 0)

def quiescent_OutOdd [hOutOdd : Cert.OutOdd.Facts] : Prop :=
  ∀ (m : (ℓ : Loc Cert.OutOdd.nD Cert.OutOdd.τ Cert.OutOdd.sig) → Buf (Elt Bits) ℓ) (g : Dev Cert.OutOdd.nD → PrngReg), Pre_OutOdd m →
    θ_run (Cert.OutOdd.defs (F := Bits)) (onTc (τ := Cert.OutOdd.τ) (Cert.OutOdd.main (F := Bits))) ⟨m, fun _ => 0, g⟩ (fun r => (∀ c : Dev Cert.OutOdd.nD,
      r.2.mem ((c.tc : Thread Cert.OutOdd.nD Cert.OutOdd.τ).loc Cert.OutOdd.main_arg0) = m ((c.tc : Thread Cert.OutOdd.nD Cert.OutOdd.τ).loc Cert.OutOdd.main_arg0)
      ∧ r.2.mem ((c.tc : Thread Cert.OutOdd.nD Cert.OutOdd.τ).loc Cert.OutOdd.main_arg1) = m ((c.tc : Thread Cert.OutOdd.nD Cert.OutOdd.τ).loc Cert.OutOdd.main_arg1)
      ∧ r.2.mem ((c.tc : Thread Cert.OutOdd.nD Cert.OutOdd.τ).loc Cert.OutOdd.main_arg2) = m ((c.tc : Thread Cert.OutOdd.nD Cert.OutOdd.τ).loc Cert.OutOdd.main_arg2)
      ∧ r.2.mem ((c.tc : Thread Cert.OutOdd.nD Cert.OutOdd.τ).loc Cert.OutOdd.main_arg3) = m ((c.tc : Thread Cert.OutOdd.nD Cert.OutOdd.τ).loc Cert.OutOdd.main_arg3)
      ∧ r.2.mem ((c.tc : Thread Cert.OutOdd.nD Cert.OutOdd.τ).loc Cert.OutOdd.main_arg4) = m ((c.tc : Thread Cert.OutOdd.nD Cert.OutOdd.τ).loc Cert.OutOdd.main_arg4))
      ∧ r.2.sem = fun _ => 0)

def quiescent_OutOddIdeal [hOutOddIdeal : Cert.OutOddIdeal.Facts] : Prop :=
  ∀ (m : (ℓ : Loc Cert.OutOddIdeal.nD Cert.OutOddIdeal.τ Cert.OutOddIdeal.sig) → Buf (Elt Ideal) ℓ) (g : Dev Cert.OutOddIdeal.nD → PrngReg), Pre_OutOddIdeal m →
    θ_run (Cert.OutOddIdeal.defs (F := Ideal)) (onTc (τ := Cert.OutOddIdeal.τ) (Cert.OutOddIdeal.main (F := Ideal))) ⟨m, fun _ => 0, g⟩ (fun r => (∀ c : Dev Cert.OutOddIdeal.nD,
      r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
      ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
      ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
      ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
      ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4))
      ∧ r.2.sem = fun _ => 0)

def quiescent_OutOddRefIdeal [hOutOddRefIdeal : Cert.OutOddRefIdeal.Facts] : Prop :=
  ∀ (m : (ℓ : Loc Cert.OutOddRefIdeal.nD Cert.OutOddRefIdeal.τ Cert.OutOddRefIdeal.sig) → Buf (Elt Ideal) ℓ) (g : Dev Cert.OutOddRefIdeal.nD → PrngReg), Pre_OutOddRefIdeal m →
    θ_run (Cert.OutOddRefIdeal.defs (F := Ideal)) (onTc (τ := Cert.OutOddRefIdeal.τ) (Cert.OutOddRefIdeal.main (F := Ideal))) ⟨m, fun _ => 0, g⟩ (fun r => (∀ c : Dev Cert.OutOddRefIdeal.nD,
      r.2.mem ((c.tc : Thread Cert.OutOddRefIdeal.nD Cert.OutOddRefIdeal.τ).loc Cert.OutOddRefIdeal.main_arg0) = m ((c.tc : Thread Cert.OutOddRefIdeal.nD Cert.OutOddRefIdeal.τ).loc Cert.OutOddRefIdeal.main_arg0)
      ∧ r.2.mem ((c.tc : Thread Cert.OutOddRefIdeal.nD Cert.OutOddRefIdeal.τ).loc Cert.OutOddRefIdeal.main_arg1) = m ((c.tc : Thread Cert.OutOddRefIdeal.nD Cert.OutOddRefIdeal.τ).loc Cert.OutOddRefIdeal.main_arg1)
      ∧ r.2.mem ((c.tc : Thread Cert.OutOddRefIdeal.nD Cert.OutOddRefIdeal.τ).loc Cert.OutOddRefIdeal.main_arg2) = m ((c.tc : Thread Cert.OutOddRefIdeal.nD Cert.OutOddRefIdeal.τ).loc Cert.OutOddRefIdeal.main_arg2)
      ∧ r.2.mem ((c.tc : Thread Cert.OutOddRefIdeal.nD Cert.OutOddRefIdeal.τ).loc Cert.OutOddRefIdeal.main_arg3) = m ((c.tc : Thread Cert.OutOddRefIdeal.nD Cert.OutOddRefIdeal.τ).loc Cert.OutOddRefIdeal.main_arg3)
      ∧ r.2.mem ((c.tc : Thread Cert.OutOddRefIdeal.nD Cert.OutOddRefIdeal.τ).loc Cert.OutOddRefIdeal.main_arg4) = m ((c.tc : Thread Cert.OutOddRefIdeal.nD Cert.OutOddRefIdeal.τ).loc Cert.OutOddRefIdeal.main_arg4))
      ∧ r.2.sem = fun _ => 0)

def quiescent_ProjEven [hProjEven : Cert.ProjEven.Facts] : Prop :=
  ∀ (m : (ℓ : Loc Cert.ProjEven.nD Cert.ProjEven.τ Cert.ProjEven.sig) → Buf (Elt Bits) ℓ) (g : Dev Cert.ProjEven.nD → PrngReg), Pre_ProjEven m →
    θ_run (Cert.ProjEven.defs (F := Bits)) (onTc (τ := Cert.ProjEven.τ) (Cert.ProjEven.main (F := Bits))) ⟨m, fun _ => 0, g⟩ (fun r => (∀ c : Dev Cert.ProjEven.nD,
      r.2.mem ((c.tc : Thread Cert.ProjEven.nD Cert.ProjEven.τ).loc Cert.ProjEven.main_arg0) = m ((c.tc : Thread Cert.ProjEven.nD Cert.ProjEven.τ).loc Cert.ProjEven.main_arg0)
      ∧ r.2.mem ((c.tc : Thread Cert.ProjEven.nD Cert.ProjEven.τ).loc Cert.ProjEven.main_arg1) = m ((c.tc : Thread Cert.ProjEven.nD Cert.ProjEven.τ).loc Cert.ProjEven.main_arg1)
      ∧ r.2.mem ((c.tc : Thread Cert.ProjEven.nD Cert.ProjEven.τ).loc Cert.ProjEven.main_arg2) = m ((c.tc : Thread Cert.ProjEven.nD Cert.ProjEven.τ).loc Cert.ProjEven.main_arg2)
      ∧ r.2.mem ((c.tc : Thread Cert.ProjEven.nD Cert.ProjEven.τ).loc Cert.ProjEven.main_arg3) = m ((c.tc : Thread Cert.ProjEven.nD Cert.ProjEven.τ).loc Cert.ProjEven.main_arg3)
      ∧ r.2.mem ((c.tc : Thread Cert.ProjEven.nD Cert.ProjEven.τ).loc Cert.ProjEven.main_arg4) = m ((c.tc : Thread Cert.ProjEven.nD Cert.ProjEven.τ).loc Cert.ProjEven.main_arg4))
      ∧ r.2.sem = fun _ => 0)

def quiescent_ProjEvenIdeal [hProjEvenIdeal : Cert.ProjEvenIdeal.Facts] : Prop :=
  ∀ (m : (ℓ : Loc Cert.ProjEvenIdeal.nD Cert.ProjEvenIdeal.τ Cert.ProjEvenIdeal.sig) → Buf (Elt Ideal) ℓ) (g : Dev Cert.ProjEvenIdeal.nD → PrngReg), Pre_ProjEvenIdeal m →
    θ_run (Cert.ProjEvenIdeal.defs (F := Ideal)) (onTc (τ := Cert.ProjEvenIdeal.τ) (Cert.ProjEvenIdeal.main (F := Ideal))) ⟨m, fun _ => 0, g⟩ (fun r => (∀ c : Dev Cert.ProjEvenIdeal.nD,
      r.2.mem ((c.tc : Thread Cert.ProjEvenIdeal.nD Cert.ProjEvenIdeal.τ).loc Cert.ProjEvenIdeal.main_arg0) = m ((c.tc : Thread Cert.ProjEvenIdeal.nD Cert.ProjEvenIdeal.τ).loc Cert.ProjEvenIdeal.main_arg0)
      ∧ r.2.mem ((c.tc : Thread Cert.ProjEvenIdeal.nD Cert.ProjEvenIdeal.τ).loc Cert.ProjEvenIdeal.main_arg1) = m ((c.tc : Thread Cert.ProjEvenIdeal.nD Cert.ProjEvenIdeal.τ).loc Cert.ProjEvenIdeal.main_arg1)
      ∧ r.2.mem ((c.tc : Thread Cert.ProjEvenIdeal.nD Cert.ProjEvenIdeal.τ).loc Cert.ProjEvenIdeal.main_arg2) = m ((c.tc : Thread Cert.ProjEvenIdeal.nD Cert.ProjEvenIdeal.τ).loc Cert.ProjEvenIdeal.main_arg2)
      ∧ r.2.mem ((c.tc : Thread Cert.ProjEvenIdeal.nD Cert.ProjEvenIdeal.τ).loc Cert.ProjEvenIdeal.main_arg3) = m ((c.tc : Thread Cert.ProjEvenIdeal.nD Cert.ProjEvenIdeal.τ).loc Cert.ProjEvenIdeal.main_arg3)
      ∧ r.2.mem ((c.tc : Thread Cert.ProjEvenIdeal.nD Cert.ProjEvenIdeal.τ).loc Cert.ProjEvenIdeal.main_arg4) = m ((c.tc : Thread Cert.ProjEvenIdeal.nD Cert.ProjEvenIdeal.τ).loc Cert.ProjEvenIdeal.main_arg4))
      ∧ r.2.sem = fun _ => 0)

def quiescent_ProjEvenRefIdeal [hProjEvenRefIdeal : Cert.ProjEvenRefIdeal.Facts] : Prop :=
  ∀ (m : (ℓ : Loc Cert.ProjEvenRefIdeal.nD Cert.ProjEvenRefIdeal.τ Cert.ProjEvenRefIdeal.sig) → Buf (Elt Ideal) ℓ) (g : Dev Cert.ProjEvenRefIdeal.nD → PrngReg), Pre_ProjEvenRefIdeal m →
    θ_run (Cert.ProjEvenRefIdeal.defs (F := Ideal)) (onTc (τ := Cert.ProjEvenRefIdeal.τ) (Cert.ProjEvenRefIdeal.main (F := Ideal))) ⟨m, fun _ => 0, g⟩ (fun r => (∀ c : Dev Cert.ProjEvenRefIdeal.nD,
      r.2.mem ((c.tc : Thread Cert.ProjEvenRefIdeal.nD Cert.ProjEvenRefIdeal.τ).loc Cert.ProjEvenRefIdeal.main_arg0) = m ((c.tc : Thread Cert.ProjEvenRefIdeal.nD Cert.ProjEvenRefIdeal.τ).loc Cert.ProjEvenRefIdeal.main_arg0)
      ∧ r.2.mem ((c.tc : Thread Cert.ProjEvenRefIdeal.nD Cert.ProjEvenRefIdeal.τ).loc Cert.ProjEvenRefIdeal.main_arg1) = m ((c.tc : Thread Cert.ProjEvenRefIdeal.nD Cert.ProjEvenRefIdeal.τ).loc Cert.ProjEvenRefIdeal.main_arg1)
      ∧ r.2.mem ((c.tc : Thread Cert.ProjEvenRefIdeal.nD Cert.ProjEvenRefIdeal.τ).loc Cert.ProjEvenRefIdeal.main_arg2) = m ((c.tc : Thread Cert.ProjEvenRefIdeal.nD Cert.ProjEvenRefIdeal.τ).loc Cert.ProjEvenRefIdeal.main_arg2)
      ∧ r.2.mem ((c.tc : Thread Cert.ProjEvenRefIdeal.nD Cert.ProjEvenRefIdeal.τ).loc Cert.ProjEvenRefIdeal.main_arg3) = m ((c.tc : Thread Cert.ProjEvenRefIdeal.nD Cert.ProjEvenRefIdeal.τ).loc Cert.ProjEvenRefIdeal.main_arg3)
      ∧ r.2.mem ((c.tc : Thread Cert.ProjEvenRefIdeal.nD Cert.ProjEvenRefIdeal.τ).loc Cert.ProjEvenRefIdeal.main_arg4) = m ((c.tc : Thread Cert.ProjEvenRefIdeal.nD Cert.ProjEvenRefIdeal.τ).loc Cert.ProjEvenRefIdeal.main_arg4))
      ∧ r.2.sem = fun _ => 0)

def quiescent_ProjOdd [hProjOdd : Cert.ProjOdd.Facts] : Prop :=
  ∀ (m : (ℓ : Loc Cert.ProjOdd.nD Cert.ProjOdd.τ Cert.ProjOdd.sig) → Buf (Elt Bits) ℓ) (g : Dev Cert.ProjOdd.nD → PrngReg), Pre_ProjOdd m →
    θ_run (Cert.ProjOdd.defs (F := Bits)) (onTc (τ := Cert.ProjOdd.τ) (Cert.ProjOdd.main (F := Bits))) ⟨m, fun _ => 0, g⟩ (fun r => (∀ c : Dev Cert.ProjOdd.nD,
      r.2.mem ((c.tc : Thread Cert.ProjOdd.nD Cert.ProjOdd.τ).loc Cert.ProjOdd.main_arg0) = m ((c.tc : Thread Cert.ProjOdd.nD Cert.ProjOdd.τ).loc Cert.ProjOdd.main_arg0)
      ∧ r.2.mem ((c.tc : Thread Cert.ProjOdd.nD Cert.ProjOdd.τ).loc Cert.ProjOdd.main_arg1) = m ((c.tc : Thread Cert.ProjOdd.nD Cert.ProjOdd.τ).loc Cert.ProjOdd.main_arg1)
      ∧ r.2.mem ((c.tc : Thread Cert.ProjOdd.nD Cert.ProjOdd.τ).loc Cert.ProjOdd.main_arg2) = m ((c.tc : Thread Cert.ProjOdd.nD Cert.ProjOdd.τ).loc Cert.ProjOdd.main_arg2)
      ∧ r.2.mem ((c.tc : Thread Cert.ProjOdd.nD Cert.ProjOdd.τ).loc Cert.ProjOdd.main_arg3) = m ((c.tc : Thread Cert.ProjOdd.nD Cert.ProjOdd.τ).loc Cert.ProjOdd.main_arg3)
      ∧ r.2.mem ((c.tc : Thread Cert.ProjOdd.nD Cert.ProjOdd.τ).loc Cert.ProjOdd.main_arg4) = m ((c.tc : Thread Cert.ProjOdd.nD Cert.ProjOdd.τ).loc Cert.ProjOdd.main_arg4)
      ∧ r.2.mem ((c.tc : Thread Cert.ProjOdd.nD Cert.ProjOdd.τ).loc Cert.ProjOdd.main_arg5) = m ((c.tc : Thread Cert.ProjOdd.nD Cert.ProjOdd.τ).loc Cert.ProjOdd.main_arg5))
      ∧ r.2.sem = fun _ => 0)

def quiescent_ProjOddIdeal [hProjOddIdeal : Cert.ProjOddIdeal.Facts] : Prop :=
  ∀ (m : (ℓ : Loc Cert.ProjOddIdeal.nD Cert.ProjOddIdeal.τ Cert.ProjOddIdeal.sig) → Buf (Elt Ideal) ℓ) (g : Dev Cert.ProjOddIdeal.nD → PrngReg), Pre_ProjOddIdeal m →
    θ_run (Cert.ProjOddIdeal.defs (F := Ideal)) (onTc (τ := Cert.ProjOddIdeal.τ) (Cert.ProjOddIdeal.main (F := Ideal))) ⟨m, fun _ => 0, g⟩ (fun r => (∀ c : Dev Cert.ProjOddIdeal.nD,
      r.2.mem ((c.tc : Thread Cert.ProjOddIdeal.nD Cert.ProjOddIdeal.τ).loc Cert.ProjOddIdeal.main_arg0) = m ((c.tc : Thread Cert.ProjOddIdeal.nD Cert.ProjOddIdeal.τ).loc Cert.ProjOddIdeal.main_arg0)
      ∧ r.2.mem ((c.tc : Thread Cert.ProjOddIdeal.nD Cert.ProjOddIdeal.τ).loc Cert.ProjOddIdeal.main_arg1) = m ((c.tc : Thread Cert.ProjOddIdeal.nD Cert.ProjOddIdeal.τ).loc Cert.ProjOddIdeal.main_arg1)
      ∧ r.2.mem ((c.tc : Thread Cert.ProjOddIdeal.nD Cert.ProjOddIdeal.τ).loc Cert.ProjOddIdeal.main_arg2) = m ((c.tc : Thread Cert.ProjOddIdeal.nD Cert.ProjOddIdeal.τ).loc Cert.ProjOddIdeal.main_arg2)
      ∧ r.2.mem ((c.tc : Thread Cert.ProjOddIdeal.nD Cert.ProjOddIdeal.τ).loc Cert.ProjOddIdeal.main_arg3) = m ((c.tc : Thread Cert.ProjOddIdeal.nD Cert.ProjOddIdeal.τ).loc Cert.ProjOddIdeal.main_arg3)
      ∧ r.2.mem ((c.tc : Thread Cert.ProjOddIdeal.nD Cert.ProjOddIdeal.τ).loc Cert.ProjOddIdeal.main_arg4) = m ((c.tc : Thread Cert.ProjOddIdeal.nD Cert.ProjOddIdeal.τ).loc Cert.ProjOddIdeal.main_arg4)
      ∧ r.2.mem ((c.tc : Thread Cert.ProjOddIdeal.nD Cert.ProjOddIdeal.τ).loc Cert.ProjOddIdeal.main_arg5) = m ((c.tc : Thread Cert.ProjOddIdeal.nD Cert.ProjOddIdeal.τ).loc Cert.ProjOddIdeal.main_arg5))
      ∧ r.2.sem = fun _ => 0)

def quiescent_ProjOddRefIdeal [hProjOddRefIdeal : Cert.ProjOddRefIdeal.Facts] : Prop :=
  ∀ (m : (ℓ : Loc Cert.ProjOddRefIdeal.nD Cert.ProjOddRefIdeal.τ Cert.ProjOddRefIdeal.sig) → Buf (Elt Ideal) ℓ) (g : Dev Cert.ProjOddRefIdeal.nD → PrngReg), Pre_ProjOddRefIdeal m →
    θ_run (Cert.ProjOddRefIdeal.defs (F := Ideal)) (onTc (τ := Cert.ProjOddRefIdeal.τ) (Cert.ProjOddRefIdeal.main (F := Ideal))) ⟨m, fun _ => 0, g⟩ (fun r => (∀ c : Dev Cert.ProjOddRefIdeal.nD,
      r.2.mem ((c.tc : Thread Cert.ProjOddRefIdeal.nD Cert.ProjOddRefIdeal.τ).loc Cert.ProjOddRefIdeal.main_arg0) = m ((c.tc : Thread Cert.ProjOddRefIdeal.nD Cert.ProjOddRefIdeal.τ).loc Cert.ProjOddRefIdeal.main_arg0)
      ∧ r.2.mem ((c.tc : Thread Cert.ProjOddRefIdeal.nD Cert.ProjOddRefIdeal.τ).loc Cert.ProjOddRefIdeal.main_arg1) = m ((c.tc : Thread Cert.ProjOddRefIdeal.nD Cert.ProjOddRefIdeal.τ).loc Cert.ProjOddRefIdeal.main_arg1)
      ∧ r.2.mem ((c.tc : Thread Cert.ProjOddRefIdeal.nD Cert.ProjOddRefIdeal.τ).loc Cert.ProjOddRefIdeal.main_arg2) = m ((c.tc : Thread Cert.ProjOddRefIdeal.nD Cert.ProjOddRefIdeal.τ).loc Cert.ProjOddRefIdeal.main_arg2)
      ∧ r.2.mem ((c.tc : Thread Cert.ProjOddRefIdeal.nD Cert.ProjOddRefIdeal.τ).loc Cert.ProjOddRefIdeal.main_arg3) = m ((c.tc : Thread Cert.ProjOddRefIdeal.nD Cert.ProjOddRefIdeal.τ).loc Cert.ProjOddRefIdeal.main_arg3)
      ∧ r.2.mem ((c.tc : Thread Cert.ProjOddRefIdeal.nD Cert.ProjOddRefIdeal.τ).loc Cert.ProjOddRefIdeal.main_arg4) = m ((c.tc : Thread Cert.ProjOddRefIdeal.nD Cert.ProjOddRefIdeal.τ).loc Cert.ProjOddRefIdeal.main_arg4)
      ∧ r.2.mem ((c.tc : Thread Cert.ProjOddRefIdeal.nD Cert.ProjOddRefIdeal.τ).loc Cert.ProjOddRefIdeal.main_arg5) = m ((c.tc : Thread Cert.ProjOddRefIdeal.nD Cert.ProjOddRefIdeal.τ).loc Cert.ProjOddRefIdeal.main_arg5))
      ∧ r.2.sem = fun _ => 0)

def preserves_Swa_SwaIdeal : Prop :=
  IdealRules.named_const.Statement Cert.SwaIdeal.κ "mask" .f32 0xF149F2CA#32 ⊥
  ∧ IdealRules.named_const.Statement Cert.SwaIdeal.κ "log2e" .f32 0x3FB8AA3B#32 (((Real.log 2)⁻¹ : ℝ) : EReal)

def algebraic_SwaIdeal_SwaRefIdeal_pre_finite [hSwaIdeal : Cert.SwaIdeal.Facts] [hSwaRefIdeal : Cert.SwaRefIdeal.Facts] [hPre_finite : Cert.Pre_finite.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)
      ∧ m' ((c.tc : Thread Cert.SwaRefIdeal.nD Cert.SwaRefIdeal.τ).loc Cert.SwaRefIdeal.main_arg3) = m ((c.tc : Thread Cert.SwaIdeal.nD Cert.SwaIdeal.τ).loc Cert.SwaIdeal.main_arg3)) →
    ∃ (v0 : (c : Dev Cert.SwaIdeal.nD) → Buf (Elt Ideal) ((c.tc : Thread Cert.SwaIdeal.nD Cert.SwaIdeal.τ).loc Cert.SwaIdeal.main_v21)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v21) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2)
          ∧ r.2.mem ((c.tc : Thread Cert.SwaIdeal.nD Cert.SwaIdeal.τ).loc Cert.SwaIdeal.main_arg3) = m ((c.tc : Thread Cert.SwaIdeal.nD Cert.SwaIdeal.τ).loc Cert.SwaIdeal.main_arg3))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v35) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2)
          ∧ r.2.mem ((c.tc : Thread Cert.SwaRefIdeal.nD Cert.SwaRefIdeal.τ).loc Cert.SwaRefIdeal.main_arg3) = m' ((c.tc : Thread Cert.SwaRefIdeal.nD Cert.SwaRefIdeal.τ).loc Cert.SwaRefIdeal.main_arg3))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v15)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v15) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v50) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Mid_MidIdeal : Prop :=
  True

def algebraic_MidIdeal_MidRefIdeal [hMidIdeal : Cert.MidIdeal.Facts] [hMidRefIdeal : Cert.MidRefIdeal.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)) →
    ∃ (v0 : (c : Dev Cert.MidIdeal.nD) → Buf (Elt Ideal) ((c.tc : Thread Cert.MidIdeal.nD Cert.MidIdeal.τ).loc Cert.MidIdeal.main_v14)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v14) = v0 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v37) = v0 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3))

def preserves_OutEven_OutEvenIdeal : Prop :=
  True

def algebraic_OutEvenIdeal_OutEvenRefIdeal [hOutEvenIdeal : Cert.OutEvenIdeal.Facts] [hOutEvenRefIdeal : Cert.OutEvenRefIdeal.Facts] : Prop :=
  ∀ (m : (ℓ : Loc Cert.OutEvenIdeal.nD Cert.OutEvenIdeal.τ Cert.OutEvenIdeal.sig) → Buf (Elt Ideal) ℓ) (g : Dev Cert.OutEvenIdeal.nD → PrngReg)
    (m' : (ℓ : Loc Cert.OutEvenRefIdeal.nD Cert.OutEvenRefIdeal.τ Cert.OutEvenRefIdeal.sig) → Buf (Elt Ideal) ℓ) (g' : Dev Cert.OutEvenRefIdeal.nD → PrngReg), Pre_OutEvenIdeal m →
    (∀ c : Dev Cert.OutEvenIdeal.nD,
      m' ((c.tc : Thread Cert.OutEvenRefIdeal.nD Cert.OutEvenRefIdeal.τ).loc Cert.OutEvenRefIdeal.main_arg0) = m ((c.tc : Thread Cert.OutEvenIdeal.nD Cert.OutEvenIdeal.τ).loc Cert.OutEvenIdeal.main_arg0)
      ∧ m' ((c.tc : Thread Cert.OutEvenRefIdeal.nD Cert.OutEvenRefIdeal.τ).loc Cert.OutEvenRefIdeal.main_arg1) = m ((c.tc : Thread Cert.OutEvenIdeal.nD Cert.OutEvenIdeal.τ).loc Cert.OutEvenIdeal.main_arg1)
      ∧ m' ((c.tc : Thread Cert.OutEvenRefIdeal.nD Cert.OutEvenRefIdeal.τ).loc Cert.OutEvenRefIdeal.main_arg2) = m ((c.tc : Thread Cert.OutEvenIdeal.nD Cert.OutEvenIdeal.τ).loc Cert.OutEvenIdeal.main_arg2)
      ∧ m' ((c.tc : Thread Cert.OutEvenRefIdeal.nD Cert.OutEvenRefIdeal.τ).loc Cert.OutEvenRefIdeal.main_arg3) = m ((c.tc : Thread Cert.OutEvenIdeal.nD Cert.OutEvenIdeal.τ).loc Cert.OutEvenIdeal.main_arg3)
      ∧ m' ((c.tc : Thread Cert.OutEvenRefIdeal.nD Cert.OutEvenRefIdeal.τ).loc Cert.OutEvenRefIdeal.main_arg4) = m ((c.tc : Thread Cert.OutEvenIdeal.nD Cert.OutEvenIdeal.τ).loc Cert.OutEvenIdeal.main_arg4)) →
    ∃ (v0 : (c : Dev Cert.OutEvenIdeal.nD) → Buf (Elt Ideal) ((c.tc : Thread Cert.OutEvenIdeal.nD Cert.OutEvenIdeal.τ).loc Cert.OutEvenIdeal.main_v21)),
      θ_run (Cert.OutEvenIdeal.defs (F := Ideal)) (onTc (τ := Cert.OutEvenIdeal.τ) (Cert.OutEvenIdeal.main (F := Ideal))) ⟨m, fun _ => 0, g⟩ (fun r => ∀ c : Dev Cert.OutEvenIdeal.nD,
          r.2.mem ((c.tc : Thread Cert.OutEvenIdeal.nD Cert.OutEvenIdeal.τ).loc Cert.OutEvenIdeal.main_v21) = v0 c
          ∧ r.2.mem ((c.tc : Thread Cert.OutEvenIdeal.nD Cert.OutEvenIdeal.τ).loc Cert.OutEvenIdeal.main_arg0) = m ((c.tc : Thread Cert.OutEvenIdeal.nD Cert.OutEvenIdeal.τ).loc Cert.OutEvenIdeal.main_arg0)
          ∧ r.2.mem ((c.tc : Thread Cert.OutEvenIdeal.nD Cert.OutEvenIdeal.τ).loc Cert.OutEvenIdeal.main_arg1) = m ((c.tc : Thread Cert.OutEvenIdeal.nD Cert.OutEvenIdeal.τ).loc Cert.OutEvenIdeal.main_arg1)
          ∧ r.2.mem ((c.tc : Thread Cert.OutEvenIdeal.nD Cert.OutEvenIdeal.τ).loc Cert.OutEvenIdeal.main_arg2) = m ((c.tc : Thread Cert.OutEvenIdeal.nD Cert.OutEvenIdeal.τ).loc Cert.OutEvenIdeal.main_arg2)
          ∧ r.2.mem ((c.tc : Thread Cert.OutEvenIdeal.nD Cert.OutEvenIdeal.τ).loc Cert.OutEvenIdeal.main_arg3) = m ((c.tc : Thread Cert.OutEvenIdeal.nD Cert.OutEvenIdeal.τ).loc Cert.OutEvenIdeal.main_arg3)
          ∧ r.2.mem ((c.tc : Thread Cert.OutEvenIdeal.nD Cert.OutEvenIdeal.τ).loc Cert.OutEvenIdeal.main_arg4) = m ((c.tc : Thread Cert.OutEvenIdeal.nD Cert.OutEvenIdeal.τ).loc Cert.OutEvenIdeal.main_arg4))
      ∧ θ_run (Cert.OutEvenRefIdeal.defs (F := Ideal)) (onTc (τ := Cert.OutEvenRefIdeal.τ) (Cert.OutEvenRefIdeal.main (F := Ideal))) ⟨m', fun _ => 0, g'⟩ (fun r => ∀ c : Dev Cert.OutEvenRefIdeal.nD,
          r.2.mem ((c.tc : Thread Cert.OutEvenRefIdeal.nD Cert.OutEvenRefIdeal.τ).loc Cert.OutEvenRefIdeal.main_v15) = v0 c
          ∧ r.2.mem ((c.tc : Thread Cert.OutEvenRefIdeal.nD Cert.OutEvenRefIdeal.τ).loc Cert.OutEvenRefIdeal.main_arg0) = m' ((c.tc : Thread Cert.OutEvenRefIdeal.nD Cert.OutEvenRefIdeal.τ).loc Cert.OutEvenRefIdeal.main_arg0)
          ∧ r.2.mem ((c.tc : Thread Cert.OutEvenRefIdeal.nD Cert.OutEvenRefIdeal.τ).loc Cert.OutEvenRefIdeal.main_arg1) = m' ((c.tc : Thread Cert.OutEvenRefIdeal.nD Cert.OutEvenRefIdeal.τ).loc Cert.OutEvenRefIdeal.main_arg1)
          ∧ r.2.mem ((c.tc : Thread Cert.OutEvenRefIdeal.nD Cert.OutEvenRefIdeal.τ).loc Cert.OutEvenRefIdeal.main_arg2) = m' ((c.tc : Thread Cert.OutEvenRefIdeal.nD Cert.OutEvenRefIdeal.τ).loc Cert.OutEvenRefIdeal.main_arg2)
          ∧ r.2.mem ((c.tc : Thread Cert.OutEvenRefIdeal.nD Cert.OutEvenRefIdeal.τ).loc Cert.OutEvenRefIdeal.main_arg3) = m' ((c.tc : Thread Cert.OutEvenRefIdeal.nD Cert.OutEvenRefIdeal.τ).loc Cert.OutEvenRefIdeal.main_arg3)
          ∧ r.2.mem ((c.tc : Thread Cert.OutEvenRefIdeal.nD Cert.OutEvenRefIdeal.τ).loc Cert.OutEvenRefIdeal.main_arg4) = m' ((c.tc : Thread Cert.OutEvenRefIdeal.nD Cert.OutEvenRefIdeal.τ).loc Cert.OutEvenRefIdeal.main_arg4))

def preserves_OutOdd_OutOddIdeal : Prop :=
  True

def algebraic_OutOddIdeal_OutOddRefIdeal [hOutOddIdeal : Cert.OutOddIdeal.Facts] [hOutOddRefIdeal : Cert.OutOddRefIdeal.Facts] : Prop :=
  ∀ (m : (ℓ : Loc Cert.OutOddIdeal.nD Cert.OutOddIdeal.τ Cert.OutOddIdeal.sig) → Buf (Elt Ideal) ℓ) (g : Dev Cert.OutOddIdeal.nD → PrngReg)
    (m' : (ℓ : Loc Cert.OutOddRefIdeal.nD Cert.OutOddRefIdeal.τ Cert.OutOddRefIdeal.sig) → Buf (Elt Ideal) ℓ) (g' : Dev Cert.OutOddRefIdeal.nD → PrngReg), Pre_OutOddIdeal m →
    (∀ c : Dev Cert.OutOddIdeal.nD,
      m' ((c.tc : Thread Cert.OutOddRefIdeal.nD Cert.OutOddRefIdeal.τ).loc Cert.OutOddRefIdeal.main_arg0) = m ((c.tc : Thread Cert.OutOddIdeal.nD Cert.OutOddIdeal.τ).loc Cert.OutOddIdeal.main_arg0)
      ∧ m' ((c.tc : Thread Cert.OutOddRefIdeal.nD Cert.OutOddRefIdeal.τ).loc Cert.OutOddRefIdeal.main_arg1) = m ((c.tc : Thread Cert.OutOddIdeal.nD Cert.OutOddIdeal.τ).loc Cert.OutOddIdeal.main_arg1)
      ∧ m' ((c.tc : Thread Cert.OutOddRefIdeal.nD Cert.OutOddRefIdeal.τ).loc Cert.OutOddRefIdeal.main_arg2) = m ((c.tc : Thread Cert.OutOddIdeal.nD Cert.OutOddIdeal.τ).loc Cert.OutOddIdeal.main_arg2)
      ∧ m' ((c.tc : Thread Cert.OutOddRefIdeal.nD Cert.OutOddRefIdeal.τ).loc Cert.OutOddRefIdeal.main_arg3) = m ((c.tc : Thread Cert.OutOddIdeal.nD Cert.OutOddIdeal.τ).loc Cert.OutOddIdeal.main_arg3)
      ∧ m' ((c.tc : Thread Cert.OutOddRefIdeal.nD Cert.OutOddRefIdeal.τ).loc Cert.OutOddRefIdeal.main_arg4) = m ((c.tc : Thread Cert.OutOddIdeal.nD Cert.OutOddIdeal.τ).loc Cert.OutOddIdeal.main_arg4)) →
    ∃ (v0 : (c : Dev Cert.OutOddIdeal.nD) → Buf (Elt Ideal) ((c.tc : Thread Cert.OutOddIdeal.nD Cert.OutOddIdeal.τ).loc Cert.OutOddIdeal.main_v17)),
      θ_run (Cert.OutOddIdeal.defs (F := Ideal)) (onTc (τ := Cert.OutOddIdeal.τ) (Cert.OutOddIdeal.main (F := Ideal))) ⟨m, fun _ => 0, g⟩ (fun r => ∀ c : Dev Cert.OutOddIdeal.nD,
          r.2.mem ((c.tc : Thread Cert.OutOddIdeal.nD Cert.OutOddIdeal.τ).loc Cert.OutOddIdeal.main_v17) = v0 c
          ∧ r.2.mem ((c.tc : Thread Cert.OutOddIdeal.nD Cert.OutOddIdeal.τ).loc Cert.OutOddIdeal.main_arg0) = m ((c.tc : Thread Cert.OutOddIdeal.nD Cert.OutOddIdeal.τ).loc Cert.OutOddIdeal.main_arg0)
          ∧ r.2.mem ((c.tc : Thread Cert.OutOddIdeal.nD Cert.OutOddIdeal.τ).loc Cert.OutOddIdeal.main_arg1) = m ((c.tc : Thread Cert.OutOddIdeal.nD Cert.OutOddIdeal.τ).loc Cert.OutOddIdeal.main_arg1)
          ∧ r.2.mem ((c.tc : Thread Cert.OutOddIdeal.nD Cert.OutOddIdeal.τ).loc Cert.OutOddIdeal.main_arg2) = m ((c.tc : Thread Cert.OutOddIdeal.nD Cert.OutOddIdeal.τ).loc Cert.OutOddIdeal.main_arg2)
          ∧ r.2.mem ((c.tc : Thread Cert.OutOddIdeal.nD Cert.OutOddIdeal.τ).loc Cert.OutOddIdeal.main_arg3) = m ((c.tc : Thread Cert.OutOddIdeal.nD Cert.OutOddIdeal.τ).loc Cert.OutOddIdeal.main_arg3)
          ∧ r.2.mem ((c.tc : Thread Cert.OutOddIdeal.nD Cert.OutOddIdeal.τ).loc Cert.OutOddIdeal.main_arg4) = m ((c.tc : Thread Cert.OutOddIdeal.nD Cert.OutOddIdeal.τ).loc Cert.OutOddIdeal.main_arg4))
      ∧ θ_run (Cert.OutOddRefIdeal.defs (F := Ideal)) (onTc (τ := Cert.OutOddRefIdeal.τ) (Cert.OutOddRefIdeal.main (F := Ideal))) ⟨m', fun _ => 0, g'⟩ (fun r => ∀ c : Dev Cert.OutOddRefIdeal.nD,
          r.2.mem ((c.tc : Thread Cert.OutOddRefIdeal.nD Cert.OutOddRefIdeal.τ).loc Cert.OutOddRefIdeal.main_v15) = v0 c
          ∧ r.2.mem ((c.tc : Thread Cert.OutOddRefIdeal.nD Cert.OutOddRefIdeal.τ).loc Cert.OutOddRefIdeal.main_arg0) = m' ((c.tc : Thread Cert.OutOddRefIdeal.nD Cert.OutOddRefIdeal.τ).loc Cert.OutOddRefIdeal.main_arg0)
          ∧ r.2.mem ((c.tc : Thread Cert.OutOddRefIdeal.nD Cert.OutOddRefIdeal.τ).loc Cert.OutOddRefIdeal.main_arg1) = m' ((c.tc : Thread Cert.OutOddRefIdeal.nD Cert.OutOddRefIdeal.τ).loc Cert.OutOddRefIdeal.main_arg1)
          ∧ r.2.mem ((c.tc : Thread Cert.OutOddRefIdeal.nD Cert.OutOddRefIdeal.τ).loc Cert.OutOddRefIdeal.main_arg2) = m' ((c.tc : Thread Cert.OutOddRefIdeal.nD Cert.OutOddRefIdeal.τ).loc Cert.OutOddRefIdeal.main_arg2)
          ∧ r.2.mem ((c.tc : Thread Cert.OutOddRefIdeal.nD Cert.OutOddRefIdeal.τ).loc Cert.OutOddRefIdeal.main_arg3) = m' ((c.tc : Thread Cert.OutOddRefIdeal.nD Cert.OutOddRefIdeal.τ).loc Cert.OutOddRefIdeal.main_arg3)
          ∧ r.2.mem ((c.tc : Thread Cert.OutOddRefIdeal.nD Cert.OutOddRefIdeal.τ).loc Cert.OutOddRefIdeal.main_arg4) = m' ((c.tc : Thread Cert.OutOddRefIdeal.nD Cert.OutOddRefIdeal.τ).loc Cert.OutOddRefIdeal.main_arg4))

def preserves_ProjEven_ProjEvenIdeal : Prop :=
  True

def algebraic_ProjEvenIdeal_ProjEvenRefIdeal [hProjEvenIdeal : Cert.ProjEvenIdeal.Facts] [hProjEvenRefIdeal : Cert.ProjEvenRefIdeal.Facts] : Prop :=
  ∀ (m : (ℓ : Loc Cert.ProjEvenIdeal.nD Cert.ProjEvenIdeal.τ Cert.ProjEvenIdeal.sig) → Buf (Elt Ideal) ℓ) (g : Dev Cert.ProjEvenIdeal.nD → PrngReg)
    (m' : (ℓ : Loc Cert.ProjEvenRefIdeal.nD Cert.ProjEvenRefIdeal.τ Cert.ProjEvenRefIdeal.sig) → Buf (Elt Ideal) ℓ) (g' : Dev Cert.ProjEvenRefIdeal.nD → PrngReg), Pre_ProjEvenIdeal m →
    (∀ c : Dev Cert.ProjEvenIdeal.nD,
      m' ((c.tc : Thread Cert.ProjEvenRefIdeal.nD Cert.ProjEvenRefIdeal.τ).loc Cert.ProjEvenRefIdeal.main_arg0) = m ((c.tc : Thread Cert.ProjEvenIdeal.nD Cert.ProjEvenIdeal.τ).loc Cert.ProjEvenIdeal.main_arg0)
      ∧ m' ((c.tc : Thread Cert.ProjEvenRefIdeal.nD Cert.ProjEvenRefIdeal.τ).loc Cert.ProjEvenRefIdeal.main_arg1) = m ((c.tc : Thread Cert.ProjEvenIdeal.nD Cert.ProjEvenIdeal.τ).loc Cert.ProjEvenIdeal.main_arg1)
      ∧ m' ((c.tc : Thread Cert.ProjEvenRefIdeal.nD Cert.ProjEvenRefIdeal.τ).loc Cert.ProjEvenRefIdeal.main_arg2) = m ((c.tc : Thread Cert.ProjEvenIdeal.nD Cert.ProjEvenIdeal.τ).loc Cert.ProjEvenIdeal.main_arg2)
      ∧ m' ((c.tc : Thread Cert.ProjEvenRefIdeal.nD Cert.ProjEvenRefIdeal.τ).loc Cert.ProjEvenRefIdeal.main_arg3) = m ((c.tc : Thread Cert.ProjEvenIdeal.nD Cert.ProjEvenIdeal.τ).loc Cert.ProjEvenIdeal.main_arg3)
      ∧ m' ((c.tc : Thread Cert.ProjEvenRefIdeal.nD Cert.ProjEvenRefIdeal.τ).loc Cert.ProjEvenRefIdeal.main_arg4) = m ((c.tc : Thread Cert.ProjEvenIdeal.nD Cert.ProjEvenIdeal.τ).loc Cert.ProjEvenIdeal.main_arg4)) →
    ∃ (v0 : (c : Dev Cert.ProjEvenIdeal.nD) → Buf (Elt Ideal) ((c.tc : Thread Cert.ProjEvenIdeal.nD Cert.ProjEvenIdeal.τ).loc Cert.ProjEvenIdeal.main_v46_0)) (v1 : (c : Dev Cert.ProjEvenIdeal.nD) → Buf (Elt Ideal) ((c.tc : Thread Cert.ProjEvenIdeal.nD Cert.ProjEvenIdeal.τ).loc Cert.ProjEvenIdeal.main_v46_1)),
      θ_run (Cert.ProjEvenIdeal.defs (F := Ideal)) (onTc (τ := Cert.ProjEvenIdeal.τ) (Cert.ProjEvenIdeal.main (F := Ideal))) ⟨m, fun _ => 0, g⟩ (fun r => ∀ c : Dev Cert.ProjEvenIdeal.nD,
          r.2.mem ((c.tc : Thread Cert.ProjEvenIdeal.nD Cert.ProjEvenIdeal.τ).loc Cert.ProjEvenIdeal.main_v46_0) = v0 c
          ∧ r.2.mem ((c.tc : Thread Cert.ProjEvenIdeal.nD Cert.ProjEvenIdeal.τ).loc Cert.ProjEvenIdeal.main_v46_1) = v1 c
          ∧ r.2.mem ((c.tc : Thread Cert.ProjEvenIdeal.nD Cert.ProjEvenIdeal.τ).loc Cert.ProjEvenIdeal.main_arg0) = m ((c.tc : Thread Cert.ProjEvenIdeal.nD Cert.ProjEvenIdeal.τ).loc Cert.ProjEvenIdeal.main_arg0)
          ∧ r.2.mem ((c.tc : Thread Cert.ProjEvenIdeal.nD Cert.ProjEvenIdeal.τ).loc Cert.ProjEvenIdeal.main_arg1) = m ((c.tc : Thread Cert.ProjEvenIdeal.nD Cert.ProjEvenIdeal.τ).loc Cert.ProjEvenIdeal.main_arg1)
          ∧ r.2.mem ((c.tc : Thread Cert.ProjEvenIdeal.nD Cert.ProjEvenIdeal.τ).loc Cert.ProjEvenIdeal.main_arg2) = m ((c.tc : Thread Cert.ProjEvenIdeal.nD Cert.ProjEvenIdeal.τ).loc Cert.ProjEvenIdeal.main_arg2)
          ∧ r.2.mem ((c.tc : Thread Cert.ProjEvenIdeal.nD Cert.ProjEvenIdeal.τ).loc Cert.ProjEvenIdeal.main_arg3) = m ((c.tc : Thread Cert.ProjEvenIdeal.nD Cert.ProjEvenIdeal.τ).loc Cert.ProjEvenIdeal.main_arg3)
          ∧ r.2.mem ((c.tc : Thread Cert.ProjEvenIdeal.nD Cert.ProjEvenIdeal.τ).loc Cert.ProjEvenIdeal.main_arg4) = m ((c.tc : Thread Cert.ProjEvenIdeal.nD Cert.ProjEvenIdeal.τ).loc Cert.ProjEvenIdeal.main_arg4))
      ∧ θ_run (Cert.ProjEvenRefIdeal.defs (F := Ideal)) (onTc (τ := Cert.ProjEvenRefIdeal.τ) (Cert.ProjEvenRefIdeal.main (F := Ideal))) ⟨m', fun _ => 0, g'⟩ (fun r => ∀ c : Dev Cert.ProjEvenRefIdeal.nD,
          r.2.mem ((c.tc : Thread Cert.ProjEvenRefIdeal.nD Cert.ProjEvenRefIdeal.τ).loc Cert.ProjEvenRefIdeal.main_v122) = v0 c
          ∧ r.2.mem ((c.tc : Thread Cert.ProjEvenRefIdeal.nD Cert.ProjEvenRefIdeal.τ).loc Cert.ProjEvenRefIdeal.main_v125) = v1 c
          ∧ r.2.mem ((c.tc : Thread Cert.ProjEvenRefIdeal.nD Cert.ProjEvenRefIdeal.τ).loc Cert.ProjEvenRefIdeal.main_arg0) = m' ((c.tc : Thread Cert.ProjEvenRefIdeal.nD Cert.ProjEvenRefIdeal.τ).loc Cert.ProjEvenRefIdeal.main_arg0)
          ∧ r.2.mem ((c.tc : Thread Cert.ProjEvenRefIdeal.nD Cert.ProjEvenRefIdeal.τ).loc Cert.ProjEvenRefIdeal.main_arg1) = m' ((c.tc : Thread Cert.ProjEvenRefIdeal.nD Cert.ProjEvenRefIdeal.τ).loc Cert.ProjEvenRefIdeal.main_arg1)
          ∧ r.2.mem ((c.tc : Thread Cert.ProjEvenRefIdeal.nD Cert.ProjEvenRefIdeal.τ).loc Cert.ProjEvenRefIdeal.main_arg2) = m' ((c.tc : Thread Cert.ProjEvenRefIdeal.nD Cert.ProjEvenRefIdeal.τ).loc Cert.ProjEvenRefIdeal.main_arg2)
          ∧ r.2.mem ((c.tc : Thread Cert.ProjEvenRefIdeal.nD Cert.ProjEvenRefIdeal.τ).loc Cert.ProjEvenRefIdeal.main_arg3) = m' ((c.tc : Thread Cert.ProjEvenRefIdeal.nD Cert.ProjEvenRefIdeal.τ).loc Cert.ProjEvenRefIdeal.main_arg3)
          ∧ r.2.mem ((c.tc : Thread Cert.ProjEvenRefIdeal.nD Cert.ProjEvenRefIdeal.τ).loc Cert.ProjEvenRefIdeal.main_arg4) = m' ((c.tc : Thread Cert.ProjEvenRefIdeal.nD Cert.ProjEvenRefIdeal.τ).loc Cert.ProjEvenRefIdeal.main_arg4))

def preserves_ProjOdd_ProjOddIdeal : Prop :=
  True

def algebraic_ProjOddIdeal_ProjOddRefIdeal [hProjOddIdeal : Cert.ProjOddIdeal.Facts] [hProjOddRefIdeal : Cert.ProjOddRefIdeal.Facts] : Prop :=
  ∀ (m : (ℓ : Loc Cert.ProjOddIdeal.nD Cert.ProjOddIdeal.τ Cert.ProjOddIdeal.sig) → Buf (Elt Ideal) ℓ) (g : Dev Cert.ProjOddIdeal.nD → PrngReg)
    (m' : (ℓ : Loc Cert.ProjOddRefIdeal.nD Cert.ProjOddRefIdeal.τ Cert.ProjOddRefIdeal.sig) → Buf (Elt Ideal) ℓ) (g' : Dev Cert.ProjOddRefIdeal.nD → PrngReg), Pre_ProjOddIdeal m →
    (∀ c : Dev Cert.ProjOddIdeal.nD,
      m' ((c.tc : Thread Cert.ProjOddRefIdeal.nD Cert.ProjOddRefIdeal.τ).loc Cert.ProjOddRefIdeal.main_arg0) = m ((c.tc : Thread Cert.ProjOddIdeal.nD Cert.ProjOddIdeal.τ).loc Cert.ProjOddIdeal.main_arg0)
      ∧ m' ((c.tc : Thread Cert.ProjOddRefIdeal.nD Cert.ProjOddRefIdeal.τ).loc Cert.ProjOddRefIdeal.main_arg1) = m ((c.tc : Thread Cert.ProjOddIdeal.nD Cert.ProjOddIdeal.τ).loc Cert.ProjOddIdeal.main_arg1)
      ∧ m' ((c.tc : Thread Cert.ProjOddRefIdeal.nD Cert.ProjOddRefIdeal.τ).loc Cert.ProjOddRefIdeal.main_arg2) = m ((c.tc : Thread Cert.ProjOddIdeal.nD Cert.ProjOddIdeal.τ).loc Cert.ProjOddIdeal.main_arg2)
      ∧ m' ((c.tc : Thread Cert.ProjOddRefIdeal.nD Cert.ProjOddRefIdeal.τ).loc Cert.ProjOddRefIdeal.main_arg3) = m ((c.tc : Thread Cert.ProjOddIdeal.nD Cert.ProjOddIdeal.τ).loc Cert.ProjOddIdeal.main_arg3)
      ∧ m' ((c.tc : Thread Cert.ProjOddRefIdeal.nD Cert.ProjOddRefIdeal.τ).loc Cert.ProjOddRefIdeal.main_arg4) = m ((c.tc : Thread Cert.ProjOddIdeal.nD Cert.ProjOddIdeal.τ).loc Cert.ProjOddIdeal.main_arg4)
      ∧ m' ((c.tc : Thread Cert.ProjOddRefIdeal.nD Cert.ProjOddRefIdeal.τ).loc Cert.ProjOddRefIdeal.main_arg5) = m ((c.tc : Thread Cert.ProjOddIdeal.nD Cert.ProjOddIdeal.τ).loc Cert.ProjOddIdeal.main_arg5)) →
    ∃ (v0 : (c : Dev Cert.ProjOddIdeal.nD) → Buf (Elt Ideal) ((c.tc : Thread Cert.ProjOddIdeal.nD Cert.ProjOddIdeal.τ).loc Cert.ProjOddIdeal.main_v55_0)) (v1 : (c : Dev Cert.ProjOddIdeal.nD) → Buf (Elt Ideal) ((c.tc : Thread Cert.ProjOddIdeal.nD Cert.ProjOddIdeal.τ).loc Cert.ProjOddIdeal.main_v55_1)),
      θ_run (Cert.ProjOddIdeal.defs (F := Ideal)) (onTc (τ := Cert.ProjOddIdeal.τ) (Cert.ProjOddIdeal.main (F := Ideal))) ⟨m, fun _ => 0, g⟩ (fun r => ∀ c : Dev Cert.ProjOddIdeal.nD,
          r.2.mem ((c.tc : Thread Cert.ProjOddIdeal.nD Cert.ProjOddIdeal.τ).loc Cert.ProjOddIdeal.main_v55_0) = v0 c
          ∧ r.2.mem ((c.tc : Thread Cert.ProjOddIdeal.nD Cert.ProjOddIdeal.τ).loc Cert.ProjOddIdeal.main_v55_1) = v1 c
          ∧ r.2.mem ((c.tc : Thread Cert.ProjOddIdeal.nD Cert.ProjOddIdeal.τ).loc Cert.ProjOddIdeal.main_arg0) = m ((c.tc : Thread Cert.ProjOddIdeal.nD Cert.ProjOddIdeal.τ).loc Cert.ProjOddIdeal.main_arg0)
          ∧ r.2.mem ((c.tc : Thread Cert.ProjOddIdeal.nD Cert.ProjOddIdeal.τ).loc Cert.ProjOddIdeal.main_arg1) = m ((c.tc : Thread Cert.ProjOddIdeal.nD Cert.ProjOddIdeal.τ).loc Cert.ProjOddIdeal.main_arg1)
          ∧ r.2.mem ((c.tc : Thread Cert.ProjOddIdeal.nD Cert.ProjOddIdeal.τ).loc Cert.ProjOddIdeal.main_arg2) = m ((c.tc : Thread Cert.ProjOddIdeal.nD Cert.ProjOddIdeal.τ).loc Cert.ProjOddIdeal.main_arg2)
          ∧ r.2.mem ((c.tc : Thread Cert.ProjOddIdeal.nD Cert.ProjOddIdeal.τ).loc Cert.ProjOddIdeal.main_arg3) = m ((c.tc : Thread Cert.ProjOddIdeal.nD Cert.ProjOddIdeal.τ).loc Cert.ProjOddIdeal.main_arg3)
          ∧ r.2.mem ((c.tc : Thread Cert.ProjOddIdeal.nD Cert.ProjOddIdeal.τ).loc Cert.ProjOddIdeal.main_arg4) = m ((c.tc : Thread Cert.ProjOddIdeal.nD Cert.ProjOddIdeal.τ).loc Cert.ProjOddIdeal.main_arg4)
          ∧ r.2.mem ((c.tc : Thread Cert.ProjOddIdeal.nD Cert.ProjOddIdeal.τ).loc Cert.ProjOddIdeal.main_arg5) = m ((c.tc : Thread Cert.ProjOddIdeal.nD Cert.ProjOddIdeal.τ).loc Cert.ProjOddIdeal.main_arg5))
      ∧ θ_run (Cert.ProjOddRefIdeal.defs (F := Ideal)) (onTc (τ := Cert.ProjOddRefIdeal.τ) (Cert.ProjOddRefIdeal.main (F := Ideal))) ⟨m', fun _ => 0, g'⟩ (fun r => ∀ c : Dev Cert.ProjOddRefIdeal.nD,
          r.2.mem ((c.tc : Thread Cert.ProjOddRefIdeal.nD Cert.ProjOddRefIdeal.τ).loc Cert.ProjOddRefIdeal.main_v79) = v0 c
          ∧ r.2.mem ((c.tc : Thread Cert.ProjOddRefIdeal.nD Cert.ProjOddRefIdeal.τ).loc Cert.ProjOddRefIdeal.main_v82) = v1 c
          ∧ r.2.mem ((c.tc : Thread Cert.ProjOddRefIdeal.nD Cert.ProjOddRefIdeal.τ).loc Cert.ProjOddRefIdeal.main_arg0) = m' ((c.tc : Thread Cert.ProjOddRefIdeal.nD Cert.ProjOddRefIdeal.τ).loc Cert.ProjOddRefIdeal.main_arg0)
          ∧ r.2.mem ((c.tc : Thread Cert.ProjOddRefIdeal.nD Cert.ProjOddRefIdeal.τ).loc Cert.ProjOddRefIdeal.main_arg1) = m' ((c.tc : Thread Cert.ProjOddRefIdeal.nD Cert.ProjOddRefIdeal.τ).loc Cert.ProjOddRefIdeal.main_arg1)
          ∧ r.2.mem ((c.tc : Thread Cert.ProjOddRefIdeal.nD Cert.ProjOddRefIdeal.τ).loc Cert.ProjOddRefIdeal.main_arg2) = m' ((c.tc : Thread Cert.ProjOddRefIdeal.nD Cert.ProjOddRefIdeal.τ).loc Cert.ProjOddRefIdeal.main_arg2)
          ∧ r.2.mem ((c.tc : Thread Cert.ProjOddRefIdeal.nD Cert.ProjOddRefIdeal.τ).loc Cert.ProjOddRefIdeal.main_arg3) = m' ((c.tc : Thread Cert.ProjOddRefIdeal.nD Cert.ProjOddRefIdeal.τ).loc Cert.ProjOddRefIdeal.main_arg3)
          ∧ r.2.mem ((c.tc : Thread Cert.ProjOddRefIdeal.nD Cert.ProjOddRefIdeal.τ).loc Cert.ProjOddRefIdeal.main_arg4) = m' ((c.tc : Thread Cert.ProjOddRefIdeal.nD Cert.ProjOddRefIdeal.τ).loc Cert.ProjOddRefIdeal.main_arg4)
          ∧ r.2.mem ((c.tc : Thread Cert.ProjOddRefIdeal.nD Cert.ProjOddRefIdeal.τ).loc Cert.ProjOddRefIdeal.main_arg5) = m' ((c.tc : Thread Cert.ProjOddRefIdeal.nD Cert.ProjOddRefIdeal.τ).loc Cert.ProjOddRefIdeal.main_arg5))

def Claim : Prop :=
  ∃ (hSwa : Cert.Swa.Facts) (hSwaIdeal : Cert.SwaIdeal.Facts) (hSwaRefIdeal : Cert.SwaRefIdeal.Facts) (hFfn : Cert.Ffn.Facts) (hFfnIdeal : Cert.FfnIdeal.Facts) (hFfnRefIdeal : Cert.FfnRefIdeal.Facts) (hMid : Cert.Mid.Facts) (hMidIdeal : Cert.MidIdeal.Facts) (hMidRefIdeal : Cert.MidRefIdeal.Facts) (hOutEven : Cert.OutEven.Facts) (hOutEvenIdeal : Cert.OutEvenIdeal.Facts) (hOutEvenRefIdeal : Cert.OutEvenRefIdeal.Facts) (hOutOdd : Cert.OutOdd.Facts) (hOutOddIdeal : Cert.OutOddIdeal.Facts) (hOutOddRefIdeal : Cert.OutOddRefIdeal.Facts) (hProjEven : Cert.ProjEven.Facts) (hProjEvenIdeal : Cert.ProjEvenIdeal.Facts) (hProjEvenRefIdeal : Cert.ProjEvenRefIdeal.Facts) (hProjOdd : Cert.ProjOdd.Facts) (hProjOddIdeal : Cert.ProjOddIdeal.Facts) (hProjOddRefIdeal : Cert.ProjOddRefIdeal.Facts) (hPre_finite : Cert.Pre_finite.Facts),
    quiescent_Swa (hSwa := hSwa)
    ∧ quiescent_SwaIdeal (hSwaIdeal := hSwaIdeal)
    ∧ quiescent_SwaIdeal_pre_finite (hSwaIdeal := hSwaIdeal) (hPre_finite := hPre_finite)
    ∧ quiescent_SwaRefIdeal (hSwaRefIdeal := hSwaRefIdeal)
    ∧ quiescent_SwaRefIdeal_pre_finite (hSwaRefIdeal := hSwaRefIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Mid (hMid := hMid)
    ∧ quiescent_MidIdeal (hMidIdeal := hMidIdeal)
    ∧ quiescent_MidRefIdeal (hMidRefIdeal := hMidRefIdeal)
    ∧ quiescent_OutEven (hOutEven := hOutEven)
    ∧ quiescent_OutEvenIdeal (hOutEvenIdeal := hOutEvenIdeal)
    ∧ quiescent_OutEvenRefIdeal (hOutEvenRefIdeal := hOutEvenRefIdeal)
    ∧ quiescent_OutOdd (hOutOdd := hOutOdd)
    ∧ quiescent_OutOddIdeal (hOutOddIdeal := hOutOddIdeal)
    ∧ quiescent_OutOddRefIdeal (hOutOddRefIdeal := hOutOddRefIdeal)
    ∧ quiescent_ProjEven (hProjEven := hProjEven)
    ∧ quiescent_ProjEvenIdeal (hProjEvenIdeal := hProjEvenIdeal)
    ∧ quiescent_ProjEvenRefIdeal (hProjEvenRefIdeal := hProjEvenRefIdeal)
    ∧ quiescent_ProjOdd (hProjOdd := hProjOdd)
    ∧ quiescent_ProjOddIdeal (hProjOddIdeal := hProjOddIdeal)
    ∧ quiescent_ProjOddRefIdeal (hProjOddRefIdeal := hProjOddRefIdeal)
    ∧ preserves_Swa_SwaIdeal
    ∧ algebraic_SwaIdeal_SwaRefIdeal_pre_finite (hSwaIdeal := hSwaIdeal) (hSwaRefIdeal := hSwaRefIdeal) (hPre_finite := hPre_finite)
    ∧ preserves_Ffn_FfnIdeal
    ∧ algebraic_FfnIdeal_FfnRefIdeal (hFfnIdeal := hFfnIdeal) (hFfnRefIdeal := hFfnRefIdeal)
    ∧ preserves_Mid_MidIdeal
    ∧ algebraic_MidIdeal_MidRefIdeal (hMidIdeal := hMidIdeal) (hMidRefIdeal := hMidRefIdeal)
    ∧ preserves_OutEven_OutEvenIdeal
    ∧ algebraic_OutEvenIdeal_OutEvenRefIdeal (hOutEvenIdeal := hOutEvenIdeal) (hOutEvenRefIdeal := hOutEvenRefIdeal)
    ∧ preserves_OutOdd_OutOddIdeal
    ∧ algebraic_OutOddIdeal_OutOddRefIdeal (hOutOddIdeal := hOutOddIdeal) (hOutOddRefIdeal := hOutOddRefIdeal)
    ∧ preserves_ProjEven_ProjEvenIdeal
    ∧ algebraic_ProjEvenIdeal_ProjEvenRefIdeal (hProjEvenIdeal := hProjEvenIdeal) (hProjEvenRefIdeal := hProjEvenRefIdeal)
    ∧ preserves_ProjOdd_ProjOddIdeal
    ∧ algebraic_ProjOddIdeal_ProjOddRefIdeal (hProjOddIdeal := hProjOddIdeal) (hProjOddRefIdeal := hProjOddRefIdeal)
-- ==== Pre_finite.lean ====
abbrev S2x32x16384x64 : Shape := ⟨4, ![2, 32, 16384, 64]⟩
abbrev S2x4x16384x64 : Shape := ⟨4, ![2, 4, 16384, 64]⟩
abbrev S32 : Shape := ⟨1, ![32]⟩
abbrev S_ : Shape := ⟨0, ![]⟩

class Facts : Prop where
  bcast_S_S2x32x16384x64 : S_.BroadcastsInDim S2x32x16384x64 (![] : Fin 0 → Fin S2x32x16384x64.rank)
  reducesTo_S2x32x16384x64_S_d0_1_2_3 : S2x32x16384x64.ReducesTo [0, 1, 2, 3] S_
  h_S_ : 0 < S_.numel
  bcast_S_S2x4x16384x64 : S_.BroadcastsInDim S2x4x16384x64 (![] : Fin 0 → Fin S2x4x16384x64.rank)
  reducesTo_S2x4x16384x64_S_d0_1_2_3 : S2x4x16384x64.ReducesTo [0, 1, 2, 3] S_
  bcast_S_S32 : S_.BroadcastsInDim S32 (![] : Fin 0 → Fin S32.rank)
  reducesTo_S32_S_d0 : S32.ReducesTo [0] S_

variable [Facts]

def fn {F : FTy → Type} [FloatOps F] (main_arg0 : FVec F S2x32x16384x64 .f32) (main_arg1 : FVec F S2x4x16384x64 .f32) (main_arg2 : FVec F S2x4x16384x64 .f32) (main_arg3 : FVec F S32 .f32) : IVec S_ 1 × IVec S_ 1 × IVec S_ 1 :=
  let main_v0 : FVec F S2x32x16384x64 .f32 := Host.absf main_arg0
  let main_cst : FVec F S_ .f32 := constant S_ .f32 0x7F800000#32
  let main_v1 : FVec F S2x32x16384x64 .f32 := broadcastInDim S2x32x16384x64 ![] bcast_S_S2x32x16384x64 main_cst
  let main_v2 : IVec S2x32x16384x64 1 := cmpf .olt main_v0 main_v1
  let main_c : IVec S_ 1 := constantI S_ 1 1#1
  let main_v3 : IVec S_ 1 := (fun x v => Host.reduce IntOp.andi x v reducesTo_S2x32x16384x64_S_d0_1_2_3 h_S_) main_v2 main_c
  let main_v4 : FVec F S2x4x16384x64 .f32 := Host.absf main_arg1
  let main_cst_0 : FVec F S_ .f32 := constant S_ .f32 0x7F800000#32
  let main_v5 : FVec F S2x4x16384x64 .f32 := broadcastInDim S2x4x16384x64 ![] bcast_S_S2x4x16384x64 main_cst_0
  let main_v6 : IVec S2x4x16384x64 1 := cmpf .olt main_v4 main_v5
  let main_c_1 : IVec S_ 1 := constantI S_ 1 1#1
  let main_v7 : IVec S_ 1 := (fun x v => Host.reduce IntOp.andi x v reducesTo_S2x4x16384x64_S_d0_1_2_3 h_S_) main_v6 main_c_1
  let main_v8 : FVec F S32 .f32 := Host.absf main_arg3
  let main_cst_2 : FVec F S_ .f32 := constant S_ .f32 0x7F800000#32
  let main_v9 : FVec F S32 .f32 := broadcastInDim S32 ![] bcast_S_S32 main_cst_2
  let main_v10 : IVec S32 1 := cmpf .olt main_v8 main_v9
  let main_c_3 : IVec S_ 1 := constantI S_ 1 1#1
  let main_v11 : IVec S_ 1 := (fun x v => Host.reduce IntOp.andi x v reducesTo_S32_S_d0 h_S_) main_v10 main_c_3
  (main_v3, main_v7, main_v11)
-- ==== Swa.lean ====
abbrev S2x32x16384x64 : Shape := ⟨4, ![2, 32, 16384, 64]⟩
abbrev S2x4x16384x64 : Shape := ⟨4, ![2, 4, 16384, 64]⟩
abbrev S32 : Shape := ⟨1, ![32]⟩
abbrev S2x16384x32x64 : Shape := ⟨4, ![2, 16384, 32, 64]⟩
abbrev S2x16384x2048 : Shape := ⟨3, ![2, 16384, 2048]⟩
abbrev S_ : Shape := ⟨0, ![]⟩
abbrev S2x16384x4x64 : Shape := ⟨4, ![2, 16384, 4, 64]⟩
abbrev S2x16384x256 : Shape := ⟨3, ![2, 16384, 256]⟩
abbrev S2x16384x4x1x64 : Shape := ⟨5, ![2, 16384, 4, 1, 64]⟩
abbrev S2x16384x4x2x64 : Shape := ⟨5, ![2, 16384, 4, 2, 64]⟩
abbrev S2x16384x512 : Shape := ⟨3, ![2, 16384, 512]⟩
abbrev S2x16384x2560 : Shape := ⟨3, ![2, 16384, 2560]⟩
abbrev S2x32x512x256 : Shape := ⟨4, ![2, 32, 512, 256]⟩
abbrev S2x32x256x512 : Shape := ⟨4, ![2, 32, 256, 512]⟩
abbrev S4x1x8 : Shape := ⟨3, ![4, 1, 8]⟩
abbrev S4x1x8x128 : Shape := ⟨4, ![4, 1, 8, 128]⟩
abbrev S4x1x1024 : Shape := ⟨3, ![4, 1, 1024]⟩
abbrev S1x128x2048 : Shape := ⟨3, ![1, 128, 2048]⟩
abbrev S1x128x512 : Shape := ⟨3, ![1, 128, 512]⟩
abbrev S1x1x256x128 : Shape := ⟨4, ![1, 1, 256, 128]⟩
abbrev S128x128 : Shape := ⟨2, ![128, 128]⟩
abbrev S256x1024 : Shape := ⟨2, ![256, 1024]⟩
abbrev S16x256 : Shape := ⟨2, ![16, 256]⟩
abbrev S1x128x128 : Shape := ⟨3, ![1, 128, 128]⟩
abbrev S256x128 : Shape := ⟨2, ![256, 128]⟩
abbrev S1024x128 : Shape := ⟨2, ![1024, 128]⟩
abbrev S1x1x1024 : Shape := ⟨3, ![1, 1, 1024]⟩
abbrev S1x1024 : Shape := ⟨2, ![1, 1024]⟩
abbrev S64x1024 : Shape := ⟨2, ![64, 1024]⟩
abbrev S1024 : Shape := ⟨1, ![1024]⟩
abbrev S1x1x64x128 : Shape := ⟨4, ![1, 1, 64, 128]⟩
abbrev S64x128 : Shape := ⟨2, ![64, 128]⟩
abbrev S64x256 : Shape := ⟨2, ![64, 256]⟩
abbrev S80x256 : Shape := ⟨2, ![80, 256]⟩
abbrev S80x1024 : Shape := ⟨2, ![80, 1024]⟩
abbrev S512x128 : Shape := ⟨2, ![512, 128]⟩
abbrev S128x512 : Shape := ⟨2, ![128, 512]⟩

abbrev nBuf : Space → Nat
  | .hbm => 28
  | .vmem => 13
  | .smem => 0
  | _ => 0

abbrev bufTy : (tb : Table) → Fin (tcTables nBuf tb) → BufTy
  | .hbm, ⟨0, _⟩ => ⟨S2x32x16384x64, .f32⟩
  | .hbm, ⟨1, _⟩ => ⟨S2x4x16384x64, .f32⟩
  | .hbm, ⟨2, _⟩ => ⟨S2x4x16384x64, .f32⟩
  | .hbm, ⟨3, _⟩ => ⟨S32, .f32⟩
  | .hbm, ⟨4, _⟩ => ⟨S2x16384x32x64, .f32⟩
  | .hbm, ⟨5, _⟩ => ⟨S2x16384x2048, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S2x16384x2048, .f32⟩
  | .hbm, ⟨11, _⟩ => ⟨S2x16384x2048, .f32⟩
  | .hbm, ⟨12, _⟩ => ⟨S2x16384x4x64, .f32⟩
  | .hbm, ⟨13, _⟩ => ⟨S2x16384x256, .f32⟩
  | .hbm, ⟨14, _⟩ => ⟨S2x16384x4x1x64, .f32⟩
  | .hbm, ⟨15, _⟩ => ⟨S2x16384x4x2x64, .f32⟩
  | .hbm, ⟨16, _⟩ => ⟨S2x16384x512, .f32⟩
  | .hbm, ⟨17, _⟩ => ⟨S2x16384x2560, .f32⟩
  | .hbm, ⟨18, _⟩ => ⟨S2x16384x2560, .bf16⟩
  | .hbm, ⟨19, _⟩ => ⟨S2x16384x4x64, .f32⟩
  | .hbm, ⟨20, _⟩ => ⟨S2x16384x256, .f32⟩
  | .hbm, ⟨21, _⟩ => ⟨S2x32x512x256, .f32⟩
  | .hbm, ⟨22, _⟩ => ⟨S2x32x256x512, .f32⟩
  | .hbm, ⟨23, _⟩ => ⟨S2x32x256x512, .bf16⟩
  | .hbm, ⟨24, _⟩ => ⟨S4x1x8, .f32⟩
  | .hbm, ⟨25, _⟩ => ⟨S4x1x8x128, .f32⟩
  | .hbm, ⟨26, _⟩ => ⟨S4x1x1024, .f32⟩
  | .hbm, ⟨27, _⟩ => ⟨S2x16384x2048, .bf16⟩
  | .local _ .vmem, ⟨0, _⟩ => ⟨S1x128x2048, .bf16⟩
  | .local _ .vmem, ⟨1, _⟩ => ⟨S1x128x2048, .bf16⟩
  | .local _ .vmem, ⟨2, _⟩ => ⟨S1x128x512, .bf16⟩
  | .local _ .vmem, ⟨3, _⟩ => ⟨S1x128x512, .bf16⟩
  | .local _ .vmem, ⟨4, _⟩ => ⟨S1x128x512, .bf16⟩
  | .local _ .vmem, ⟨5, _⟩ => ⟨S1x128x512, .bf16⟩
  | .local _ .vmem, ⟨6, _⟩ => ⟨S1x1x256x128, .bf16⟩
  | .local _ .vmem, ⟨7, _⟩ => ⟨S1x1x256x128, .bf16⟩
  | .local _ .vmem, ⟨8, _⟩ => ⟨S1x1x256x128, .bf16⟩
  | .local _ .vmem, ⟨9, _⟩ => ⟨S1x1x256x128, .bf16⟩
  | .local _ .vmem, ⟨10, _⟩ => ⟨S4x1x1024, .f32⟩
  | .local _ .vmem, ⟨11, _⟩ => ⟨S1x128x2048, .bf16⟩
  | .local _ .vmem, ⟨12, _⟩ => ⟨S1x128x2048, .bf16⟩
  | _, _ => ⟨S2x32x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 128], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg0.toNat, arg1.toNat, c4_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let c0_i32_0 : BitVec 32 := 0#32
  ![arg0.toNat, v1.toNat, c4_i32.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![arg0.toNat, v16.toNat, c0_i32_10.toNat, v26.toNat]

def cc0_transform_4 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c4_i32 : BitVec 32 := 4#32
  let v2 : BitVec 32 := Scalar.divsi v1 c4_i32
  let c0_i32_0 : BitVec 32 := 0#32
  let v3 : BitVec 1 := Scalar.cmpi .sgt v1 c0_i32_0
  let v4 : BitVec 32 := Scalar.extui v3
  let c0_i32_1 : BitVec 32 := 0#32
  let v5 : BitVec 1 := Scalar.cmpi .slt v1 c0_i32_1
  let v6 : BitVec 32 := Scalar.extui v5
  let v7 : BitVec 32 := Scalar.subi v4 v6
  let c0_i32_2 : BitVec 32 := 0#32
  let v8 : BitVec 1 := Scalar.cmpi .sgt c4_i32 c0_i32_2
  let v9 : BitVec 32 := Scalar.extui v8
  let c0_i32_3 : BitVec 32 := 0#32
  let v10 : BitVec 1 := Scalar.cmpi .slt c4_i32 c0_i32_3
  let v11 : BitVec 32 := Scalar.extui v10
  let v12 : BitVec 32 := Scalar.subi v9 v11
  let v13 : BitVec 1 := Scalar.cmpi .ne v7 v12
  let v14 : BitVec 32 := Scalar.remsi v1 c4_i32
  let c0_i32_4 : BitVec 32 := 0#32
  let v15 : BitVec 1 := Scalar.cmpi .ne v14 c0_i32_4
  let v16 : BitVec 1 := Scalar.andi v13 v15
  let c1_i32_5 : BitVec 32 := 1#32
  let v17 : BitVec 32 := Scalar.subi v2 c1_i32_5
  let v18 : BitVec 32 := Scalar.select v16 v17 v2
  let c1_i32_6 : BitVec 32 := 1#32
  let v19 : BitVec 32 := Scalar.subi arg1 c1_i32_6
  let c0_i32_7 : BitVec 32 := 0#32
  let v20 : BitVec 32 := Scalar.maxsi v19 c0_i32_7
  let c4_i32_8 : BitVec 32 := 4#32
  let c0_i32_9 : BitVec 32 := 0#32
  let v21 : BitVec 1 := Scalar.cmpi .eq c4_i32_8 c0_i32_9
  let c1_i32_10 : BitVec 32 := 1#32
  let v22 : BitVec 32 := Scalar.select v21 c1_i32_10 c4_i32_8
  let v23 : BitVec 32 := Scalar.remsi v20 v22
  let c0_i32_11 : BitVec 32 := 0#32
  let v24 : BitVec 1 := Scalar.cmpi .ne v23 c0_i32_11
  let c0_i32_12 : BitVec 32 := 0#32
  let v25 : BitVec 1 := Scalar.cmpi .slt v23 c0_i32_12
  let c0_i32_13 : BitVec 32 := 0#32
  let v26 : BitVec 1 := Scalar.cmpi .slt v22 c0_i32_13
  let v27 : BitVec 1 := Scalar.xori v25 v26
  let v28 : BitVec 1 := Scalar.andi v27 v24
  let v29 : BitVec 32 := Scalar.addi v23 v22
  let v30 : BitVec 32 := Scalar.select v28 v29 v23
  let c0_i32_14 : BitVec 32 := 0#32
  let c0_i32_15 : BitVec 32 := 0#32
  ![arg0.toNat, v18.toNat, c0_i32_14.toNat, v30.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SwaIdeal.lean ====
variable {F : FTy → Type} [FloatOps F] [Named F]
def κ : String → Option EReal := fun
  | "log2e" => some (((Real.log 2)⁻¹ : ℝ) : EReal)
  | "mask" => some ⊥
  | _ => none
-- ==== SwaRefIdeal.lean ====
abbrev S2x32x16384x64 : Shape := ⟨4, ![2, 32, 16384, 64]⟩
abbrev S2x4x16384x64 : Shape := ⟨4, ![2, 4, 16384, 64]⟩
abbrev S32 : Shape := ⟨1, ![32]⟩
abbrev S2x4x8x16384x64 : Shape := ⟨5, ![2, 4, 8, 16384, 64]⟩
abbrev S16384 : Shape := ⟨1, ![16384]⟩
abbrev S16384x1 : Shape := ⟨2, ![16384, 1]⟩
abbrev S1x16384 : Shape := ⟨2, ![1, 16384]⟩
abbrev S16384x16384 : Shape := ⟨2, ![16384, 16384]⟩
abbrev S_ : Shape := ⟨0, ![]⟩
abbrev S2x4x8x16384x16384 : Shape := ⟨5, ![2, 4, 8, 16384, 16384]⟩
abbrev S1x4x8x1x1 : Shape := ⟨5, ![1, 4, 8, 1, 1]⟩
abbrev S2x4x8x16384x1 : Shape := ⟨5, ![2, 4, 8, 16384, 1]⟩
abbrev S2x4x8x16384x16385 : Shape := ⟨5, ![2, 4, 8, 16384, 16385]⟩
abbrev S2x4x8x16384 : Shape := ⟨4, ![2, 4, 8, 16384]⟩
abbrev S2x16384x32x64 : Shape := ⟨4, ![2, 16384, 32, 64]⟩
abbrev S2x16384x2048 : Shape := ⟨3, ![2, 16384, 2048]⟩

abbrev nBuf : Space → Nat
  | .hbm => 50
  | .vmem => 0
  | .smem => 0
  | _ => 0

abbrev bufTy : (tb : Table) → Fin (tcTables nBuf tb) → BufTy
  | .hbm, ⟨0, _⟩ => ⟨S2x32x16384x64, .f32⟩
  | .hbm, ⟨1, _⟩ => ⟨S2x4x16384x64, .f32⟩
  | .hbm, ⟨2, _⟩ => ⟨S2x4x16384x64, .f32⟩
  | .hbm, ⟨3, _⟩ => ⟨S32, .f32⟩
  | .hbm, ⟨4, _⟩ => ⟨S2x4x8x16384x64, .f32⟩
  | .hbm, ⟨5, _⟩ => ⟨S16384, .i32⟩
  | .hbm, ⟨6, _⟩ => ⟨S16384x1, .i32⟩
  | .hbm, ⟨7, _⟩ => ⟨S1x16384, .i32⟩
  | .hbm, ⟨8, _⟩ => ⟨S16384x16384, .i32⟩
  | .hbm, ⟨9, _⟩ => ⟨S16384x16384, .i32⟩
  | .hbm, ⟨10, _⟩ => ⟨S16384x16384, .i32⟩
  | .hbm, ⟨11, _⟩ => ⟨S_, .i32⟩
  | .hbm, ⟨12, _⟩ => ⟨S16384x16384, .i32⟩
  | .hbm, ⟨13, _⟩ => ⟨S16384x16384, .i1⟩
  | .hbm, ⟨14, _⟩ => ⟨S_, .i32⟩
  | .hbm, ⟨15, _⟩ => ⟨S16384x16384, .i32⟩
  | .hbm, ⟨16, _⟩ => ⟨S16384x16384, .i1⟩
  | .hbm, ⟨17, _⟩ => ⟨S16384x16384, .i1⟩
  | .hbm, ⟨18, _⟩ => ⟨S2x4x8x16384x16384, .f32⟩
  | .hbm, ⟨19, _⟩ => ⟨S_, .f32⟩
  | .hbm, ⟨20, _⟩ => ⟨S2x4x8x16384x16384, .f32⟩
  | .hbm, ⟨21, _⟩ => ⟨S2x4x8x16384x16384, .f32⟩
  | .hbm, ⟨22, _⟩ => ⟨S_, .f32⟩
  | .hbm, ⟨23, _⟩ => ⟨S_, .f32⟩
  | .hbm, ⟨24, _⟩ => ⟨S2x4x8x16384x16384, .i1⟩
  | .hbm, ⟨25, _⟩ => ⟨S2x4x8x16384x16384, .f32⟩
  | .hbm, ⟨26, _⟩ => ⟨S2x4x8x16384x16384, .f32⟩
  | .hbm, ⟨27, _⟩ => ⟨S1x4x8x1x1, .f32⟩
  | .hbm, ⟨28, _⟩ => ⟨S2x4x8x16384x1, .f32⟩
  | .hbm, ⟨29, _⟩ => ⟨S2x4x8x16384x16385, .f32⟩
  | .hbm, ⟨30, _⟩ => ⟨S_, .f32⟩
  | .hbm, ⟨31, _⟩ => ⟨S2x4x8x16384, .f32⟩
  | .hbm, ⟨32, _⟩ => ⟨S_, .f32⟩
  | .hbm, ⟨33, _⟩ => ⟨S2x4x8x16384, .f32⟩
  | .hbm, ⟨34, _⟩ => ⟨S2x4x8x16384, .f32⟩
  | .hbm, ⟨35, _⟩ => ⟨S2x4x8x16384x1, .f32⟩
  | .hbm, ⟨36, _⟩ => ⟨S2x4x8x16384x16385, .f32⟩
  | .hbm, ⟨37, _⟩ => ⟨S2x4x8x16384x16385, .f32⟩
  | .hbm, ⟨38, _⟩ => ⟨S2x4x8x16384x16385, .f32⟩
  | .hbm, ⟨39, _⟩ => ⟨S_, .f32⟩
  | .hbm, ⟨40, _⟩ => ⟨S2x4x8x16384, .f32⟩
  | .hbm, ⟨41, _⟩ => ⟨S2x4x8x16384x1, .f32⟩
  | .hbm, ⟨42, _⟩ => ⟨S2x4x8x16384x16385, .f32⟩
  | .hbm, ⟨43, _⟩ => ⟨S2x4x8x16384x16385, .f32⟩
  | .hbm, ⟨44, _⟩ => ⟨S2x4x8x16384x16384, .f32⟩
  | .hbm, ⟨45, _⟩ => ⟨S2x4x8x16384x64, .f32⟩
  | .hbm, ⟨46, _⟩ => ⟨S2x32x16384x64, .f32⟩
  | .hbm, ⟨47, _⟩ => ⟨S2x16384x32x64, .f32⟩
  | .hbm, ⟨48, _⟩ => ⟨S2x16384x2048, .f32⟩
  | .hbm, ⟨49, _⟩ => ⟨S2x16384x2048, .bf16⟩
  | _, _ => ⟨S2x32x16384x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_c_0 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_cst_3 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== Ffn.lean ====
abbrev S2x16384x2048 : Shape := ⟨3, ![2, 16384, 2048]⟩
abbrev S2x12288 : Shape := ⟨2, ![2, 12288]⟩
abbrev S2048x11264 : Shape := ⟨2, ![2048, 11264]⟩
abbrev S5632x2048 : Shape := ⟨2, ![5632, 2048]⟩
abbrev S2048 : Shape := ⟨1, ![2048]⟩
abbrev S2x2048 : Shape := ⟨2, ![2, 2048]⟩
abbrev S2x1x2048 : Shape := ⟨3, ![2, 1, 2048]⟩
abbrev S1x2048 : Shape := ⟨2, ![1, 2048]⟩
abbrev S1x1024x2048 : Shape := ⟨3, ![1, 1024, 2048]⟩
abbrev S1x1x2048 : Shape := ⟨3, ![1, 1, 2048]⟩
abbrev S2048x512 : Shape := ⟨2, ![2048, 512]⟩
abbrev S512x2048 : Shape := ⟨2, ![512, 2048]⟩
abbrev S1024x2048 : Shape := ⟨2, ![1024, 2048]⟩
abbrev S1x512x2048 : Shape := ⟨3, ![1, 512, 2048]⟩
abbrev S512 : Shape := ⟨1, ![512]⟩
abbrev S512x1 : Shape := ⟨2, ![512, 1]⟩
abbrev S512x512 : Shape := ⟨2, ![512, 512]⟩

abbrev nBuf : Space → Nat
  | .hbm => 21
  | .vmem => 18
  | .smem => 0
  | _ => 0

abbrev bufTy : (tb : Table) → Fin (tcTables nBuf tb) → BufTy
  | .hbm, ⟨0, _⟩ => ⟨S2x16384x2048, .f32⟩
  | .hbm, ⟨1, _⟩ => ⟨S2x12288, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S2x2048, .f32⟩
  | .hbm, ⟨6, _⟩ => ⟨S2x1x2048, .f32⟩
  | .hbm, ⟨7, _⟩ => ⟨S2x2048, .f32⟩
  | .hbm, ⟨8, _⟩ => ⟨S2x1x2048, .f32⟩
  | .hbm, ⟨9, _⟩ => ⟨S2x2048, .f32⟩
  | .hbm, ⟨10, _⟩ => ⟨S2x1x2048, .f32⟩
  | .hbm, ⟨11, _⟩ => ⟨S2x2048, .f32⟩
  | .hbm, ⟨12, _⟩ => ⟨S2x1x2048, .f32⟩
  | .hbm, ⟨13, _⟩ => ⟨S2x2048, .f32⟩
  | .hbm, ⟨14, _⟩ => ⟨S2x1x2048, .f32⟩
  | .hbm, ⟨15, _⟩ => ⟨S2x2048, .f32⟩
  | .hbm, ⟨16, _⟩ => ⟨S2x1x2048, .f32⟩
  | .hbm, ⟨17, _⟩ => ⟨S2048x11264, .bf16⟩
  | .hbm, ⟨18, _⟩ => ⟨S5632x2048, .bf16⟩
  | .hbm, ⟨19, _⟩ => ⟨S1x2048, .f32⟩
  | .hbm, ⟨20, _⟩ => ⟨S2x16384x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .vmem, ⟨13, _⟩ => ⟨S512x2048, .bf16⟩
  | .local _ .vmem, ⟨14, _⟩ => ⟨S1x2048, .f32⟩
  | .local _ .vmem, ⟨15, _⟩ => ⟨S1x1024x2048, .f32⟩
  | .local _ .vmem, ⟨16, _⟩ => ⟨S1x1024x2048, .f32⟩
  | .local _ .vmem, ⟨17, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨3, ![2, 16, 11], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c10_i32 : BitVec 32 := 10#32
  let v4 : BitVec 1 := Scalar.cmpi .slt arg2 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c10_i32_3 : BitVec 32 := 10#32
  let v8 : BitVec 1 := Scalar.cmpi .eq arg2 c10_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 2 → Memref sig .tc .vmem S1x1024x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== FfnRefIdeal.lean ====
abbrev S2x16384x2048 : Shape := ⟨3, ![2, 16384, 2048]⟩
abbrev S2x12288 : Shape := ⟨2, ![2, 12288]⟩
abbrev S2048x11264 : Shape := ⟨2, ![2048, 11264]⟩
abbrev S5632x2048 : Shape := ⟨2, ![5632, 2048]⟩
abbrev S2048 : Shape := ⟨1, ![2048]⟩
abbrev S2x1x12288 : Shape := ⟨3, ![2, 1, 12288]⟩
abbrev S2x1x2048 : Shape := ⟨3, ![2, 1, 2048]⟩
abbrev S_ : Shape := ⟨0, ![]⟩
abbrev S2x16384 : Shape := ⟨2, ![2, 16384]⟩
abbrev S2x16384x1 : Shape := ⟨3, ![2, 16384, 1]⟩
abbrev S2x16384x11264 : Shape := ⟨3, ![2, 16384, 11264]⟩
abbrev S2x16384x5632 : Shape := ⟨3, ![2, 16384, 5632]⟩
abbrev S1x1x2048 : Shape := ⟨3, ![1, 1, 2048]⟩

abbrev nBuf : Space → Nat
  | .hbm => 65
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x12288, .f32⟩
  | .hbm, ⟨2, _⟩ => ⟨S2048x11264, .f32⟩
  | .hbm, ⟨3, _⟩ => ⟨S5632x2048, .f32⟩
  | .hbm, ⟨4, _⟩ => ⟨S2048, .f32⟩
  | .hbm, ⟨5, _⟩ => ⟨S2x1x12288, .f32⟩
  | .hbm, ⟨6, _⟩ => ⟨S2x1x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x16384x2048, .f32⟩
  | .hbm, ⟨13, _⟩ => ⟨S_, .f32⟩
  | .hbm, ⟨14, _⟩ => ⟨S2x16384, .f32⟩
  | .hbm, ⟨15, _⟩ => ⟨S2x16384x1, .f32⟩
  | .hbm, ⟨16, _⟩ => ⟨S_, .f32⟩
  | .hbm, ⟨17, _⟩ => ⟨S2x16384x1, .f32⟩
  | .hbm, ⟨18, _⟩ => ⟨S2x16384x1, .f32⟩
  | .hbm, ⟨19, _⟩ => ⟨S_, .f32⟩
  | .hbm, ⟨20, _⟩ => ⟨S2x16384x1, .f32⟩
  | .hbm, ⟨21, _⟩ => ⟨S2x16384x1, .f32⟩
  | .hbm, ⟨22, _⟩ => ⟨S2x16384x1, .f32⟩
  | .hbm, ⟨23, _⟩ => ⟨S2x16384x2048, .f32⟩
  | .hbm, ⟨24, _⟩ => ⟨S2x16384x2048, .f32⟩
  | .hbm, ⟨25, _⟩ => ⟨S_, .f32⟩
  | .hbm, ⟨26, _⟩ => ⟨S2x1x2048, .f32⟩
  | .hbm, ⟨27, _⟩ => ⟨S2x1x2048, .f32⟩
  | .hbm, ⟨28, _⟩ => ⟨S2x16384x2048, .f32⟩
  | .hbm, ⟨29, _⟩ => ⟨S2x16384x2048, .f32⟩
  | .hbm, ⟨30, _⟩ => ⟨S2x16384x2048, .f32⟩
  | .hbm, ⟨31, _⟩ => ⟨S2x16384x2048, .f32⟩
  | .hbm, ⟨32, _⟩ => ⟨S2x16384x11264, .f32⟩
  | .hbm, ⟨33, _⟩ => ⟨S2x16384x5632, .f32⟩
  | .hbm, ⟨34, _⟩ => ⟨S2x16384x5632, .f32⟩
  | .hbm, ⟨35, _⟩ => ⟨S2x16384x5632, .f32⟩
  | .hbm, ⟨36, _⟩ => ⟨S2x16384x5632, .f32⟩
  | .hbm, ⟨37, _⟩ => ⟨S_, .f32⟩
  | .hbm, ⟨38, _⟩ => ⟨S2x16384x5632, .f32⟩
  | .hbm, ⟨39, _⟩ => ⟨S2x16384x5632, .f32⟩
  | .hbm, ⟨40, _⟩ => ⟨S_, .f32⟩
  | .hbm, ⟨41, _⟩ => ⟨S2x16384x5632, .f32⟩
  | .hbm, ⟨42, _⟩ => ⟨S2x16384x5632, .f32⟩
  | .hbm, ⟨43, _⟩ => ⟨S2x16384x5632, .f32⟩
  | .hbm, ⟨44, _⟩ => ⟨S2x16384x5632, .f32⟩
  | .hbm, ⟨45, _⟩ => ⟨S2x16384x2048, .f32⟩
  | .hbm, ⟨46, _⟩ => ⟨S2x16384x2048, .f32⟩
  | .hbm, ⟨47, _⟩ => ⟨S2x16384x2048, .f32⟩
  | .hbm, ⟨48, _⟩ => ⟨S2x16384x2048, .f32⟩
  | .hbm, ⟨49, _⟩ => ⟨S2x16384x2048, .f32⟩
  | .hbm, ⟨50, _⟩ => ⟨S_, .f32⟩
  | .hbm, ⟨51, _⟩ => ⟨S2x16384, .f32⟩
  | .hbm, ⟨52, _⟩ => ⟨S2x16384x1, .f32⟩
  | .hbm, ⟨53, _⟩ => ⟨S_, .f32⟩
  | .hbm, ⟨54, _⟩ => ⟨S2x16384x1, .f32⟩
  | .hbm, ⟨55, _⟩ => ⟨S2x16384x1, .f32⟩
  | .hbm, ⟨56, _⟩ => ⟨S_, .f32⟩
  | .hbm, ⟨57, _⟩ => ⟨S2x16384x1, .f32⟩
  | .hbm, ⟨58, _⟩ => ⟨S2x16384x1, .f32⟩
  | .hbm, ⟨59, _⟩ => ⟨S2x16384x1, .f32⟩
  | .hbm, ⟨60, _⟩ => ⟨S2x16384x2048, .f32⟩
  | .hbm, ⟨61, _⟩ => ⟨S2x16384x2048, .f32⟩
  | .hbm, ⟨62, _⟩ => ⟨S1x1x2048, .f32⟩
  | .hbm, ⟨63, _⟩ => ⟨S2x16384x2048, .f32⟩
  | .hbm, ⟨64, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_5 : Ref sig .tc := ⟨.hbm, 50, rfl⟩
abbrev main_v39 : Ref sig .tc := ⟨.hbm, 51, rfl⟩
abbrev main_v40 : Ref sig .tc := ⟨.hbm, 52, rfl⟩
abbrev main_cst_6 : Ref sig .tc := ⟨.hbm, 53, rfl⟩
abbrev main_v41 : Ref sig .tc := ⟨.hbm, 54, rfl⟩
abbrev main_v42 : Ref sig .tc := ⟨.hbm, 55, rfl⟩
abbrev main_cst_7 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩

abbrev nD : Nat := 1
abbrev τ : Topo := Topo.v7x

variable {F : FTy → Type} [FloatOps F]
-- ==== Mid.lean ====
abbrev S2x16384x2048 : Shape := ⟨3, ![2, 16384, 2048]⟩
abbrev S2x12288 : Shape := ⟨2, ![2, 12288]⟩
abbrev S2048x11264 : Shape := ⟨2, ![2048, 11264]⟩
abbrev S5632x2048 : Shape := ⟨2, ![5632, 2048]⟩
abbrev S2x2048 : Shape := ⟨2, ![2, 2048]⟩
abbrev S2x1x2048 : Shape := ⟨3, ![2, 1, 2048]⟩
abbrev S1x1024x2048 : Shape := ⟨3, ![1, 1024, 2048]⟩
abbrev S1x1x2048 : Shape := ⟨3, ![1, 1, 2048]⟩
abbrev S2048x512 : Shape := ⟨2, ![2048, 512]⟩
abbrev S512x2048 : Shape := ⟨2, ![512, 2048]⟩
abbrev S1024x2048 : Shape := ⟨2, ![1024, 2048]⟩
abbrev S1x512x2048 : Shape := ⟨3, ![1, 512, 2048]⟩
abbrev S1x2048 : Shape := ⟨2, ![1, 2048]⟩
abbrev S512 : Shape := ⟨1, ![512]⟩
abbrev S512x1 : Shape := ⟨2, ![512, 1]⟩
abbrev S512x512 : Shape := ⟨2, ![512, 512]⟩

abbrev nBuf : Space → Nat
  | .hbm => 19
  | .vmem => 17
  | .smem => 0
  | _ => 0

abbrev bufTy : (tb : Table) → Fin (tcTables nBuf tb) → BufTy
  | .hbm, ⟨0, _⟩ => ⟨S2x16384x2048, .f32⟩
  | .hbm, ⟨1, _⟩ => ⟨S2x12288, .f32⟩
  | .hbm, ⟨2, _⟩ => ⟨S2048x11264, .f32⟩
  | .hbm, ⟨3, _⟩ => ⟨S5632x2048, .f32⟩
  | .hbm, ⟨4, _⟩ => ⟨S2x2048, .f32⟩
  | .hbm, ⟨5, _⟩ => ⟨S2x1x2048, .f32⟩
  | .hbm, ⟨6, _⟩ => ⟨S2x2048, .f32⟩
  | .hbm, ⟨7, _⟩ => ⟨S2x1x2048, .f32⟩
  | .hbm, ⟨8, _⟩ => ⟨S2x2048, .f32⟩
  | .hbm, ⟨9, _⟩ => ⟨S2x1x2048, .f32⟩
  | .hbm, ⟨10, _⟩ => ⟨S2x2048, .f32⟩
  | .hbm, ⟨11, _⟩ => ⟨S2x1x2048, .f32⟩
  | .hbm, ⟨12, _⟩ => ⟨S2x2048, .f32⟩
  | .hbm, ⟨13, _⟩ => ⟨S2x1x2048, .f32⟩
  | .hbm, ⟨14, _⟩ => ⟨S2x2048, .f32⟩
  | .hbm, ⟨15, _⟩ => ⟨S2x1x2048, .f32⟩
  | .hbm, ⟨16, _⟩ => ⟨S2048x11264, .bf16⟩
  | .hbm, ⟨17, _⟩ => ⟨S5632x2048, .bf16⟩
  | .hbm, ⟨18, _⟩ => ⟨S2x16384x2048, .f32⟩
  | .local _ .vmem, ⟨0, _⟩ => ⟨S1x1024x2048, .f32⟩
  | .local _ .vmem, ⟨1, _⟩ => ⟨S1x1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S2048x512, .bf16⟩
  | .local _ .vmem, ⟨9, _⟩ => ⟨S2048x512, .bf16⟩
  | .local _ .vmem, ⟨10, _⟩ => ⟨S2048x512, .bf16⟩
  | .local _ .vmem, ⟨11, _⟩ => ⟨S2048x512, .bf16⟩
  | .local _ .vmem, ⟨12, _⟩ => ⟨S512x2048, .bf16⟩
  | .local _ .vmem, ⟨13, _⟩ => ⟨S512x2048, .bf16⟩
  | .local _ .vmem, ⟨14, _⟩ => ⟨S1x1024x2048, .f32⟩
  | .local _ .vmem, ⟨15, _⟩ => ⟨S1x1024x2048, .f32⟩
  | .local _ .vmem, ⟨16, _⟩ => ⟨S1024x2048, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![2, 16, 11], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c0_i32_1 : BitVec 32 := 0#32
  let v3 : BitVec 1 := Scalar.cmpi .sgt arg2 c0_i32_1
  let c10_i32 : BitVec 32 := 10#32
  let v4 : BitVec 1 := Scalar.cmpi .slt arg2 c10_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg2 : BitVec 32 := BitVec.ofNat 32 (i 2).val
  let c10_i32_3 : BitVec 32 := 10#32
  let v8 : BitVec 1 := Scalar.cmpi .eq arg2 c10_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c11_i32 : BitVec 32 := 11#32
  let v0 : BitVec 32 := Scalar.addi c11_i32 arg2
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 2 → Memref sig .tc .vmem S1x1024x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]
-- ==== MidRefIdeal.lean ====
abbrev S2x16384x2048 : Shape := ⟨3, ![2, 16384, 2048]⟩
abbrev S2x12288 : Shape := ⟨2, ![2, 12288]⟩
abbrev S2048x11264 : Shape := ⟨2, ![2048, 11264]⟩
abbrev S5632x2048 : Shape := ⟨2, ![5632, 2048]⟩
abbrev S2x1x12288 : Shape := ⟨3, ![2, 1, 12288]⟩
abbrev S2x1x2048 : Shape := ⟨3, ![2, 1, 2048]⟩
abbrev S_ : Shape := ⟨0, ![]⟩
abbrev S2x16384 : Shape := ⟨2, ![2, 16384]⟩
abbrev S2x16384x1 : Shape := ⟨3, ![2, 16384, 1]⟩
abbrev S2x16384x11264 : Shape := ⟨3, ![2, 16384, 11264]⟩
abbrev S2x16384x5632 : Shape := ⟨3, ![2, 16384, 5632]⟩

abbrev nBuf : Space → Nat
  | .hbm => 48
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x12288, .f32⟩
  | .hbm, ⟨2, _⟩ => ⟨S2048x11264, .f32⟩
  | .hbm, ⟨3, _⟩ => ⟨S5632x2048, .f32⟩
  | .hbm, ⟨4, _⟩ => ⟨S2x1x12288, .f32⟩
  | .hbm, ⟨5, _⟩ => ⟨S2x1x2048, .f32⟩
  | .hbm, ⟨6, _⟩ => ⟨S2x1x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x16384x2048, .f32⟩
  | .hbm, ⟨12, _⟩ => ⟨S_, .f32⟩
  | .hbm, ⟨13, _⟩ => ⟨S2x16384, .f32⟩
  | .hbm, ⟨14, _⟩ => ⟨S2x16384x1, .f32⟩
  | .hbm, ⟨15, _⟩ => ⟨S_, .f32⟩
  | .hbm, ⟨16, _⟩ => ⟨S2x16384x1, .f32⟩
  | .hbm, ⟨17, _⟩ => ⟨S2x16384x1, .f32⟩
  | .hbm, ⟨18, _⟩ => ⟨S_, .f32⟩
  | .hbm, ⟨19, _⟩ => ⟨S2x16384x1, .f32⟩
  | .hbm, ⟨20, _⟩ => ⟨S2x16384x1, .f32⟩
  | .hbm, ⟨21, _⟩ => ⟨S2x16384x1, .f32⟩
  | .hbm, ⟨22, _⟩ => ⟨S2x16384x2048, .f32⟩
  | .hbm, ⟨23, _⟩ => ⟨S2x16384x2048, .f32⟩
  | .hbm, ⟨24, _⟩ => ⟨S_, .f32⟩
  | .hbm, ⟨25, _⟩ => ⟨S2x1x2048, .f32⟩
  | .hbm, ⟨26, _⟩ => ⟨S2x1x2048, .f32⟩
  | .hbm, ⟨27, _⟩ => ⟨S2x16384x2048, .f32⟩
  | .hbm, ⟨28, _⟩ => ⟨S2x16384x2048, .f32⟩
  | .hbm, ⟨29, _⟩ => ⟨S2x16384x2048, .f32⟩
  | .hbm, ⟨30, _⟩ => ⟨S2x16384x2048, .f32⟩
  | .hbm, ⟨31, _⟩ => ⟨S2x16384x11264, .f32⟩
  | .hbm, ⟨32, _⟩ => ⟨S2x16384x5632, .f32⟩
  | .hbm, ⟨33, _⟩ => ⟨S2x16384x5632, .f32⟩
  | .hbm, ⟨34, _⟩ => ⟨S2x16384x5632, .f32⟩
  | .hbm, ⟨35, _⟩ => ⟨S2x16384x5632, .f32⟩
  | .hbm, ⟨36, _⟩ => ⟨S_, .f32⟩
  | .hbm, ⟨37, _⟩ => ⟨S2x16384x5632, .f32⟩
  | .hbm, ⟨38, _⟩ => ⟨S2x16384x5632, .f32⟩
  | .hbm, ⟨39, _⟩ => ⟨S_, .f32⟩
  | .hbm, ⟨40, _⟩ => ⟨S2x16384x5632, .f32⟩
  | .hbm, ⟨41, _⟩ => ⟨S2x16384x5632, .f32⟩
  | .hbm, ⟨42, _⟩ => ⟨S2x16384x5632, .f32⟩
  | .hbm, ⟨43, _⟩ => ⟨S2x16384x5632, .f32⟩
  | .hbm, ⟨44, _⟩ => ⟨S2x16384x2048, .f32⟩
  | .hbm, ⟨45, _⟩ => ⟨S2x16384x2048, .f32⟩
  | .hbm, ⟨46, _⟩ => ⟨S2x16384x2048, .f32⟩
  | .hbm, ⟨47, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_cst_3 : Ref sig .tc := ⟨.hbm, 36, rfl⟩
abbrev main_v28 : Ref sig .tc := ⟨.hbm, 37, rfl⟩
abbrev main_v29 : Ref sig .tc := ⟨.hbm, 38, rfl⟩
abbrev main_cst_4 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩

abbrev nD : Nat := 1
abbrev τ : Topo := Topo.v7x

variable {F : FTy → Type} [FloatOps F]
-- ==== OutEven.lean ====
abbrev S2x16384x2048 : Shape := ⟨3, ![2, 16384, 2048]⟩
abbrev S2x12288 : Shape := ⟨2, ![2, 12288]⟩
abbrev S2x8x16384x128 : Shape := ⟨4, ![2, 8, 16384, 128]⟩
abbrev S2x4x16384x256 : Shape := ⟨4, ![2, 4, 16384, 256]⟩
abbrev S2048x2048 : Shape := ⟨2, ![2048, 2048]⟩
abbrev S2x2048 : Shape := ⟨2, ![2, 2048]⟩
abbrev S2x1x2048 : Shape := ⟨3, ![2, 1, 2048]⟩
abbrev S2x16384x8x128 : Shape := ⟨4, ![2, 16384, 8, 128]⟩
abbrev S2x16384x1024 : Shape := ⟨3, ![2, 16384, 1024]⟩
abbrev S2x16384x4x256 : Shape := ⟨4, ![2, 16384, 4, 256]⟩
abbrev S1024x2048 : Shape := ⟨2, ![1024, 2048]⟩
abbrev S1x512x1024 : Shape := ⟨3, ![1, 512, 1024]⟩
abbrev S1x1x2048 : Shape := ⟨3, ![1, 1, 2048]⟩
abbrev S1x512x2048 : Shape := ⟨3, ![1, 512, 2048]⟩
abbrev S512x1024 : Shape := ⟨2, ![512, 1024]⟩
abbrev S512x2048 : Shape := ⟨2, ![512, 2048]⟩
abbrev S1x2048 : Shape := ⟨2, ![1, 2048]⟩

abbrev nBuf : Space → Nat
  | .hbm => 27
  | .vmem => 12
  | .smem => 0
  | _ => 0

abbrev bufTy : (tb : Table) → Fin (tcTables nBuf tb) → BufTy
  | .hbm, ⟨0, _⟩ => ⟨S2x16384x2048, .f32⟩
  | .hbm, ⟨1, _⟩ => ⟨S2x12288, .f32⟩
  | .hbm, ⟨2, _⟩ => ⟨S2x8x16384x128, .f32⟩
  | .hbm, ⟨3, _⟩ => ⟨S2x4x16384x256, .f32⟩
  | .hbm, ⟨4, _⟩ => ⟨S2048x2048, .f32⟩
  | .hbm, ⟨5, _⟩ => ⟨S2x2048, .f32⟩
  | .hbm, ⟨6, _⟩ => ⟨S2x1x2048, .f32⟩
  | .hbm, ⟨7, _⟩ => ⟨S2x2048, .f32⟩
  | .hbm, ⟨8, _⟩ => ⟨S2x1x2048, .f32⟩
  | .hbm, ⟨9, _⟩ => ⟨S2x2048, .f32⟩
  | .hbm, ⟨10, _⟩ => ⟨S2x1x2048, .f32⟩
  | .hbm, ⟨11, _⟩ => ⟨S2x2048, .f32⟩
  | .hbm, ⟨12, _⟩ => ⟨S2x1x2048, .f32⟩
  | .hbm, ⟨13, _⟩ => ⟨S2x2048, .f32⟩
  | .hbm, ⟨14, _⟩ => ⟨S2x1x2048, .f32⟩
  | .hbm, ⟨15, _⟩ => ⟨S2x2048, .f32⟩
  | .hbm, ⟨16, _⟩ => ⟨S2x1x2048, .f32⟩
  | .hbm, ⟨17, _⟩ => ⟨S2048x2048, .bf16⟩
  | .hbm, ⟨18, _⟩ => ⟨S2x16384x8x128, .f32⟩
  | .hbm, ⟨19, _⟩ => ⟨S2x16384x1024, .f32⟩
  | .hbm, ⟨20, _⟩ => ⟨S2x16384x1024, .bf16⟩
  | .hbm, ⟨21, _⟩ => ⟨S2x16384x4x256, .f32⟩
  | .hbm, ⟨22, _⟩ => ⟨S2x16384x1024, .f32⟩
  | .hbm, ⟨23, _⟩ => ⟨S2x16384x1024, .bf16⟩
  | .hbm, ⟨24, _⟩ => ⟨S1024x2048, .bf16⟩
  | .hbm, ⟨25, _⟩ => ⟨S1024x2048, .bf16⟩
  | .hbm, ⟨26, _⟩ => ⟨S2x16384x2048, .f32⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1x1x2048, .f32⟩
  | .local _ .vmem, ⟨7, _⟩ => ⟨S1x1x2048, .f32⟩
  | .local _ .vmem, ⟨8, _⟩ => ⟨S1x512x2048, .f32⟩
  | .local _ .vmem, ⟨9, _⟩ => ⟨S1x512x2048, .f32⟩
  | .local _ .vmem, ⟨10, _⟩ => ⟨S1x512x2048, .f32⟩
  | .local _ .vmem, ⟨11, _⟩ => ⟨S1x512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== OutEvenRefIdeal.lean ====
abbrev S2x16384x2048 : Shape := ⟨3, ![2, 16384, 2048]⟩
abbrev S2x12288 : Shape := ⟨2, ![2, 12288]⟩
abbrev S2x8x16384x128 : Shape := ⟨4, ![2, 8, 16384, 128]⟩
abbrev S2x4x16384x256 : Shape := ⟨4, ![2, 4, 16384, 256]⟩
abbrev S2048x2048 : Shape := ⟨2, ![2048, 2048]⟩
abbrev S2x1x12288 : Shape := ⟨3, ![2, 1, 12288]⟩
abbrev S2x1x2048 : Shape := ⟨3, ![2, 1, 2048]⟩
abbrev S2x16384x8x128 : Shape := ⟨4, ![2, 16384, 8, 128]⟩
abbrev S2x16384x1024 : Shape := ⟨3, ![2, 16384, 1024]⟩
abbrev S2x16384x4x256 : Shape := ⟨4, ![2, 16384, 4, 256]⟩

abbrev nBuf : Space → Nat
  | .hbm => 21
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x12288, .f32⟩
  | .hbm, ⟨2, _⟩ => ⟨S2x8x16384x128, .f32⟩
  | .hbm, ⟨3, _⟩ => ⟨S2x4x16384x256, .f32⟩
  | .hbm, ⟨4, _⟩ => ⟨S2048x2048, .f32⟩
  | .hbm, ⟨5, _⟩ => ⟨S2x1x12288, .f32⟩
  | .hbm, ⟨6, _⟩ => ⟨S2x1x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x16384x8x128, .f32⟩
  | .hbm, ⟨13, _⟩ => ⟨S2x16384x1024, .f32⟩
  | .hbm, ⟨14, _⟩ => ⟨S2x16384x4x256, .f32⟩
  | .hbm, ⟨15, _⟩ => ⟨S2x16384x1024, .f32⟩
  | .hbm, ⟨16, _⟩ => ⟨S2x16384x2048, .f32⟩
  | .hbm, ⟨17, _⟩ => ⟨S2x16384x2048, .f32⟩
  | .hbm, ⟨18, _⟩ => ⟨S2x16384x2048, .f32⟩
  | .hbm, ⟨19, _⟩ => ⟨S2x16384x2048, .f32⟩
  | .hbm, ⟨20, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== OutOdd.lean ====
abbrev S2x16384x2048 : Shape := ⟨3, ![2, 16384, 2048]⟩
abbrev S2x12288 : Shape := ⟨2, ![2, 12288]⟩
abbrev S2x32x16384x64 : Shape := ⟨4, ![2, 32, 16384, 64]⟩
abbrev S2048x2048 : Shape := ⟨2, ![2048, 2048]⟩
abbrev S2048 : Shape := ⟨1, ![2048]⟩
abbrev S2x2048 : Shape := ⟨2, ![2, 2048]⟩
abbrev S2x1x2048 : Shape := ⟨3, ![2, 1, 2048]⟩
abbrev S2x16384x32x64 : Shape := ⟨4, ![2, 16384, 32, 64]⟩
abbrev S1x2048 : Shape := ⟨2, ![1, 2048]⟩
abbrev S1x512x2048 : Shape := ⟨3, ![1, 512, 2048]⟩
abbrev S1x1x2048 : Shape := ⟨3, ![1, 1, 2048]⟩
abbrev S512x2048 : Shape := ⟨2, ![512, 2048]⟩

abbrev nBuf : Space → Nat
  | .hbm => 23
  | .vmem => 10
  | .smem => 0
  | _ => 0

abbrev bufTy : (tb : Table) → Fin (tcTables nBuf tb) → BufTy
  | .hbm, ⟨0, _⟩ => ⟨S2x16384x2048, .f32⟩
  | .hbm, ⟨1, _⟩ => ⟨S2x12288, .f32⟩
  | .hbm, ⟨2, _⟩ => ⟨S2x32x16384x64, .f32⟩
  | .hbm, ⟨3, _⟩ => ⟨S2048x2048, .f32⟩
  | .hbm, ⟨4, _⟩ => ⟨S2048, .f32⟩
  | .hbm, ⟨5, _⟩ => ⟨S2x2048, .f32⟩
  | .hbm, ⟨6, _⟩ => ⟨S2x1x2048, .f32⟩
  | .hbm, ⟨7, _⟩ => ⟨S2x2048, .f32⟩
  | .hbm, ⟨8, _⟩ => ⟨S2x1x2048, .f32⟩
  | .hbm, ⟨9, _⟩ => ⟨S2x2048, .f32⟩
  | .hbm, ⟨10, _⟩ => ⟨S2x1x2048, .f32⟩
  | .hbm, ⟨11, _⟩ => ⟨S2x2048, .f32⟩
  | .hbm, ⟨12, _⟩ => ⟨S2x1x2048, .f32⟩
  | .hbm, ⟨13, _⟩ => ⟨S2x2048, .f32⟩
  | .hbm, ⟨14, _⟩ => ⟨S2x1x2048, .f32⟩
  | .hbm, ⟨15, _⟩ => ⟨S2x2048, .f32⟩
  | .hbm, ⟨16, _⟩ => ⟨S2x1x2048, .f32⟩
  | .hbm, ⟨17, _⟩ => ⟨S2x16384x32x64, .f32⟩
  | .hbm, ⟨18, _⟩ => ⟨S2x16384x2048, .f32⟩
  | .hbm, ⟨19, _⟩ => ⟨S2x16384x2048, .bf16⟩
  | .hbm, ⟨20, _⟩ => ⟨S2048x2048, .bf16⟩
  | .hbm, ⟨21, _⟩ => ⟨S1x2048, .f32⟩
  | .hbm, ⟨22, _⟩ => ⟨S2x16384x2048, .f32⟩
  | .local _ .vmem, ⟨0, _⟩ => ⟨S1x512x2048, .bf16⟩
  | .local _ .vmem, ⟨1, _⟩ => ⟨S1x512x2048, .bf16⟩
  | .local _ .vmem, ⟨2, _⟩ => ⟨S2048x2048, .bf16⟩
  | .local _ .vmem, ⟨3, _⟩ => ⟨S1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x512x2048, .f32⟩
  | .local _ .vmem, ⟨7, _⟩ => ⟨S1x512x2048, .f32⟩
  | .local _ .vmem, ⟨8, _⟩ => ⟨S1x512x2048, .f32⟩
  | .local _ .vmem, ⟨9, _⟩ => ⟨S1x512x2048, .f32⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OutOddRefIdeal.lean ====
abbrev S2x16384x2048 : Shape := ⟨3, ![2, 16384, 2048]⟩
abbrev S2x12288 : Shape := ⟨2, ![2, 12288]⟩
abbrev S2x32x16384x64 : Shape := ⟨4, ![2, 32, 16384, 64]⟩
abbrev S2048x2048 : Shape := ⟨2, ![2048, 2048]⟩
abbrev S2048 : Shape := ⟨1, ![2048]⟩
abbrev S2x1x12288 : Shape := ⟨3, ![2, 1, 12288]⟩
abbrev S2x1x2048 : Shape := ⟨3, ![2, 1, 2048]⟩
abbrev S2x16384x32x64 : Shape := ⟨4, ![2, 16384, 32, 64]⟩
abbrev S1x1x2048 : Shape := ⟨3, ![1, 1, 2048]⟩

abbrev nBuf : Space → Nat
  | .hbm => 21
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x12288, .f32⟩
  | .hbm, ⟨2, _⟩ => ⟨S2x32x16384x64, .f32⟩
  | .hbm, ⟨3, _⟩ => ⟨S2048x2048, .f32⟩
  | .hbm, ⟨4, _⟩ => ⟨S2048, .f32⟩
  | .hbm, ⟨5, _⟩ => ⟨S2x1x12288, .f32⟩
  | .hbm, ⟨6, _⟩ => ⟨S2x1x2048, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x16384x32x64, .f32⟩
  | .hbm, ⟨13, _⟩ => ⟨S2x16384x2048, .f32⟩
  | .hbm, ⟨14, _⟩ => ⟨S2x16384x2048, .f32⟩
  | .hbm, ⟨15, _⟩ => ⟨S1x1x2048, .f32⟩
  | .hbm, ⟨16, _⟩ => ⟨S2x16384x2048, .f32⟩
  | .hbm, ⟨17, _⟩ => ⟨S2x16384x2048, .f32⟩
  | .hbm, ⟨18, _⟩ => ⟨S2x16384x2048, .f32⟩
  | .hbm, ⟨19, _⟩ => ⟨S2x16384x2048, .f32⟩
  | .hbm, ⟨20, _⟩ => ⟨S2x16384x2048, .f32⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== ProjEven.lean ====
abbrev S2x16384x2048 : Shape := ⟨3, ![2, 16384, 2048]⟩
abbrev S2x12288 : Shape := ⟨2, ![2, 12288]⟩
abbrev S2048x6144 : Shape := ⟨2, ![2048, 6144]⟩
abbrev S16384x64 : Shape := ⟨2, ![16384, 64]⟩
abbrev S2x2048 : Shape := ⟨2, ![2, 2048]⟩
abbrev S2x1x2048 : Shape := ⟨3, ![2, 1, 2048]⟩
abbrev S_ : Shape := ⟨0, ![]⟩
abbrev S16384x128 : Shape := ⟨2, ![16384, 128]⟩
abbrev S1x16384x1x128 : Shape := ⟨4, ![1, 16384, 1, 128]⟩
abbrev S1x16384x128 : Shape := ⟨3, ![1, 16384, 128]⟩
abbrev S2x16384x128 : Shape := ⟨3, ![2, 16384, 128]⟩
abbrev S2048x1024 : Shape := ⟨2, ![2048, 1024]⟩
abbrev S2048x4096 : Shape := ⟨2, ![2048, 4096]⟩
abbrev S2048x2048 : Shape := ⟨2, ![2048, 2048]⟩
abbrev S2048x8x512 : Shape := ⟨3, ![2048, 8, 512]⟩
abbrev S8x2048x512 : Shape := ⟨3, ![8, 2048, 512]⟩
abbrev S2048x4x512 : Shape := ⟨3, ![2048, 4, 512]⟩
abbrev S4x2048x512 : Shape := ⟨3, ![4, 2048, 512]⟩
abbrev S2x16384x4096 : Shape := ⟨3, ![2, 16384, 4096]⟩
abbrev S2x32x2048x512 : Shape := ⟨4, ![2, 32, 2048, 512]⟩
abbrev S1x512x2048 : Shape := ⟨3, ![1, 512, 2048]⟩
abbrev S1x1x2048 : Shape := ⟨3, ![1, 1, 2048]⟩
abbrev S2x512x128 : Shape := ⟨3, ![2, 512, 128]⟩
abbrev S1x512x4096 : Shape := ⟨3, ![1, 512, 4096]⟩
abbrev S1x1x2048x512 : Shape := ⟨4, ![1, 1, 2048, 512]⟩
abbrev S512x2048 : Shape := ⟨2, ![512, 2048]⟩
abbrev S1x2048 : Shape := ⟨2, ![1, 2048]⟩
abbrev S512 : Shape := ⟨1, ![512]⟩
abbrev S512x1 : Shape := ⟨2, ![512, 1]⟩
abbrev S1x2048x512 : Shape := ⟨3, ![1, 2048, 512]⟩
abbrev S2048x512 : Shape := ⟨2, ![2048, 512]⟩
abbrev S512x512 : Shape := ⟨2, ![512, 512]⟩
abbrev S1x512x128 : Shape := ⟨3, ![1, 512, 128]⟩
abbrev S512x128 : Shape := ⟨2, ![512, 128]⟩
abbrev S1x1x512x512 : Shape := ⟨4, ![1, 1, 512, 512]⟩

abbrev nBuf : Space → Nat
  | .hbm => 55
  | .vmem => 16
  | .smem => 0
  | _ => 0

abbrev bufTy : (tb : Table) → Fin (tcTables nBuf tb) → BufTy
  | .hbm, ⟨0, _⟩ => ⟨S2x16384x2048, .f32⟩
  | .hbm, ⟨1, _⟩ => ⟨S2x12288, .f32⟩
  | .hbm, ⟨2, _⟩ => ⟨S2048x6144, .f32⟩
  | .hbm, ⟨3, _⟩ => ⟨S16384x64, .f32⟩
  | .hbm, ⟨4, _⟩ => ⟨S16384x64, .f32⟩
  | .hbm, ⟨5, _⟩ => ⟨S2x2048, .f32⟩
  | .hbm, ⟨6, _⟩ => ⟨S2x1x2048, .f32⟩
  | .hbm, ⟨7, _⟩ => ⟨S2x2048, .f32⟩
  | .hbm, ⟨8, _⟩ => ⟨S2x1x2048, .f32⟩
  | .hbm, ⟨9, _⟩ => ⟨S2x2048, .f32⟩
  | .hbm, ⟨10, _⟩ => ⟨S2x1x2048, .f32⟩
  | .hbm, ⟨11, _⟩ => ⟨S2x2048, .f32⟩
  | .hbm, ⟨12, _⟩ => ⟨S2x1x2048, .f32⟩
  | .hbm, ⟨13, _⟩ => ⟨S2x2048, .f32⟩
  | .hbm, ⟨14, _⟩ => ⟨S2x1x2048, .f32⟩
  | .hbm, ⟨15, _⟩ => ⟨S2x2048, .f32⟩
  | .hbm, ⟨16, _⟩ => ⟨S2x1x2048, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S16384x128, .f32⟩
  | .hbm, ⟨22, _⟩ => ⟨S1x16384x1x128, .f32⟩
  | .hbm, ⟨23, _⟩ => ⟨S1x16384x1x128, .f32⟩
  | .hbm, ⟨24, _⟩ => ⟨S16384x128, .f32⟩
  | .hbm, ⟨25, _⟩ => ⟨S16384x64, .f32⟩
  | .hbm, ⟨26, _⟩ => ⟨S16384x128, .f32⟩
  | .hbm, ⟨27, _⟩ => ⟨S1x16384x1x128, .f32⟩
  | .hbm, ⟨28, _⟩ => ⟨S1x16384x1x128, .f32⟩
  | .hbm, ⟨29, _⟩ => ⟨S16384x128, .f32⟩
  | .hbm, ⟨30, _⟩ => ⟨S16384x128, .f32⟩
  | .hbm, ⟨31, _⟩ => ⟨S16384x128, .f32⟩
  | .hbm, ⟨32, _⟩ => ⟨S1x16384x128, .f32⟩
  | .hbm, ⟨33, _⟩ => ⟨S1x16384x128, .f32⟩
  | .hbm, ⟨34, _⟩ => ⟨S2x16384x128, .f32⟩
  | .hbm, ⟨35, _⟩ => ⟨S16384x128, .f32⟩
  | .hbm, ⟨36, _⟩ => ⟨S16384x128, .f32⟩
  | .hbm, ⟨37, _⟩ => ⟨S1x16384x128, .f32⟩
  | .hbm, ⟨38, _⟩ => ⟨S1x16384x128, .f32⟩
  | .hbm, ⟨39, _⟩ => ⟨S2x16384x128, .f32⟩
  | .hbm, ⟨40, _⟩ => ⟨S2048x6144, .bf16⟩
  | .hbm, ⟨41, _⟩ => ⟨S2048x1024, .bf16⟩
  | .hbm, ⟨42, _⟩ => ⟨S2048x1024, .bf16⟩
  | .hbm, ⟨43, _⟩ => ⟨S2048x1024, .bf16⟩
  | .hbm, ⟨44, _⟩ => ⟨S2048x1024, .bf16⟩
  | .hbm, ⟨45, _⟩ => ⟨S2048x1024, .bf16⟩
  | .hbm, ⟨46, _⟩ => ⟨S2048x1024, .bf16⟩
  | .hbm, ⟨47, _⟩ => ⟨S2048x4096, .bf16⟩
  | .hbm, ⟨48, _⟩ => ⟨S2048x2048, .bf16⟩
  | .hbm, ⟨49, _⟩ => ⟨S2048x8x512, .bf16⟩
  | .hbm, ⟨50, _⟩ => ⟨S8x2048x512, .bf16⟩
  | .hbm, ⟨51, _⟩ => ⟨S2048x4x512, .bf16⟩
  | .hbm, ⟨52, _⟩ => ⟨S4x2048x512, .bf16⟩
  | .hbm, ⟨53, _⟩ => ⟨S2x16384x4096, .bf16⟩
  | .hbm, ⟨54, _⟩ => ⟨S2x32x2048x512, .bf16⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S8x2048x512, .bf16⟩
  | .local _ .vmem, ⟨7, _⟩ => ⟨S4x2048x512, .bf16⟩
  | .local _ .vmem, ⟨8, _⟩ => ⟨S2x512x128, .f32⟩
  | .local _ .vmem, ⟨9, _⟩ => ⟨S2x512x128, .f32⟩
  | .local _ .vmem, ⟨10, _⟩ => ⟨S2x512x128, .f32⟩
  | .local _ .vmem, ⟨11, _⟩ => ⟨S2x512x128, .f32⟩
  | .local _ .vmem, ⟨12, _⟩ => ⟨S1x512x4096, .bf16⟩
  | .local _ .vmem, ⟨13, _⟩ => ⟨S1x512x4096, .bf16⟩
  | .local _ .vmem, ⟨14, _⟩ => ⟨S1x1x2048x512, .bf16⟩
  | .local _ .vmem, ⟨15, _⟩ => ⟨S1x1x2048x512, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46_0 : Ref sig .tc := ⟨.hbm, 53, rfl⟩
abbrev main_v46_1 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S8x2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1x2048x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== ProjEvenRefIdeal.lean ====
abbrev S2x16384x2048 : Shape := ⟨3, ![2, 16384, 2048]⟩
abbrev S2x12288 : Shape := ⟨2, ![2, 12288]⟩
abbrev S2048x6144 : Shape := ⟨2, ![2048, 6144]⟩
abbrev S16384x64 : Shape := ⟨2, ![16384, 64]⟩
abbrev S2x1x12288 : Shape := ⟨3, ![2, 1, 12288]⟩
abbrev S2x1x2048 : Shape := ⟨3, ![2, 1, 2048]⟩
abbrev S_ : Shape := ⟨0, ![]⟩
abbrev S2x16384 : Shape := ⟨2, ![2, 16384]⟩
abbrev S2x16384x1 : Shape := ⟨3, ![2, 16384, 1]⟩
abbrev S2x16384x6144 : Shape := ⟨3, ![2, 16384, 6144]⟩
abbrev S2x16384x1024 : Shape := ⟨3, ![2, 16384, 1024]⟩
abbrev S2x16384x8x128 : Shape := ⟨4, ![2, 16384, 8, 128]⟩
abbrev S2x8x16384x128 : Shape := ⟨4, ![2, 8, 16384, 128]⟩
abbrev S2x8x16384x64 : Shape := ⟨4, ![2, 8, 16384, 64]⟩
abbrev S1x1x16384x64 : Shape := ⟨4, ![1, 1, 16384, 64]⟩
abbrev S2x16384x4096 : Shape := ⟨3, ![2, 16384, 4096]⟩
abbrev S2x32x512x2048 : Shape := ⟨4, ![2, 32, 512, 2048]⟩
abbrev S2x32x2048x512 : Shape := ⟨4, ![2, 32, 2048, 512]⟩

abbrev nBuf : Space → Nat
  | .hbm => 137
  | .vmem => 0
  | .smem => 0
  | _ => 0

abbrev hbmTy0_0 (i : Nat) : BufTy := match i % 128 with
  | 0 => ⟨S2x16384x2048, .f32⟩
  | 1 => ⟨S2x12288, .f32⟩
  | 2 => ⟨S2048x6144, .f32⟩
  | 3 => ⟨S16384x64, .f32⟩
  | 4 => ⟨S16384x64, .f32⟩
  | 5 => ⟨S2x1x12288, .f32⟩
  | 6 => ⟨S2x1x2048, .f32⟩
  | 7 => ⟨S2x1x2048, .f32⟩
  | 8 => ⟨S2x1x2048, .f32⟩
  | 9 => ⟨S2x1x2048, .f32⟩
  | 10 => ⟨S2x1x2048, .f32⟩
  | 11 => ⟨S2x1x2048, .f32⟩
  | 12 => ⟨S2x16384x2048, .f32⟩
  | 13 => ⟨S_, .f32⟩
  | 14 => ⟨S2x16384, .f32⟩
  | 15 => ⟨S2x16384x1, .f32⟩
  | 16 => ⟨S_, .f32⟩
  | 17 => ⟨S2x16384x1, .f32⟩
  | 18 => ⟨S2x16384x1, .f32⟩
  | 19 => ⟨S_, .f32⟩
  | 20 => ⟨S2x16384x1, .f32⟩
  | 21 => ⟨S2x16384x1, .f32⟩
  | 22 => ⟨S2x16384x1, .f32⟩
  | 23 => ⟨S2x16384x2048, .f32⟩
  | 24 => ⟨S2x16384x2048, .f32⟩
  | 25 => ⟨S_, .f32⟩
  | 26 => ⟨S2x1x2048, .f32⟩
  | 27 => ⟨S2x1x2048, .f32⟩
  | 28 => ⟨S2x16384x2048, .f32⟩
  | 29 => ⟨S2x16384x2048, .f32⟩
  | 30 => ⟨S2x16384x2048, .f32⟩
  | 31 => ⟨S2x16384x2048, .f32⟩
  | 32 => ⟨S2x16384x6144, .f32⟩
  | 33 => ⟨S2x16384x1024, .f32⟩
  | 34 => ⟨S2x16384x1024, .f32⟩
  | 35 => ⟨S2x16384x1024, .f32⟩
  | 36 => ⟨S2x16384x1024, .f32⟩
  | 37 => ⟨S2x16384x1024, .f32⟩
  | 38 => ⟨S2x16384x1024, .f32⟩
  | 39 => ⟨S_, .f32⟩
  | 40 => ⟨S_, .f32⟩
  | 41 => ⟨S_, .f32⟩
  | 42 => ⟨S_, .f32⟩
  | 43 => ⟨S2x16384x8x128, .f32⟩
  | 44 => ⟨S2x8x16384x128, .f32⟩
  | 45 => ⟨S2x8x16384x64, .f32⟩
  | 46 => ⟨S2x8x16384x64, .f32⟩
  | 47 => ⟨S1x1x16384x64, .f32⟩
  | 48 => ⟨S2x8x16384x64, .f32⟩
  | 49 => ⟨S2x8x16384x64, .f32⟩
  | 50 => ⟨S1x1x16384x64, .f32⟩
  | 51 => ⟨S2x8x16384x64, .f32⟩
  | 52 => ⟨S2x8x16384x64, .f32⟩
  | 53 => ⟨S2x8x16384x64, .f32⟩
  | 54 => ⟨S1x1x16384x64, .f32⟩
  | 55 => ⟨S2x8x16384x64, .f32⟩
  | 56 => ⟨S2x8x16384x64, .f32⟩
  | 57 => ⟨S1x1x16384x64, .f32⟩
  | 58 => ⟨S2x8x16384x64, .f32⟩
  | 59 => ⟨S2x8x16384x64, .f32⟩
  | 60 => ⟨S2x8x16384x64, .f32⟩
  | 61 => ⟨S2x8x16384x128, .f32⟩
  | 62 => ⟨S2x16384x8x128, .f32⟩
  | 63 => ⟨S2x16384x1024, .f32⟩
  | 64 => ⟨S2x16384x8x128, .f32⟩
  | 65 => ⟨S2x8x16384x128, .f32⟩
  | 66 => ⟨S2x8x16384x64, .f32⟩
  | 67 => ⟨S2x8x16384x64, .f32⟩
  | 68 => ⟨S1x1x16384x64, .f32⟩
  | 69 => ⟨S2x8x16384x64, .f32⟩
  | 70 => ⟨S2x8x16384x64, .f32⟩
  | 71 => ⟨S1x1x16384x64, .f32⟩
  | 72 => ⟨S2x8x16384x64, .f32⟩
  | 73 => ⟨S2x8x16384x64, .f32⟩
  | 74 => ⟨S2x8x16384x64, .f32⟩
  | 75 => ⟨S1x1x16384x64, .f32⟩
  | 76 => ⟨S2x8x16384x64, .f32⟩
  | 77 => ⟨S2x8x16384x64, .f32⟩
  | 78 => ⟨S1x1x16384x64, .f32⟩
  | 79 => ⟨S2x8x16384x64, .f32⟩
  | 80 => ⟨S2x8x16384x64, .f32⟩
  | 81 => ⟨S2x8x16384x64, .f32⟩
  | 82 => ⟨S2x8x16384x128, .f32⟩
  | 83 => ⟨S2x16384x8x128, .f32⟩
  | 84 => ⟨S2x16384x1024, .f32⟩
  | 85 => ⟨S2x16384x8x128, .f32⟩
  | 86 => ⟨S2x8x16384x128, .f32⟩
  | 87 => ⟨S2x8x16384x64, .f32⟩
  | 88 => ⟨S2x8x16384x64, .f32⟩
  | 89 => ⟨S1x1x16384x64, .f32⟩
  | 90 => ⟨S2x8x16384x64, .f32⟩
  | 91 => ⟨S2x8x16384x64, .f32⟩
  | 92 => ⟨S1x1x16384x64, .f32⟩
  | 93 => ⟨S2x8x16384x64, .f32⟩
  | 94 => ⟨S2x8x16384x64, .f32⟩
  | 95 => ⟨S2x8x16384x64, .f32⟩
  | 96 => ⟨S1x1x16384x64, .f32⟩
  | 97 => ⟨S2x8x16384x64, .f32⟩
  | 98 => ⟨S2x8x16384x64, .f32⟩
  | 99 => ⟨S1x1x16384x64, .f32⟩
  | 100 => ⟨S2x8x16384x64, .f32⟩
  | 101 => ⟨S2x8x16384x64, .f32⟩
  | 102 => ⟨S2x8x16384x64, .f32⟩
  | 103 => ⟨S2x8x16384x128, .f32⟩
  | 104 => ⟨S2x16384x8x128, .f32⟩
  | 105 => ⟨S2x16384x1024, .f32⟩
  | 106 => ⟨S2x16384x8x128, .f32⟩
  | 107 => ⟨S2x8x16384x128, .f32⟩
  | 108 => ⟨S2x8x16384x64, .f32⟩
  | 109 => ⟨S2x8x16384x64, .f32⟩
  | 110 => ⟨S1x1x16384x64, .f32⟩
  | 111 => ⟨S2x8x16384x64, .f32⟩
  | 112 => ⟨S2x8x16384x64, .f32⟩
  | 113 => ⟨S1x1x16384x64, .f32⟩
  | 114 => ⟨S2x8x16384x64, .f32⟩
  | 115 => ⟨S2x8x16384x64, .f32⟩
  | 116 => ⟨S2x8x16384x64, .f32⟩
  | 117 => ⟨S1x1x16384x64, .f32⟩
  | 118 => ⟨S2x8x16384x64, .f32⟩
  | 119 => ⟨S2x8x16384x64, .f32⟩
  | 120 => ⟨S1x1x16384x64, .f32⟩
  | 121 => ⟨S2x8x16384x64, .f32⟩
  | 122 => ⟨S2x8x16384x64, .f32⟩
  | 123 => ⟨S2x8x16384x64, .f32⟩
  | 124 => ⟨S2x8x16384x128, .f32⟩
  | 125 => ⟨S2x16384x8x128, .f32⟩
  | 126 => ⟨S2x16384x1024, .f32⟩
  | 127 => ⟨S2x16384x1024, .f32⟩
  | _ => ⟨S2x16384x2048, .f32⟩

abbrev hbmTy0_1 (i : Nat) : BufTy := match i % 128 with
  | 0 => ⟨S2x16384x1024, .f32⟩
  | 1 => ⟨S2x16384x1024, .f32⟩
  | 2 => ⟨S2x16384x1024, .f32⟩
  | 3 => ⟨S2x16384x4096, .f32⟩
  | 4 => ⟨S2x16384x2048, .f32⟩
  | 5 => ⟨S2x16384x4096, .bf16⟩
  | 6 => ⟨S2x32x512x2048, .f32⟩
  | 7 => ⟨S2x32x2048x512, .f32⟩
  | 8 => ⟨S2x32x2048x512, .bf16⟩
  | _ => ⟨S2x16384x2048, .f32⟩

abbrev hbmTy (i : Nat) : BufTy := match i / 128 with
  | 0 => hbmTy0_0 i
  | 1 => hbmTy0_1 i
  | _ => ⟨S2x16384x2048, .f32⟩

abbrev bufTy : (tb : Table) → Fin (tcTables nBuf tb) → BufTy
  | .hbm, ⟨i, _⟩ => hbmTy i
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩

abbrev nD : Nat := 1
abbrev τ : Topo := Topo.v7x

variable {F : FTy → Type} [FloatOps F]
-- ==== ProjOdd.lean ====
abbrev S2x16384x2048 : Shape := ⟨3, ![2, 16384, 2048]⟩
abbrev S2x12288 : Shape := ⟨2, ![2, 12288]⟩
abbrev S2048x2560 : Shape := ⟨2, ![2048, 2560]⟩
abbrev S2560 : Shape := ⟨1, ![2560]⟩
abbrev S16384x32 : Shape := ⟨2, ![16384, 32]⟩
abbrev S2x2048 : Shape := ⟨2, ![2, 2048]⟩
abbrev S2x1x2048 : Shape := ⟨3, ![2, 1, 2048]⟩
abbrev S_ : Shape := ⟨0, ![]⟩
abbrev S16384x64 : Shape := ⟨2, ![16384, 64]⟩
abbrev S1x16384x1x64 : Shape := ⟨4, ![1, 16384, 1, 64]⟩
abbrev S1x16384x2x64 : Shape := ⟨4, ![1, 16384, 2, 64]⟩
abbrev S16384x128 : Shape := ⟨2, ![16384, 128]⟩
abbrev S1x16384x128 : Shape := ⟨3, ![1, 16384, 128]⟩
abbrev S2x16384x128 : Shape := ⟨3, ![2, 16384, 128]⟩
abbrev S2048x2048 : Shape := ⟨2, ![2048, 2048]⟩
abbrev S2048x256 : Shape := ⟨2, ![2048, 256]⟩
abbrev S2048 : Shape := ⟨1, ![2048]⟩
abbrev S256 : Shape := ⟨1, ![256]⟩
abbrev S2048x4x1x64 : Shape := ⟨4, ![2048, 4, 1, 64]⟩
abbrev S2048x4x2x64 : Shape := ⟨4, ![2048, 4, 2, 64]⟩
abbrev S2048x512 : Shape := ⟨2, ![2048, 512]⟩
abbrev S4x1x64 : Shape := ⟨3, ![4, 1, 64]⟩
abbrev S4x2x64 : Shape := ⟨3, ![4, 2, 64]⟩
abbrev S512 : Shape := ⟨1, ![512]⟩
abbrev S2048x5x512 : Shape := ⟨3, ![2048, 5, 512]⟩
abbrev S5x2048x512 : Shape := ⟨3, ![5, 2048, 512]⟩
abbrev S2048x1x256 : Shape := ⟨3, ![2048, 1, 256]⟩
abbrev S1x2048x256 : Shape := ⟨3, ![1, 2048, 256]⟩
abbrev S1x2560 : Shape := ⟨2, ![1, 2560]⟩
abbrev S1x256 : Shape := ⟨2, ![1, 256]⟩
abbrev S2x16384x2560 : Shape := ⟨3, ![2, 16384, 2560]⟩
abbrev S2x32x256x512 : Shape := ⟨4, ![2, 32, 256, 512]⟩
abbrev S1x512x2048 : Shape := ⟨3, ![1, 512, 2048]⟩
abbrev S1x1x2048 : Shape := ⟨3, ![1, 1, 2048]⟩
abbrev S2x512x128 : Shape := ⟨3, ![2, 512, 128]⟩
abbrev S1x512x2560 : Shape := ⟨3, ![1, 512, 2560]⟩
abbrev S1x1x256x512 : Shape := ⟨4, ![1, 1, 256, 512]⟩
abbrev S512x2048 : Shape := ⟨2, ![512, 2048]⟩
abbrev S1x2048 : Shape := ⟨2, ![1, 2048]⟩
abbrev S512x1 : Shape := ⟨2, ![512, 1]⟩
abbrev S1x2048x512 : Shape := ⟨3, ![1, 2048, 512]⟩
abbrev S512x512 : Shape := ⟨2, ![512, 512]⟩
abbrev S1x512 : Shape := ⟨2, ![1, 512]⟩
abbrev S1x512x128 : Shape := ⟨3, ![1, 512, 128]⟩
abbrev S512x128 : Shape := ⟨2, ![512, 128]⟩
abbrev S512x256 : Shape := ⟨2, ![512, 256]⟩
abbrev S256x512 : Shape := ⟨2, ![256, 512]⟩

abbrev nBuf : Space → Nat
  | .hbm => 65
  | .vmem => 18
  | .smem => 0
  | _ => 0

abbrev bufTy : (tb : Table) → Fin (tcTables nBuf tb) → BufTy
  | .hbm, ⟨0, _⟩ => ⟨S2x16384x2048, .f32⟩
  | .hbm, ⟨1, _⟩ => ⟨S2x12288, .f32⟩
  | .hbm, ⟨2, _⟩ => ⟨S2048x2560, .f32⟩
  | .hbm, ⟨3, _⟩ => ⟨S2560, .f32⟩
  | .hbm, ⟨4, _⟩ => ⟨S16384x32, .f32⟩
  | .hbm, ⟨5, _⟩ => ⟨S16384x32, .f32⟩
  | .hbm, ⟨6, _⟩ => ⟨S2x2048, .f32⟩
  | .hbm, ⟨7, _⟩ => ⟨S2x1x2048, .f32⟩
  | .hbm, ⟨8, _⟩ => ⟨S2x2048, .f32⟩
  | .hbm, ⟨9, _⟩ => ⟨S2x1x2048, .f32⟩
  | .hbm, ⟨10, _⟩ => ⟨S2x2048, .f32⟩
  | .hbm, ⟨11, _⟩ => ⟨S2x1x2048, .f32⟩
  | .hbm, ⟨12, _⟩ => ⟨S2x2048, .f32⟩
  | .hbm, ⟨13, _⟩ => ⟨S2x1x2048, .f32⟩
  | .hbm, ⟨14, _⟩ => ⟨S2x2048, .f32⟩
  | .hbm, ⟨15, _⟩ => ⟨S2x1x2048, .f32⟩
  | .hbm, ⟨16, _⟩ => ⟨S2x2048, .f32⟩
  | .hbm, ⟨17, _⟩ => ⟨S2x1x2048, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S16384x64, .f32⟩
  | .hbm, ⟨23, _⟩ => ⟨S1x16384x1x64, .f32⟩
  | .hbm, ⟨24, _⟩ => ⟨S1x16384x2x64, .f32⟩
  | .hbm, ⟨25, _⟩ => ⟨S16384x128, .f32⟩
  | .hbm, ⟨26, _⟩ => ⟨S16384x32, .f32⟩
  | .hbm, ⟨27, _⟩ => ⟨S16384x64, .f32⟩
  | .hbm, ⟨28, _⟩ => ⟨S1x16384x1x64, .f32⟩
  | .hbm, ⟨29, _⟩ => ⟨S1x16384x2x64, .f32⟩
  | .hbm, ⟨30, _⟩ => ⟨S16384x128, .f32⟩
  | .hbm, ⟨31, _⟩ => ⟨S16384x128, .f32⟩
  | .hbm, ⟨32, _⟩ => ⟨S16384x128, .f32⟩
  | .hbm, ⟨33, _⟩ => ⟨S1x16384x128, .f32⟩
  | .hbm, ⟨34, _⟩ => ⟨S1x16384x128, .f32⟩
  | .hbm, ⟨35, _⟩ => ⟨S2x16384x128, .f32⟩
  | .hbm, ⟨36, _⟩ => ⟨S16384x128, .f32⟩
  | .hbm, ⟨37, _⟩ => ⟨S16384x128, .f32⟩
  | .hbm, ⟨38, _⟩ => ⟨S1x16384x128, .f32⟩
  | .hbm, ⟨39, _⟩ => ⟨S1x16384x128, .f32⟩
  | .hbm, ⟨40, _⟩ => ⟨S2x16384x128, .f32⟩
  | .hbm, ⟨41, _⟩ => ⟨S2048x2048, .f32⟩
  | .hbm, ⟨42, _⟩ => ⟨S2048x256, .f32⟩
  | .hbm, ⟨43, _⟩ => ⟨S2048x256, .f32⟩
  | .hbm, ⟨44, _⟩ => ⟨S2048, .f32⟩
  | .hbm, ⟨45, _⟩ => ⟨S256, .f32⟩
  | .hbm, ⟨46, _⟩ => ⟨S256, .f32⟩
  | .hbm, ⟨47, _⟩ => ⟨S2048x4x1x64, .f32⟩
  | .hbm, ⟨48, _⟩ => ⟨S2048x4x2x64, .f32⟩
  | .hbm, ⟨49, _⟩ => ⟨S2048x512, .f32⟩
  | .hbm, ⟨50, _⟩ => ⟨S2048x2560, .f32⟩
  | .hbm, ⟨51, _⟩ => ⟨S4x1x64, .f32⟩
  | .hbm, ⟨52, _⟩ => ⟨S4x2x64, .f32⟩
  | .hbm, ⟨53, _⟩ => ⟨S512, .f32⟩
  | .hbm, ⟨54, _⟩ => ⟨S2560, .f32⟩
  | .hbm, ⟨55, _⟩ => ⟨S2048x2560, .bf16⟩
  | .hbm, ⟨56, _⟩ => ⟨S2048x256, .bf16⟩
  | .hbm, ⟨57, _⟩ => ⟨S2048x5x512, .bf16⟩
  | .hbm, ⟨58, _⟩ => ⟨S5x2048x512, .bf16⟩
  | .hbm, ⟨59, _⟩ => ⟨S2048x1x256, .bf16⟩
  | .hbm, ⟨60, _⟩ => ⟨S1x2048x256, .bf16⟩
  | .hbm, ⟨61, _⟩ => ⟨S1x2560, .f32⟩
  | .hbm, ⟨62, _⟩ => ⟨S1x256, .f32⟩
  | .hbm, ⟨63, _⟩ => ⟨S2x16384x2560, .bf16⟩
  | .hbm, ⟨64, _⟩ => ⟨S2x32x256x512, .bf16⟩
  | .local _ .vmem, ⟨0, _⟩ => ⟨S1x512x2048, .f32⟩
  | .local _ .vmem, ⟨1, _⟩ => ⟨S1x512x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S5x2048x512, .bf16⟩
  | .local _ .vmem, ⟨7, _⟩ => ⟨S1x2048x256, .bf16⟩
  | .local _ .vmem, ⟨8, _⟩ => ⟨S1x2560, .f32⟩
  | .local _ .vmem, ⟨9, _⟩ => ⟨S1x256, .f32⟩
  | .local _ .vmem, ⟨10, _⟩ => ⟨S2x512x128, .f32⟩
  | .local _ .vmem, ⟨11, _⟩ => ⟨S2x512x128, .f32⟩
  | .local _ .vmem, ⟨12, _⟩ => ⟨S2x512x128, .f32⟩
  | .local _ .vmem, ⟨13, _⟩ => ⟨S2x512x128, .f32⟩
  | .local _ .vmem, ⟨14, _⟩ => ⟨S1x512x2560, .bf16⟩
  | .local _ .vmem, ⟨15, _⟩ => ⟨S1x512x2560, .bf16⟩
  | .local _ .vmem, ⟨16, _⟩ => ⟨S1x1x256x512, .bf16⟩
  | .local _ .vmem, ⟨17, _⟩ => ⟨S1x1x256x512, .bf16⟩
  | _, _ => ⟨S2x16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_v53 : Ref sig .tc := ⟨.hbm, 61, rfl⟩
abbrev main_v54 : Ref sig .tc := ⟨.hbm, 62, rfl⟩
abbrev main_v55_0 : Ref sig .tc := ⟨.hbm, 63, rfl⟩
abbrev main_v55_1 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17

abbrev nD : Nat := 1
abbrev τ : Topo := Topo.v7x

variable {F : FTy → Type} [FloatOps F]

abbrev grid0 : Pipeline.Grid := ⟨2, ![2, 32], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S5x2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S2x512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S2x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x512x2560 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ProjOddRefIdeal.lean ====
abbrev S2x16384x2048 : Shape := ⟨3, ![2, 16384, 2048]⟩
abbrev S2x12288 : Shape := ⟨2, ![2, 12288]⟩
abbrev S2048x2560 : Shape := ⟨2, ![2048, 2560]⟩
abbrev S2560 : Shape := ⟨1, ![2560]⟩
abbrev S16384x32 : Shape := ⟨2, ![16384, 32]⟩
abbrev S2x1x12288 : Shape := ⟨3, ![2, 1, 12288]⟩
abbrev S2x1x2048 : Shape := ⟨3, ![2, 1, 2048]⟩
abbrev S_ : Shape := ⟨0, ![]⟩
abbrev S2x16384 : Shape := ⟨2, ![2, 16384]⟩
abbrev S2x16384x1 : Shape := ⟨3, ![2, 16384, 1]⟩
abbrev S2x16384x2560 : Shape := ⟨3, ![2, 16384, 2560]⟩
abbrev S1x1x2560 : Shape := ⟨3, ![1, 1, 2560]⟩
abbrev S2x16384x256 : Shape := ⟨3, ![2, 16384, 256]⟩
abbrev S2x16384x32x64 : Shape := ⟨4, ![2, 16384, 32, 64]⟩
abbrev S2x32x16384x64 : Shape := ⟨4, ![2, 32, 16384, 64]⟩
abbrev S2x32x16384x32 : Shape := ⟨4, ![2, 32, 16384, 32]⟩
abbrev S1x1x16384x32 : Shape := ⟨4, ![1, 1, 16384, 32]⟩
abbrev S2x16384x4x64 : Shape := ⟨4, ![2, 16384, 4, 64]⟩
abbrev S2x4x16384x64 : Shape := ⟨4, ![2, 4, 16384, 64]⟩
abbrev S2x4x16384x32 : Shape := ⟨4, ![2, 4, 16384, 32]⟩
abbrev S2x4x2x16384x64 : Shape := ⟨5, ![2, 4, 2, 16384, 64]⟩
abbrev S2x8x16384x64 : Shape := ⟨4, ![2, 8, 16384, 64]⟩
abbrev S2x16384x8x64 : Shape := ⟨4, ![2, 16384, 8, 64]⟩
abbrev S2x16384x512 : Shape := ⟨3, ![2, 16384, 512]⟩
abbrev S2x32x512x256 : Shape := ⟨4, ![2, 32, 512, 256]⟩
abbrev S2x32x256x512 : Shape := ⟨4, ![2, 32, 256, 512]⟩

abbrev nBuf : Space → Nat
  | .hbm => 95
  | .vmem => 0
  | .smem => 0
  | _ => 0

abbrev bufTy : (tb : Table) → Fin (tcTables nBuf tb) → BufTy
  | .hbm, ⟨0, _⟩ => ⟨S2x16384x2048, .f32⟩
  | .hbm, ⟨1, _⟩ => ⟨S2x12288, .f32⟩
  | .hbm, ⟨2, _⟩ => ⟨S2048x2560, .f32⟩
  | .hbm, ⟨3, _⟩ => ⟨S2560, .f32⟩
  | .hbm, ⟨4, _⟩ => ⟨S16384x32, .f32⟩
  | .hbm, ⟨5, _⟩ => ⟨S16384x32, .f32⟩
  | .hbm, ⟨6, _⟩ => ⟨S2x1x12288, .f32⟩
  | .hbm, ⟨7, _⟩ => ⟨S2x1x2048, .f32⟩
  | .hbm, ⟨8, _⟩ => ⟨S2x1x2048, .f32⟩
  | .hbm, ⟨9, _⟩ => ⟨S2x1x2048, .f32⟩
  | .hbm, ⟨10, _⟩ => ⟨S2x1x2048, .f32⟩
  | .hbm, ⟨11, _⟩ => ⟨S2x1x2048, .f32⟩
  | .hbm, ⟨12, _⟩ => ⟨S2x1x2048, .f32⟩
  | .hbm, ⟨13, _⟩ => ⟨S2x16384x2048, .f32⟩
  | .hbm, ⟨14, _⟩ => ⟨S_, .f32⟩
  | .hbm, ⟨15, _⟩ => ⟨S2x16384, .f32⟩
  | .hbm, ⟨16, _⟩ => ⟨S2x16384x1, .f32⟩
  | .hbm, ⟨17, _⟩ => ⟨S_, .f32⟩
  | .hbm, ⟨18, _⟩ => ⟨S2x16384x1, .f32⟩
  | .hbm, ⟨19, _⟩ => ⟨S2x16384x1, .f32⟩
  | .hbm, ⟨20, _⟩ => ⟨S_, .f32⟩
  | .hbm, ⟨21, _⟩ => ⟨S2x16384x1, .f32⟩
  | .hbm, ⟨22, _⟩ => ⟨S2x16384x1, .f32⟩
  | .hbm, ⟨23, _⟩ => ⟨S2x16384x1, .f32⟩
  | .hbm, ⟨24, _⟩ => ⟨S2x16384x2048, .f32⟩
  | .hbm, ⟨25, _⟩ => ⟨S2x16384x2048, .f32⟩
  | .hbm, ⟨26, _⟩ => ⟨S_, .f32⟩
  | .hbm, ⟨27, _⟩ => ⟨S2x1x2048, .f32⟩
  | .hbm, ⟨28, _⟩ => ⟨S2x1x2048, .f32⟩
  | .hbm, ⟨29, _⟩ => ⟨S2x16384x2048, .f32⟩
  | .hbm, ⟨30, _⟩ => ⟨S2x16384x2048, .f32⟩
  | .hbm, ⟨31, _⟩ => ⟨S2x16384x2048, .f32⟩
  | .hbm, ⟨32, _⟩ => ⟨S2x16384x2048, .f32⟩
  | .hbm, ⟨33, _⟩ => ⟨S2x16384x2560, .f32⟩
  | .hbm, ⟨34, _⟩ => ⟨S1x1x2560, .f32⟩
  | .hbm, ⟨35, _⟩ => ⟨S2x16384x2560, .f32⟩
  | .hbm, ⟨36, _⟩ => ⟨S2x16384x2560, .f32⟩
  | .hbm, ⟨37, _⟩ => ⟨S2x16384x2048, .f32⟩
  | .hbm, ⟨38, _⟩ => ⟨S2x16384x256, .f32⟩
  | .hbm, ⟨39, _⟩ => ⟨S2x16384x256, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S2x16384x32x64, .f32⟩
  | .hbm, ⟨45, _⟩ => ⟨S2x32x16384x64, .f32⟩
  | .hbm, ⟨46, _⟩ => ⟨S2x32x16384x32, .f32⟩
  | .hbm, ⟨47, _⟩ => ⟨S2x32x16384x32, .f32⟩
  | .hbm, ⟨48, _⟩ => ⟨S1x1x16384x32, .f32⟩
  | .hbm, ⟨49, _⟩ => ⟨S2x32x16384x32, .f32⟩
  | .hbm, ⟨50, _⟩ => ⟨S2x32x16384x32, .f32⟩
  | .hbm, ⟨51, _⟩ => ⟨S1x1x16384x32, .f32⟩
  | .hbm, ⟨52, _⟩ => ⟨S2x32x16384x32, .f32⟩
  | .hbm, ⟨53, _⟩ => ⟨S2x32x16384x32, .f32⟩
  | .hbm, ⟨54, _⟩ => ⟨S2x32x16384x32, .f32⟩
  | .hbm, ⟨55, _⟩ => ⟨S1x1x16384x32, .f32⟩
  | .hbm, ⟨56, _⟩ => ⟨S2x32x16384x32, .f32⟩
  | .hbm, ⟨57, _⟩ => ⟨S2x32x16384x32, .f32⟩
  | .hbm, ⟨58, _⟩ => ⟨S1x1x16384x32, .f32⟩
  | .hbm, ⟨59, _⟩ => ⟨S2x32x16384x32, .f32⟩
  | .hbm, ⟨60, _⟩ => ⟨S2x32x16384x32, .f32⟩
  | .hbm, ⟨61, _⟩ => ⟨S2x32x16384x32, .f32⟩
  | .hbm, ⟨62, _⟩ => ⟨S2x32x16384x64, .f32⟩
  | .hbm, ⟨63, _⟩ => ⟨S2x16384x4x64, .f32⟩
  | .hbm, ⟨64, _⟩ => ⟨S2x4x16384x64, .f32⟩
  | .hbm, ⟨65, _⟩ => ⟨S2x4x16384x32, .f32⟩
  | .hbm, ⟨66, _⟩ => ⟨S2x4x16384x32, .f32⟩
  | .hbm, ⟨67, _⟩ => ⟨S1x1x16384x32, .f32⟩
  | .hbm, ⟨68, _⟩ => ⟨S2x4x16384x32, .f32⟩
  | .hbm, ⟨69, _⟩ => ⟨S2x4x16384x32, .f32⟩
  | .hbm, ⟨70, _⟩ => ⟨S1x1x16384x32, .f32⟩
  | .hbm, ⟨71, _⟩ => ⟨S2x4x16384x32, .f32⟩
  | .hbm, ⟨72, _⟩ => ⟨S2x4x16384x32, .f32⟩
  | .hbm, ⟨73, _⟩ => ⟨S2x4x16384x32, .f32⟩
  | .hbm, ⟨74, _⟩ => ⟨S1x1x16384x32, .f32⟩
  | .hbm, ⟨75, _⟩ => ⟨S2x4x16384x32, .f32⟩
  | .hbm, ⟨76, _⟩ => ⟨S2x4x16384x32, .f32⟩
  | .hbm, ⟨77, _⟩ => ⟨S1x1x16384x32, .f32⟩
  | .hbm, ⟨78, _⟩ => ⟨S2x4x16384x32, .f32⟩
  | .hbm, ⟨79, _⟩ => ⟨S2x4x16384x32, .f32⟩
  | .hbm, ⟨80, _⟩ => ⟨S2x4x16384x32, .f32⟩
  | .hbm, ⟨81, _⟩ => ⟨S2x4x16384x64, .f32⟩
  | .hbm, ⟨82, _⟩ => ⟨S2x16384x32x64, .f32⟩
  | .hbm, ⟨83, _⟩ => ⟨S2x16384x2048, .f32⟩
  | .hbm, ⟨84, _⟩ => ⟨S2x16384x2048, .f32⟩
  | .hbm, ⟨85, _⟩ => ⟨S2x16384x2048, .f32⟩
  | .hbm, ⟨86, _⟩ => ⟨S2x4x2x16384x64, .f32⟩
  | .hbm, ⟨87, _⟩ => ⟨S2x8x16384x64, .f32⟩
  | .hbm, ⟨88, _⟩ => ⟨S2x16384x8x64, .f32⟩
  | .hbm, ⟨89, _⟩ => ⟨S2x16384x512, .f32⟩
  | .hbm, ⟨90, _⟩ => ⟨S2x16384x2560, .f32⟩
  | .hbm, ⟨91, _⟩ => ⟨S2x16384x2560, .bf16⟩
  | .hbm, ⟨92, _⟩ => ⟨S2x32x512x256, .f32⟩
  | .hbm, ⟨93, _⟩ => ⟨S2x32x256x512, .f32⟩
  | .hbm, ⟨94, _⟩ => ⟨S2x32x256x512, .bf16⟩
  | _, _ => ⟨S2x16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_v80 : Ref sig .tc := ⟨.hbm, 92, rfl⟩
abbrev main_v81 : Ref sig .tc := ⟨.hbm, 93, rfl⟩
abbrev main_v82 : Ref sig .tc := ⟨.hbm, 94, rfl⟩

abbrev nD : Nat := 1
abbrev τ : Topo := Topo.v7x

variable {F : FTy → Type} [FloatOps F]
-- ==== Proof.FfnStep.lean ====
module

public import proofs.«01_k».proof.Proof.Gen.FfnIdeal.Value
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem
open Idealize.ShloMosaic.Pipeline (Dat)
namespace Cert.FfnIdeal.Step
open Cert.FfnIdeal Cert.FfnIdeal.Gen

/-- One row of a block, normalised by its root mean square and modulated. -/
def hBlk (x : FVec Ideal S1x1024x2048 .f32) (sc sh : FVec Ideal S1x1x2048 .f32) (r : Fin 1024) (d : Fin 2048) : EReal :=
  x (ix3 0 r d) * Ideal.rsqrt (Ideal.div (∑ e : Fin 2048, x (ix3 0 r e) * x (ix3 0 r e)) (Ideal.ofBits .f32 0x45000000#32)
    + Ideal.ofBits .f32 0x358637BD#32) * (1 + sc (ix3 0 0 d)) + sh (ix3 0 0 d)

/-- The gated activation of hidden column `j` of one chunk, of a row `h`. -/
def actBlk (h : Fin 2048 → EReal) (wg wu : FVec Ideal S2048x512 .bf16) (j : Fin 512) : EReal :=
  (∑ d : Fin 2048, h d * wg (ix2 d j)) * Ideal.logistic (∑ d : Fin 2048, h d * wg (ix2 d j)) * (∑ d : Fin 2048, h d * wu (ix2 d j))

/-- One chunk's contribution to output column `e`, of a row `h`. -/
def partBlk (h : Fin 2048 → EReal) (wg wu : FVec Ideal S2048x512 .bf16) (wo : FVec Ideal S512x2048 .bf16) (e : Fin 2048) : EReal :=
  ∑ j : Fin 512, actBlk h wg wu j * wo (ix2 j e)

/-- A row `y` normalised by its root mean square and scaled by the final weight. -/
def finBlk (y : Fin 2048 → EReal) (fw : FVec Ideal S1x2048 .f32) (e : Fin 2048) : EReal :=
  y e * Ideal.rsqrt (Ideal.div (∑ d : Fin 2048, y d * y d) (Ideal.ofBits .f32 0x45000000#32) + Ideal.ofBits .f32 0x358637BD#32) * fw (ix2 0 e)

/-- Row `r` of what the rows' scratch holds. -/
def rowOf (s : FVec Ideal S1024x2048 .bf16) (r : Fin 1024) (d : Fin 2048) : EReal := s (ix2 r d)

/-- Row `r`, column `e` of what an output block holds. -/
def outOf (o : FVec Ideal S1x1024x2048 .f32) (r : Fin 1024) (e : Fin 2048) : EReal := o (ix3 0 r e)

/-- The residual row: the input plus the gate times the accumulated product. -/
def resBlk (x : FVec Ideal S1x1024x2048 .f32) (g : FVec Ideal S1x1x2048 .f32) (a : Fin 2048 → EReal) (r : Fin 1024) (e : Fin 2048) : EReal :=
  x (ix3 0 r e) + g (ix3 0 0 e) * a e

variable (m : (ℓ : Loc nD τ sig) → Buf (Elt Ideal) ℓ)

/-- After the first chunk the rows' scratch holds the normalised rows. -/
theorem sA (c : Dev nD) (t : Fin cfg0.N) (k0 : t.val % 11 = 0) (k1 : ¬(1 ≤ t.val % 11 ∧ t.val % 11 ≤ 9)) (k2 : ¬t.val % 11 = 10)
    (r : Fin 1024) (d : Fin 2048) :
    rowOf (outsAt0 m c t.val t.isLt).2 r d = hBlk (iblk m c 0 t) (iblk m c 1 t) (iblk m c 2 t) r d := by
  unfold rowOf
  rw [outsAt0_A m c t k0 k1 k2]
  frame_out
  canon_tiles x h
  all_goals (simp only [ix2_0, ix2_1, ix3_0, ix3_1, ix3_2] at h0 h1; try simp only [ix3_2] at h2
             open_payloads; pointwise [hBlk]; blk_point)

/-- After the first chunk the output block holds that chunk's contribution. -/
theorem oA (c : Dev nD) (t : Fin cfg0.N) (k0 : t.val % 11 = 0) (k1 : ¬(1 ≤ t.val % 11 ∧ t.val % 11 ≤ 9)) (k2 : ¬t.val % 11 = 10)
    (r : Fin 1024) (e : Fin 2048) :
    outOf (outsAt0 m c t.val t.isLt).1 r e = partBlk (hBlk (iblk m c 0 t) (iblk m c 1 t) (iblk m c 2 t) r) (iblk m c 4 t) (iblk m c 5 t) (iblk m c 6 t) e := by
  unfold outOf
  rw [outsAt0_A m c t k0 k1 k2]
  frame_out
  canon_tiles x h
  all_goals (simp only [ix2_0, ix2_1, ix3_0, ix3_1, ix3_2] at h0 h1; try simp only [ix3_2] at h2
             open_payloads; pointwise [hBlk, partBlk, actBlk]; blk_point)

/-- What the rows' scratch holds, written whole and read back. -/
theorem read_scr (h : (Memref.whole (cc0_scratch0 : Ref sig .tc) : Memref sig .tc _ _ _).IsWhole) (p : Vec Ideal S1024x2048 .bf16) :
    View.read (Elt Ideal) (View.whole cc0_scratch0) (h.unread p) = p := h.read_unread _

/-- A middle chunk leaves the rows' scratch as it was. -/
theorem sB (c : Dev nD) (t : Fin cfg0.N) (k0 : ¬t.val % 11 = 0) (k1 : (1 ≤ t.val % 11 ∧ t.val % 11 ≤ 9)) (k2 : ¬t.val % 11 = 10) :
    (outsAt0 m c t.val t.isLt).2 = (outsAt0 m c (t.val - 1) (Nat.lt_of_le_of_lt (Nat.sub_le _ _) t.isLt)).2 := by
  rw [outsAt0_B m c t k0 k1 k2]
  generalize outsAt0 m c (t.val - 1) (Nat.lt_of_le_of_lt (Nat.sub_le _ _) t.isLt) = p
  rfl

/-- A middle chunk adds its contribution to the output block. -/
theorem oB (c : Dev nD) (t : Fin cfg0.N) (k0 : ¬t.val % 11 = 0) (k1 : (1 ≤ t.val % 11 ∧ t.val % 11 ≤ 9)) (k2 : ¬t.val % 11 = 10)
    (r : Fin 1024) (e : Fin 2048) :
    outOf (outsAt0 m c t.val t.isLt).1 r e = outOf (outsAt0 m c (t.val - 1) (Nat.lt_of_le_of_lt (Nat.sub_le _ _) t.isLt)).1 r e
      + partBlk (rowOf (outsAt0 m c (t.val - 1) (Nat.lt_of_le_of_lt (Nat.sub_le _ _) t.isLt)).2 r) (iblk m c 4 t) (iblk m c 5 t) (iblk m c 6 t) e := by
  rw [outsAt0_B m c t k0 k1 k2]
  generalize outsAt0 m c (t.val - 1) (Nat.lt_of_le_of_lt (Nat.sub_le _ _) t.isLt) = p
  unfold outOf
  frame_out
  simp only [read_scr]
  canon_tiles x h
  all_goals (simp only [ix2_0, ix2_1, ix3_0, ix3_1, ix3_2] at h0 h1; try simp only [ix3_2] at h2
             open_payloads; pointwise [partBlk, actBlk, rowOf]; blk_point)

/-- The last chunk adds its contribution and leaves the finished, normalised rows. -/
theorem oC (c : Dev nD) (t : Fin cfg0.N) (k0 : ¬t.val % 11 = 0) (k1 : ¬(1 ≤ t.val % 11 ∧ t.val % 11 ≤ 9)) (k2 : t.val % 11 = 10)
    (r : Fin 1024) (e : Fin 2048) :
    outOf (outsAt0 m c t.val t.isLt).1 r e = finBlk (resBlk (iblk m c 0 t) (iblk m c 3 t) (fun e => outOf (outsAt0 m c (t.val - 1) (Nat.lt_of_le_of_lt (Nat.sub_le _ _) t.isLt)).1 r e
      + partBlk (rowOf (outsAt0 m c (t.val - 1) (Nat.lt_of_le_of_lt (Nat.sub_le _ _) t.isLt)).2 r) (iblk m c 4 t) (iblk m c 5 t) (iblk m c 6 t) e) r) (iblk m c 7 t) e := by
  rw [outsAt0_C m c t k0 k1 k2]
  generalize outsAt0 m c (t.val - 1) (Nat.lt_of_le_of_lt (Nat.sub_le _ _) t.isLt) = p
  unfold outOf
  frame_out
  simp only [read_scr]
  canon_tiles x h
  all_goals (simp only [ix2_0, ix2_1, ix3_0, ix3_1, ix3_2] at h0 h1; try simp only [ix3_2] at h2
             open_payloads; pointwise [partBlk, actBlk, finBlk, rowOf, resBlk]; blk_point)
end Cert.FfnIdeal.Step
end
-- ==== Proof.FfnFold.lean ====
module

public import proofs.«01_k».proof.Proof.FfnStep
public import Idealize.ShloMosaic.Lib.Claim

@[expose] public section

set_option maxRecDepth 16384

noncomputable section
open Idealize.ShloMosaic Idealize.ShloMosaic.TcCoe Idealize.SL.Sem
open Idealize.ShloMosaic.Pipeline (Dat)
namespace Cert.FfnIdeal.Step
open Cert.FfnIdeal Cert.FfnIdeal.Gen

/-- The block each window shows at grid point `t`. -/
theorem idx : ∀ t : Fin cfg0.N, win0_0.index t = ![t.val / 176, t.val / 11 % 16, 0] ∧ win0_1.index t = ![t.val / 176, 0, 0]
    ∧ win0_2.index t = ![t.val / 176, 0, 0] ∧ win0_3.index t = ![t.val / 176, 0, 0] ∧ win0_4.index t = ![0, t.val % 11]
    ∧ win0_5.index t = ![0, 11 + t.val % 11] ∧ win0_6.index t = ![t.val % 11, 0] ∧ win0_7.index t = ![0, 0]
    ∧ win0_8.index t = ![t.val / 176, t.val / 11 % 16, 0] :=
  (by decide +kernel : ∀ t : Fin grid0.N, _)

variable (m : (ℓ : Loc nD τ sig) → Buf (Elt Ideal) ℓ)

/-- The batch entry a point works on. -/
abbrev bOf (t : Fin cfg0.N) : Fin 2 := ⟨t.val / 176, by have := lt_of_lt_of_eq t.isLt (show cfg0.N = 352 from N_0); omega⟩
/-- The sequence row that row `r` of a point's block is. -/
abbrev sOf (t : Fin cfg0.N) (r : Fin 1024) : Fin 16384 := ⟨t.val / 11 % 16 * 1024 + r.val, by have := r.isLt; omega⟩
/-- Hidden column `j` of the chunk a point works on. -/
abbrev kOf (t : Fin cfg0.N) (j : Fin 512) : Fin 5632 := ⟨t.val % 11 * 512 + j.val, by have := j.isLt; omega⟩

/-- A point's rows of the residual stream. -/
theorem b0 (c : Dev nD) (t : Fin cfg0.N) (r : Fin 1024) (d : Fin 2048) :
    iblk m c 0 t (ix3 0 r d) = m ((c : Thread nD τ).loc main_arg0) (ix3 (bOf t) (sOf t r) d) := by
  blk_simp [iblk]
  entry_read
  blk_ext [idx t]

/-- A point's modulation scale. -/
theorem b1 (c : Dev nD) (t : Fin cfg0.N) (d : Fin 2048) :
    iblk m c 1 t (ix3 0 0 d) = m ((c : Thread nD τ).loc main_arg1) (ix2 (bOf t) ⟨8192 + d.val, by have := d.isLt; omega⟩) := by
  blk_simp [iblk]
  entry_read
  pointwise
  blk_ext [idx t]

/-- A point's modulation shift. -/
theorem b2 (c : Dev nD) (t : Fin cfg0.N) (d : Fin 2048) :
    iblk m c 2 t (ix3 0 0 d) = m ((c : Thread nD τ).loc main_arg1) (ix2 (bOf t) ⟨6144 + d.val, by have := d.isLt; omega⟩) := by
  blk_simp [iblk]
  entry_read
  pointwise
  blk_ext [idx t]

/-- A point's modulation gate. -/
theorem b3 (c : Dev nD) (t : Fin cfg0.N) (d : Fin 2048) :
    iblk m c 3 t (ix3 0 0 d) = m ((c : Thread nD τ).loc main_arg1) (ix2 (bOf t) ⟨10240 + d.val, by have := d.isLt; omega⟩) := by
  blk_simp [iblk]
  entry_read
  pointwise
  blk_ext [idx t]

/-- A chunk's columns of the gate weights. -/
theorem b4 (c : Dev nD) (t : Fin cfg0.N) (d : Fin 2048) (j : Fin 512) :
    iblk m c 4 t (ix2 d j) = m ((c : Thread nD τ).loc main_arg2) (ix2 d ⟨(kOf t j).val, by have := (kOf t j).isLt; omega⟩) := by
  blk_simp [iblk]
  entry_read
  pointwise
  blk_ext [idx t]

/-- A chunk's columns of the up weights. -/
theorem b5 (c : Dev nD) (t : Fin cfg0.N) (d : Fin 2048) (j : Fin 512) :
    iblk m c 5 t (ix2 d j) = m ((c : Thread nD τ).loc main_arg2) (ix2 d ⟨5632 + (kOf t j).val, by have := (kOf t j).isLt; omega⟩) := by
  blk_simp [iblk]
  entry_read
  pointwise
  blk_ext [idx t]

/-- A chunk's rows of the output weights. -/
theorem b6 (c : Dev nD) (t : Fin cfg0.N) (j : Fin 512) (e : Fin 2048) :
    iblk m c 6 t (ix2 j e) = m ((c : Thread nD τ).loc main_arg3) (ix2 (kOf t j) e) := by
  blk_simp [iblk]
  entry_read
  pointwise
  blk_ext [idx t]

/-- The final norm's weights. -/
theorem b7 (c : Dev nD) (t : Fin cfg0.N) (e : Fin 2048) :
    iblk m c 7 t (ix2 0 e) = m ((c : Thread nD τ).loc main_arg4) (ix1 e) := by
  blk_simp [iblk]
  entry_read
  pointwise
  blk_ext [idx t]

/-- Row `s` of batch entry `b`: root-mean-square normalised, scaled by one plus the modulation's scale, plus its shift. -/
def hRow (X : FVec Ideal S2x16384x2048 .f32) (M : FVec Ideal S2x12288 .f32) (b : Fin 2) (s : Fin 16384) (d : Fin 2048) : EReal :=
  X (ix3 b s d) * Ideal.rsqrt (Ideal.div (∑ e : Fin 2048, X (ix3 b s e) * X (ix3 b s e)) (Ideal.ofBits .f32 0x45000000#32)
    + Ideal.ofBits .f32 0x358637BD#32) * (1 + M (ix2 b ⟨8192 + d.val, by have := d.isLt; omega⟩))
    + M (ix2 b ⟨6144 + d.val, by have := d.isLt; omega⟩)

/-- The gated activation of hidden column `j`, of a row `h`. -/
def act (h : Fin 2048 → EReal) (W : FVec Ideal S2048x11264 .f32) (j : Fin 5632) : EReal :=
  (∑ d : Fin 2048, h d * W (ix2 d ⟨j.val, by have := j.isLt; omega⟩))
    * Ideal.logistic (∑ d : Fin 2048, h d * W (ix2 d ⟨j.val, by have := j.isLt; omega⟩))
    * (∑ d : Fin 2048, h d * W (ix2 d ⟨5632 + j.val, by have := j.isLt; omega⟩))

/-- Hidden column `j`'s contribution to output column `e`, of a row `h` (zero past the last column). -/
def term (h : Fin 2048 → EReal) (W : FVec Ideal S2048x11264 .f32) (O : FVec Ideal S5632x2048 .f32) (e : Fin 2048) (j : ℕ) : EReal :=
  if hj : j < 5632 then act h W ⟨j, hj⟩ * O (ix2 ⟨j, hj⟩ e) else 0

/-- The residual row after the feed-forward product. -/
def resRow (X : FVec Ideal S2x16384x2048 .f32) (M : FVec Ideal S2x12288 .f32) (W : FVec Ideal S2048x11264 .f32) (O : FVec Ideal S5632x2048 .f32)
    (b : Fin 2) (s : Fin 16384) (e : Fin 2048) : EReal :=
  X (ix3 b s e) + M (ix2 b ⟨10240 + e.val, by have := e.isLt; omega⟩)
    * ∑ j : Fin 5632, act (hRow X M b s) W j * O (ix2 j e)

/-- The layer's last rows: the residual row, root-mean-square normalised and scaled by the final weight. -/
def finRow (X : FVec Ideal S2x16384x2048 .f32) (M : FVec Ideal S2x12288 .f32) (W : FVec Ideal S2048x11264 .f32) (O : FVec Ideal S5632x2048 .f32)
    (N : FVec Ideal S2048 .f32) (b : Fin 2) (s : Fin 16384) (e : Fin 2048) : EReal :=
  resRow X M W O b s e * Ideal.rsqrt (Ideal.div (∑ d : Fin 2048, resRow X M W O b s d * resRow X M W O b s d)
    (Ideal.ofBits .f32 0x45000000#32) + Ideal.ofBits .f32 0x358637BD#32) * N (ix1 e)

/-- The normalised row of a block is the array's. -/
theorem hBlk_eq (c : Dev nD) (t : Fin cfg0.N) (r : Fin 1024) : hBlk (iblk m c 0 t) (iblk m c 1 t) (iblk m c 2 t) r
    = hRow (m ((c : Thread nD τ).loc main_arg0)) (m ((c : Thread nD τ).loc main_arg1)) (bOf t) (sOf t r) := by
  funext d
  unfold hBlk hRow
  simp only [b0, b1, b2]

/-- One chunk's product is the sum of its 512 hidden columns' contributions. -/
theorem part_eq (c : Dev nD) (t : Fin cfg0.N) (h : Fin 2048 → EReal) (e : Fin 2048) :
    partBlk h (iblk m c 4 t) (iblk m c 5 t) (iblk m c 6 t) e
    = ∑ j ∈ Finset.range 512, term h (m ((c : Thread nD τ).loc main_arg2)) (m ((c : Thread nD τ).loc main_arg3)) e (t.val % 11 * 512 + j) := by
  rw [Finset.sum_range]
  unfold partBlk actBlk
  refine Finset.sum_congr rfl fun j _ => ?_
  unfold term
  rw [dif_pos (kOf t j).isLt]
  unfold act
  simp only [b4, b5, b6]

/-- The rows' scratch holds the normalised rows after every point. -/
theorem scr (c : Dev nD) (n : ℕ) : ∀ (h : n < cfg0.N) (r : Fin 1024), n % 11 ≤ 9 → rowOf (outsAt0 m c n h).2 r
    = hRow (m ((c : Thread nD τ).loc main_arg0)) (m ((c : Thread nD τ).loc main_arg1)) (bOf ⟨n, h⟩) (sOf ⟨n, h⟩ r) := by
  induction n with
  | zero =>
    intro h r _
    rw [← hBlk_eq]
    exact funext fun d => sA m c ⟨0, h⟩ rfl (by dsimp only; omega) (by dsimp only; omega) r d
  | succ n ih =>
    intro h r h9
    by_cases h0 : (n + 1) % 11 = 0
    · rw [← hBlk_eq]
      exact funext fun d => sA m c ⟨n + 1, h⟩ h0 (by dsimp only; omega) (by dsimp only; omega) r d
    · have e := sB m c ⟨n + 1, h⟩ h0 (by dsimp only; omega) (by dsimp only; omega)
      dsimp only at e
      rw [e]
      refine (ih (Nat.lt_of_succ_lt h) r (by omega)).trans ?_
      congr 1 <;> (apply Fin.ext; dsimp only; omega)

/-- The output block holds, before the last chunk, the contributions of the chunks so far. -/
theorem acc (c : Dev nD) (n : ℕ) : ∀ (h : n < cfg0.N) (r : Fin 1024) (e : Fin 2048), n % 11 ≤ 9 → outOf (outsAt0 m c n h).1 r e
    = ∑ j ∈ Finset.range (n % 11 * 512 + 512), term (hRow (m ((c : Thread nD τ).loc main_arg0)) (m ((c : Thread nD τ).loc main_arg1)) (bOf ⟨n, h⟩) (sOf ⟨n, h⟩ r))
        (m ((c : Thread nD τ).loc main_arg2)) (m ((c : Thread nD τ).loc main_arg3)) e j := by
  induction n with
  | zero =>
    intro h r e _
    refine (oA m c ⟨0, h⟩ rfl (by dsimp only; omega) (by dsimp only; omega) r e).trans ?_
    rw [hBlk_eq, part_eq]
    simp only [Nat.zero_mod, Nat.zero_mul, Nat.zero_add]
  | succ n ih =>
    intro h r e h9
    by_cases h0 : (n + 1) % 11 = 0
    · refine (oA m c ⟨n + 1, h⟩ h0 (by dsimp only; omega) (by dsimp only; omega) r e).trans ?_
      rw [hBlk_eq, part_eq]
      simp only [h0, Nat.zero_mul, Nat.zero_add]
    · refine (oB m c ⟨n + 1, h⟩ h0 (by dsimp only; omega) (by dsimp only; omega) r e).trans ?_
      have hp : n % 11 ≤ 9 := by omega
      have hb : bOf ⟨n, Nat.lt_of_succ_lt h⟩ = bOf ⟨n + 1, h⟩ := by apply Fin.ext; dsimp only; omega
      have hs : sOf ⟨n, Nat.lt_of_succ_lt h⟩ r = sOf ⟨n + 1, h⟩ r := by apply Fin.ext; dsimp only; omega
      have e1 := ih (Nat.lt_of_succ_lt h) r e hp
      have e2 := scr m c n (Nat.lt_of_succ_lt h) r hp
      rw [hb, hs] at e1 e2
      rw [part_eq, Finset.sum_range_add]
      refine congrArg₂ (· + ·) (e1.trans ?_) ?_
      · rw [show n % 11 * 512 + 512 = (n + 1) % 11 * 512 from by omega]
      · exact Finset.sum_congr rfl fun j _ => congrArg (fun q => term q _ _ e _) e2

/-- After the last chunk the output block holds the finished rows. -/
theorem last (c : Dev nD) (t : Fin cfg0.N) (ht : t.val % 11 = 10) (r : Fin 1024) (e : Fin 2048) : outOf (outsAt0 m c t.val t.isLt).1 r e
    = finRow (m ((c : Thread nD τ).loc main_arg0)) (m ((c : Thread nD τ).loc main_arg1)) (m ((c : Thread nD τ).loc main_arg2))
        (m ((c : Thread nD τ).loc main_arg3)) (m ((c : Thread nD τ).loc main_arg4)) (bOf t) (sOf t r) e := by
  rw [oC m c t (by omega) (by omega) ht]
  have hN := lt_of_lt_of_eq t.isLt (show cfg0.N = 352 from N_0)
  have hlt : t.val - 1 < cfg0.N := Nat.lt_of_le_of_lt (Nat.sub_le _ _) t.isLt
  have hb : bOf ⟨t.val - 1, hlt⟩ = bOf t := by apply Fin.ext; dsimp only; omega
  have hs : sOf ⟨t.val - 1, hlt⟩ r = sOf t r := by apply Fin.ext; dsimp only; omega
  have e2 := scr m c (t.val - 1) hlt r (by omega)
  have e1 := fun e => acc m c (t.val - 1) hlt r e (by omega)
  rw [hb, hs] at e2
  simp only [hb, hs] at e1
  have key : resBlk (iblk m c 0 t) (iblk m c 3 t) (fun e => outOf (outsAt0 m c (t.val - 1) hlt).1 r e
      + partBlk (rowOf (outsAt0 m c (t.val - 1) hlt).2 r) (iblk m c 4 t) (iblk m c 5 t) (iblk m c 6 t) e) r
      = resRow (m ((c : Thread nD τ).loc main_arg0)) (m ((c : Thread nD τ).loc main_arg1)) (m ((c : Thread nD τ).loc main_arg2))
        (m ((c : Thread nD τ).loc main_arg3)) (bOf t) (sOf t r) := by
    funext e
    unfold resBlk resRow
    rw [b0, b3]
    refine Ideal.add_congr rfl (Ideal.mul_congr rfl ?_)
    beta_reduce
    rw [e1, e2, part_eq, show (t.val - 1) % 11 * 512 + 512 = t.val % 11 * 512 from by omega, ← Finset.sum_range_add,
      show t.val % 11 * 512 + 512 = 5632 from by omega, Finset.sum_range]
    exact Finset.sum_congr rfl fun j _ => dif_pos j.isLt
  rw [key]
  unfold finBlk finRow
  rw [b7]

/-- The result array after the run: every row finished. -/
def result (c : Dev nD) : Buf (Elt Ideal) ((c : Thread nD τ).loc main_v15) := fun i : S2x16384x2048.Idx =>
  finRow (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) (i 2)

/-- The array the run leaves is `result`: the blocks written back at the last chunks tile it. -/
theorem final (c : Dev nD) : (dats m 0 c).arrAt 8 (cfgs 0).N = result m c := by
  refine (dats m 0 c).arrAt_eq_of_covers 8 _ (by decide +kernel) fun t hf y => ?_
  blk_simp
  rw [after0_8]
  have ht : t.val % 11 = 10 := (flush0_8 t).mp hf
  have hy : (ix3 0 (y 1) (y 2) : S1x1024x2048.Idx) = y := by blk_ext
  have h := last m c t ht (y 1) (y 2)
  unfold outOf at h
  rw [hy] at h
  refine h.trans ?_
  unfold result
  have e0 : bOf t = (win0_8.blk t).view.emb y 0 := by apply Fin.ext; blk_simp [idx t]
  have e1 : sOf t (y 1) = (win0_8.blk t).view.emb y 1 := by apply Fin.ext; blk_simp [idx t]
  have e2 : y 2 = (win0_8.blk t).view.emb y 2 := by apply Fin.ext; blk_simp [idx t]
  rw [e0, e1, e2]
end Cert.FfnIdeal.Step
end
-- ==== Proof.FfnRef.lean ====
module

public import proofs.«01_k».proof.Proof.FfnFold
public import proofs.«01_k».proof.Proof.Gen.FfnRefIdeal.Read

@[expose] public section

set_option maxRecDepth 16384

noncomputable section
open Idealize.ShloMosaic Idealize.ShloMosaic.TcCoe Idealize.SL.Sem
namespace Cert.FfnRefIdeal.Eq
open Cert.FfnRefIdeal Cert.FfnRefIdeal.Gen Cert.FfnRefIdeal.Read

/-- The reference's normalised rows. -/
theorem ref_h (X : FVec Ideal S2x16384x2048 .f32) (M : FVec Ideal S2x12288 .f32) (b : Fin 2) (s : Fin 16384) (d : Fin 2048) :
    val_main_v22 (F := Ideal) X M (ix3 b s d) = Cert.FfnIdeal.Step.hRow X M b s d := by
  pointwise [val_main_v22, val_main_v21, val_main_v20, val_main_v19, val_main_v18, val_main_v17, val_main_cst_2, val_main_v16, val_main_v15, val_main_v14, val_main_v13, val_main_v12, val_main_cst_1, val_main_v11, val_main_v10, val_main_cst_0, val_main_v9, val_main_v8, val_main_cst, val_main_v7, val_main_v6, val_main_v5, val_main_v4, val_main_v3, val_main_v2, val_main_v1, val_main_v0, Cert.FfnIdeal.Step.hRow]

/-- The reference's gated activation. -/
theorem ref_act (X : FVec Ideal S2x16384x2048 .f32) (M : FVec Ideal S2x12288 .f32) (W : FVec Ideal S2048x11264 .f32) (b : Fin 2) (s : Fin 16384) (j : Fin 5632) :
    val_main_v33 (F := Ideal) X M W (ix3 b s j) = Cert.FfnIdeal.Step.act (Cert.FfnIdeal.Step.hRow X M b s) W j := by
  unfold Cert.FfnIdeal.Step.act
  simp only [← ref_h]
  pointwise [val_main_v33, val_main_v32, val_main_v31, val_main_v30, val_main_cst_4, val_main_v29, val_main_v28, val_main_cst_3, val_main_v27, val_main_v26, val_main_v25, val_main_v24, val_main_v23, Ideal.logistic]

/-- The reference's residual rows. -/
theorem ref_res (X : FVec Ideal S2x16384x2048 .f32) (M : FVec Ideal S2x12288 .f32) (W : FVec Ideal S2048x11264 .f32) (O : FVec Ideal S5632x2048 .f32) (b : Fin 2) (s : Fin 16384) (e : Fin 2048) :
    val_main_v37 (F := Ideal) X M W O (ix3 b s e) = Cert.FfnIdeal.Step.resRow X M W O b s e := by
  unfold Cert.FfnIdeal.Step.resRow
  simp only [← ref_act]
  pointwise [val_main_v37, val_main_v36, val_main_v35, val_main_v34, val_main_v6, val_main_v0]

/-- The reference's result. -/
theorem ref_fin (X : FVec Ideal S2x16384x2048 .f32) (M : FVec Ideal S2x12288 .f32) (W : FVec Ideal S2048x11264 .f32) (O : FVec Ideal S5632x2048 .f32) (N : FVec Ideal S2048 .f32) (b : Fin 2) (s : Fin 16384) (e : Fin 2048) :
    val_main_v50 (F := Ideal) X M W O N (ix3 b s e) = Cert.FfnIdeal.Step.finRow X M W O N b s e := by
  unfold Cert.FfnIdeal.Step.finRow
  simp only [← ref_res]
  pointwise [val_main_v50, val_main_v49, val_main_v48, val_main_v47, val_main_v46, val_main_v45, val_main_v44, val_main_v43, val_main_cst_7, val_main_v42, val_main_v41, val_main_cst_6, val_main_v40, val_main_v39, val_main_cst_5, val_main_v38]
end Cert.FfnRefIdeal.Eq
end
-- ==== Proof.MidStep.lean ====
module

public import proofs.«01_k».proof.Proof.FfnFold
public import proofs.«01_k».proof.Proof.Gen.MidIdeal.Value

@[expose] public section

set_option maxRecDepth 16384

noncomputable section
open Idealize.ShloMosaic Idealize.ShloMosaic.TcCoe Idealize.SL.Sem
open Idealize.ShloMosaic.Pipeline (Dat)
namespace Cert.MidIdeal.Step
open Cert.MidIdeal Cert.MidIdeal.Gen
open Cert.FfnIdeal.Step (hBlk actBlk partBlk rowOf outOf resBlk)

variable (m : (ℓ : Loc nD τ sig) → Buf (Elt Ideal) ℓ)

/-- After the first chunk the rows' scratch holds the normalised rows. -/
theorem sA (c : Dev nD) (t : Fin cfg0.N) (k0 : t.val % 11 = 0) (k1 : ¬(1 ≤ t.val % 11 ∧ t.val % 11 ≤ 9)) (k2 : ¬t.val % 11 = 10)
    (r : Fin 1024) (d : Fin 2048) :
    rowOf (outsAt0 m c t.val t.isLt).2 r d = hBlk (iblk m c 0 t) (iblk m c 1 t) (iblk m c 2 t) r d := by
  unfold rowOf
  rw [outsAt0_A m c t k0 k1 k2]
  frame_out
  canon_tiles x h
  all_goals (simp only [ix2_0, ix2_1, ix3_0, ix3_1, ix3_2] at h0 h1; try simp only [ix3_2] at h2
             open_payloads; pointwise [hBlk]; blk_point)

/-- After the first chunk the output block holds that chunk's contribution. -/
theorem oA (c : Dev nD) (t : Fin cfg0.N) (k0 : t.val % 11 = 0) (k1 : ¬(1 ≤ t.val % 11 ∧ t.val % 11 ≤ 9)) (k2 : ¬t.val % 11 = 10)
    (r : Fin 1024) (e : Fin 2048) :
    outOf (outsAt0 m c t.val t.isLt).1 r e = partBlk (hBlk (iblk m c 0 t) (iblk m c 1 t) (iblk m c 2 t) r) (iblk m c 4 t) (iblk m c 5 t) (iblk m c 6 t) e := by
  unfold outOf
  rw [outsAt0_A m c t k0 k1 k2]
  frame_out
  canon_tiles x h
  all_goals (simp only [ix2_0, ix2_1, ix3_0, ix3_1, ix3_2] at h0 h1; try simp only [ix3_2] at h2
             open_payloads; pointwise [hBlk, partBlk, actBlk]; blk_point)

/-- What the rows' scratch holds, written whole and read back. -/
theorem read_scr (h : (Memref.whole (cc0_scratch0 : Ref sig .tc) : Memref sig .tc _ _ _).IsWhole) (p : Vec Ideal S1024x2048 .bf16) :
    View.read (Elt Ideal) (View.whole cc0_scratch0) (h.unread p) = p := h.read_unread _

/-- A middle chunk leaves the rows' scratch as it was. -/
theorem sB (c : Dev nD) (t : Fin cfg0.N) (k0 : ¬t.val % 11 = 0) (k1 : (1 ≤ t.val % 11 ∧ t.val % 11 ≤ 9)) (k2 : ¬t.val % 11 = 10) :
    (outsAt0 m c t.val t.isLt).2 = (outsAt0 m c (t.val - 1) (Nat.lt_of_le_of_lt (Nat.sub_le _ _) t.isLt)).2 := by
  rw [outsAt0_B m c t k0 k1 k2]
  generalize outsAt0 m c (t.val - 1) (Nat.lt_of_le_of_lt (Nat.sub_le _ _) t.isLt) = p
  rfl

/-- A middle chunk adds its contribution to the output block. -/
theorem oB (c : Dev nD) (t : Fin cfg0.N) (k0 : ¬t.val % 11 = 0) (k1 : (1 ≤ t.val % 11 ∧ t.val % 11 ≤ 9)) (k2 : ¬t.val % 11 = 10)
    (r : Fin 1024) (e : Fin 2048) :
    outOf (outsAt0 m c t.val t.isLt).1 r e = outOf (outsAt0 m c (t.val - 1) (Nat.lt_of_le_of_lt (Nat.sub_le _ _) t.isLt)).1 r e
      + partBlk (rowOf (outsAt0 m c (t.val - 1) (Nat.lt_of_le_of_lt (Nat.sub_le _ _) t.isLt)).2 r) (iblk m c 4 t) (iblk m c 5 t) (iblk m c 6 t) e := by
  rw [outsAt0_B m c t k0 k1 k2]
  generalize outsAt0 m c (t.val - 1) (Nat.lt_of_le_of_lt (Nat.sub_le _ _) t.isLt) = p
  unfold outOf
  frame_out
  simp only [read_scr]
  canon_tiles x h
  all_goals (simp only [ix2_0, ix2_1, ix3_0, ix3_1, ix3_2] at h0 h1; try simp only [ix3_2] at h2
             open_payloads; pointwise [partBlk, actBlk, rowOf]; blk_point)

/-- The last chunk adds its contribution and leaves the residual rows. -/
theorem oC (c : Dev nD) (t : Fin cfg0.N) (k0 : ¬t.val % 11 = 0) (k1 : ¬(1 ≤ t.val % 11 ∧ t.val % 11 ≤ 9)) (k2 : t.val % 11 = 10)
    (r : Fin 1024) (e : Fin 2048) :
    outOf (outsAt0 m c t.val t.isLt).1 r e = resBlk (iblk m c 0 t) (iblk m c 3 t) (fun e => outOf (outsAt0 m c (t.val - 1) (Nat.lt_of_le_of_lt (Nat.sub_le _ _) t.isLt)).1 r e
      + partBlk (rowOf (outsAt0 m c (t.val - 1) (Nat.lt_of_le_of_lt (Nat.sub_le _ _) t.isLt)).2 r) (iblk m c 4 t) (iblk m c 5 t) (iblk m c 6 t) e) r e := by
  rw [outsAt0_C m c t k0 k1 k2]
  generalize outsAt0 m c (t.val - 1) (Nat.lt_of_le_of_lt (Nat.sub_le _ _) t.isLt) = p
  unfold outOf
  frame_out
  simp only [read_scr]
  canon_tiles x h
  all_goals (simp only [ix2_0, ix2_1, ix3_0, ix3_1, ix3_2] at h0 h1; try simp only [ix3_2] at h2
             open_payloads; pointwise [partBlk, actBlk, rowOf, resBlk]; blk_point)
end Cert.MidIdeal.Step
end
-- ==== Proof.MidFold.lean ====
module

public import proofs.«01_k».proof.Proof.MidStep
public import Idealize.ShloMosaic.Lib.Claim

@[expose] public section

set_option maxRecDepth 16384

noncomputable section
open Idealize.ShloMosaic Idealize.ShloMosaic.TcCoe Idealize.SL.Sem
open Idealize.ShloMosaic.Pipeline (Dat)
namespace Cert.MidIdeal.Step
open Cert.MidIdeal Cert.MidIdeal.Gen
open Cert.FfnIdeal.Step (hBlk actBlk partBlk rowOf outOf resBlk hRow act term resRow)

/-- The block each window shows at grid point `t`. -/
theorem idx : ∀ t : Fin cfg0.N, win0_0.index t = ![t.val / 176, t.val / 11 % 16, 0] ∧ win0_1.index t = ![t.val / 176, 0, 0]
    ∧ win0_2.index t = ![t.val / 176, 0, 0] ∧ win0_3.index t = ![t.val / 176, 0, 0] ∧ win0_4.index t = ![0, t.val % 11]
    ∧ win0_5.index t = ![0, 11 + t.val % 11] ∧ win0_6.index t = ![t.val % 11, 0]
    ∧ win0_7.index t = ![t.val / 176, t.val / 11 % 16, 0] :=
  (by decide +kernel : ∀ t : Fin grid0.N, _)

variable (m : (ℓ : Loc nD τ sig) → Buf (Elt Ideal) ℓ)

/-- The batch entry a point works on. -/
abbrev bOf (t : Fin cfg0.N) : Fin 2 := ⟨t.val / 176, by have := lt_of_lt_of_eq t.isLt (show cfg0.N = 352 from N_0); omega⟩
/-- The sequence row that row `r` of a point's block is. -/
abbrev sOf (t : Fin cfg0.N) (r : Fin 1024) : Fin 16384 := ⟨t.val / 11 % 16 * 1024 + r.val, by have := r.isLt; omega⟩
/-- Hidden column `j` of the chunk a point works on. -/
abbrev kOf (t : Fin cfg0.N) (j : Fin 512) : Fin 5632 := ⟨t.val % 11 * 512 + j.val, by have := j.isLt; omega⟩

/-- A point's rows of the residual stream. -/
theorem b0 (c : Dev nD) (t : Fin cfg0.N) (r : Fin 1024) (d : Fin 2048) :
    iblk m c 0 t (ix3 0 r d) = m ((c : Thread nD τ).loc main_arg0) (ix3 (bOf t) (sOf t r) d) := by
  blk_simp [iblk]
  entry_read
  blk_ext [idx t]

/-- A point's modulation scale. -/
theorem b1 (c : Dev nD) (t : Fin cfg0.N) (d : Fin 2048) :
    iblk m c 1 t (ix3 0 0 d) = m ((c : Thread nD τ).loc main_arg1) (ix2 (bOf t) ⟨8192 + d.val, by have := d.isLt; omega⟩) := by
  blk_simp [iblk]
  entry_read
  pointwise
  blk_ext [idx t]

/-- A point's modulation shift. -/
theorem b2 (c : Dev nD) (t : Fin cfg0.N) (d : Fin 2048) :
    iblk m c 2 t (ix3 0 0 d) = m ((c : Thread nD τ).loc main_arg1) (ix2 (bOf t) ⟨6144 + d.val, by have := d.isLt; omega⟩) := by
  blk_simp [iblk]
  entry_read
  pointwise
  blk_ext [idx t]

/-- A point's modulation gate. -/
theorem b3 (c : Dev nD) (t : Fin cfg0.N) (d : Fin 2048) :
    iblk m c 3 t (ix3 0 0 d) = m ((c : Thread nD τ).loc main_arg1) (ix2 (bOf t) ⟨10240 + d.val, by have := d.isLt; omega⟩) := by
  blk_simp [iblk]
  entry_read
  pointwise
  blk_ext [idx t]

/-- A chunk's columns of the gate weights. -/
theorem b4 (c : Dev nD) (t : Fin cfg0.N) (d : Fin 2048) (j : Fin 512) :
    iblk m c 4 t (ix2 d j) = m ((c : Thread nD τ).loc main_arg2) (ix2 d ⟨(kOf t j).val, by have := (kOf t j).isLt; omega⟩) := by
  blk_simp [iblk]
  entry_read
  pointwise
  blk_ext [idx t]

/-- A chunk's columns of the up weights. -/
theorem b5 (c : Dev nD) (t : Fin cfg0.N) (d : Fin 2048) (j : Fin 512) :
    iblk m c 5 t (ix2 d j) = m ((c : Thread nD τ).loc main_arg2) (ix2 d ⟨5632 + (kOf t j).val, by have := (kOf t j).isLt; omega⟩) := by
  blk_simp [iblk]
  entry_read
  pointwise
  blk_ext [idx t]

/-- A chunk's rows of the output weights. -/
theorem b6 (c : Dev nD) (t : Fin cfg0.N) (j : Fin 512) (e : Fin 2048) :
    iblk m c 6 t (ix2 j e) = m ((c : Thread nD τ).loc main_arg3) (ix2 (kOf t j) e) := by
  blk_simp [iblk]
  entry_read
  pointwise
  blk_ext [idx t]

/-- The normalised row of a block is the array's. -/
theorem hBlk_eq (c : Dev nD) (t : Fin cfg0.N) (r : Fin 1024) : hBlk (iblk m c 0 t) (iblk m c 1 t) (iblk m c 2 t) r
    = hRow (m ((c : Thread nD τ).loc main_arg0)) (m ((c : Thread nD τ).loc main_arg1)) (bOf t) (sOf t r) := by
  funext d
  unfold hBlk hRow
  simp only [b0, b1, b2]

/-- One chunk's product is the sum of its 512 hidden columns' contributions. -/
theorem part_eq (c : Dev nD) (t : Fin cfg0.N) (h : Fin 2048 → EReal) (e : Fin 2048) :
    partBlk h (iblk m c 4 t) (iblk m c 5 t) (iblk m c 6 t) e
    = ∑ j ∈ Finset.range 512, term h (m ((c : Thread nD τ).loc main_arg2)) (m ((c : Thread nD τ).loc main_arg3)) e (t.val % 11 * 512 + j) := by
  rw [Finset.sum_range]
  unfold partBlk actBlk
  refine Finset.sum_congr rfl fun j _ => ?_
  unfold term
  rw [dif_pos (kOf t j).isLt]
  unfold act
  simp only [b4, b5, b6]

/-- The rows' scratch holds the normalised rows after every point. -/
theorem scr (c : Dev nD) (n : ℕ) : ∀ (h : n < cfg0.N) (r : Fin 1024), n % 11 ≤ 9 → rowOf (outsAt0 m c n h).2 r
    = hRow (m ((c : Thread nD τ).loc main_arg0)) (m ((c : Thread nD τ).loc main_arg1)) (bOf ⟨n, h⟩) (sOf ⟨n, h⟩ r) := by
  induction n with
  | zero =>
    intro h r _
    rw [← hBlk_eq]
    exact funext fun d => sA m c ⟨0, h⟩ rfl (by dsimp only; omega) (by dsimp only; omega) r d
  | succ n ih =>
    intro h r h9
    by_cases h0 : (n + 1) % 11 = 0
    · rw [← hBlk_eq]
      exact funext fun d => sA m c ⟨n + 1, h⟩ h0 (by dsimp only; omega) (by dsimp only; omega) r d
    · have e := sB m c ⟨n + 1, h⟩ h0 (by dsimp only; omega) (by dsimp only; omega)
      dsimp only at e
      rw [e]
      refine (ih (Nat.lt_of_succ_lt h) r (by omega)).trans ?_
      congr 1 <;> (apply Fin.ext; dsimp only; omega)

/-- The output block holds, before the last chunk, the contributions of the chunks so far. -/
theorem acc (c : Dev nD) (n : ℕ) : ∀ (h : n < cfg0.N) (r : Fin 1024) (e : Fin 2048), n % 11 ≤ 9 → outOf (outsAt0 m c n h).1 r e
    = ∑ j ∈ Finset.range (n % 11 * 512 + 512), term (hRow (m ((c : Thread nD τ).loc main_arg0)) (m ((c : Thread nD τ).loc main_arg1)) (bOf ⟨n, h⟩) (sOf ⟨n, h⟩ r))
        (m ((c : Thread nD τ).loc main_arg2)) (m ((c : Thread nD τ).loc main_arg3)) e j := by
  induction n with
  | zero =>
    intro h r e _
    refine (oA m c ⟨0, h⟩ rfl (by dsimp only; omega) (by dsimp only; omega) r e).trans ?_
    rw [hBlk_eq, part_eq]
    simp only [Nat.zero_mod, Nat.zero_mul, Nat.zero_add]
  | succ n ih =>
    intro h r e h9
    by_cases h0 : (n + 1) % 11 = 0
    · refine (oA m c ⟨n + 1, h⟩ h0 (by dsimp only; omega) (by dsimp only; omega) r e).trans ?_
      rw [hBlk_eq, part_eq]
      simp only [h0, Nat.zero_mul, Nat.zero_add]
    · refine (oB m c ⟨n + 1, h⟩ h0 (by dsimp only; omega) (by dsimp only; omega) r e).trans ?_
      have hp : n % 11 ≤ 9 := by omega
      have hb : bOf ⟨n, Nat.lt_of_succ_lt h⟩ = bOf ⟨n + 1, h⟩ := by apply Fin.ext; dsimp only; omega
      have hs : sOf ⟨n, Nat.lt_of_succ_lt h⟩ r = sOf ⟨n + 1, h⟩ r := by apply Fin.ext; dsimp only; omega
      have e1 := ih (Nat.lt_of_succ_lt h) r e hp
      have e2 := scr m c n (Nat.lt_of_succ_lt h) r hp
      rw [hb, hs] at e1 e2
      rw [part_eq, Finset.sum_range_add]
      refine congrArg₂ (· + ·) (e1.trans ?_) ?_
      · rw [show n % 11 * 512 + 512 = (n + 1) % 11 * 512 from by omega]
      · exact Finset.sum_congr rfl fun j _ => congrArg (fun q => term q _ _ e _) e2

/-- After the last chunk the output block holds the finished rows. -/
theorem last (c : Dev nD) (t : Fin cfg0.N) (ht : t.val % 11 = 10) (r : Fin 1024) (e : Fin 2048) : outOf (outsAt0 m c t.val t.isLt).1 r e
    = resRow (m ((c : Thread nD τ).loc main_arg0)) (m ((c : Thread nD τ).loc main_arg1)) (m ((c : Thread nD τ).loc main_arg2))
        (m ((c : Thread nD τ).loc main_arg3)) (bOf t) (sOf t r) e := by
  rw [oC m c t (by omega) (by omega) ht]
  have hN := lt_of_lt_of_eq t.isLt (show cfg0.N = 352 from N_0)
  have hlt : t.val - 1 < cfg0.N := Nat.lt_of_le_of_lt (Nat.sub_le _ _) t.isLt
  have hb : bOf ⟨t.val - 1, hlt⟩ = bOf t := by apply Fin.ext; dsimp only; omega
  have hs : sOf ⟨t.val - 1, hlt⟩ r = sOf t r := by apply Fin.ext; dsimp only; omega
  have e2 := scr m c (t.val - 1) hlt r (by omega)
  have e1 := fun e => acc m c (t.val - 1) hlt r e (by omega)
  rw [hb, hs] at e2
  simp only [hb, hs] at e1
  have key : resBlk (iblk m c 0 t) (iblk m c 3 t) (fun e => outOf (outsAt0 m c (t.val - 1) hlt).1 r e
      + partBlk (rowOf (outsAt0 m c (t.val - 1) hlt).2 r) (iblk m c 4 t) (iblk m c 5 t) (iblk m c 6 t) e) r
      = resRow (m ((c : Thread nD τ).loc main_arg0)) (m ((c : Thread nD τ).loc main_arg1)) (m ((c : Thread nD τ).loc main_arg2))
        (m ((c : Thread nD τ).loc main_arg3)) (bOf t) (sOf t r) := by
    funext e
    unfold resBlk resRow
    rw [b0, b3]
    refine Ideal.add_congr rfl (Ideal.mul_congr rfl ?_)
    beta_reduce
    rw [e1, e2, part_eq, show (t.val - 1) % 11 * 512 + 512 = t.val % 11 * 512 from by omega, ← Finset.sum_range_add,
      show t.val % 11 * 512 + 512 = 5632 from by omega, Finset.sum_range]
    exact Finset.sum_congr rfl fun j _ => dif_pos j.isLt
  rw [key]

/-- The result array after the run: every row finished. -/
def result (c : Dev nD) : Buf (Elt Ideal) ((c : Thread nD τ).loc main_v14) := fun i : S2x16384x2048.Idx =>
  resRow (m ((c : Thread nD τ).loc main_arg0)) (m ((c : Thread nD τ).loc main_arg1)) (m ((c : Thread nD τ).loc main_arg2))
        (m ((c : Thread nD τ).loc main_arg3)) (i 0) (i 1) (i 2)

/-- The array the run leaves is `result`: the blocks written back at the last chunks tile it. -/
theorem final (c : Dev nD) : (dats m 0 c).arrAt 7 (cfgs 0).N = result m c := by
  refine (dats m 0 c).arrAt_eq_of_covers 7 _ (by decide +kernel) fun t hf y => ?_
  blk_simp
  rw [after0_7]
  have ht : t.val % 11 = 10 := (flush0_7 t).mp hf
  have hy : (ix3 0 (y 1) (y 2) : S1x1024x2048.Idx) = y := by blk_ext
  have h := last m c t ht (y 1) (y 2)
  unfold outOf at h
  rw [hy] at h
  refine h.trans ?_
  unfold result
  have e0 : bOf t = (win0_7.blk t).view.emb y 0 := by apply Fin.ext; blk_simp [idx t]
  have e1 : sOf t (y 1) = (win0_7.blk t).view.emb y 1 := by apply Fin.ext; blk_simp [idx t]
  have e2 : y 2 = (win0_7.blk t).view.emb y 2 := by apply Fin.ext; blk_simp [idx t]
  rw [e0, e1, e2]
end Cert.MidIdeal.Step
end
-- ==== Proof.MidRef.lean ====
module

public import proofs.«01_k».proof.Proof.MidFold
public import proofs.«01_k».proof.Proof.Gen.MidRefIdeal.Read

@[expose] public section

set_option maxRecDepth 16384

noncomputable section
open Idealize.ShloMosaic Idealize.ShloMosaic.TcCoe Idealize.SL.Sem
namespace Cert.MidRefIdeal.Eq
open Cert.MidRefIdeal Cert.MidRefIdeal.Gen Cert.MidRefIdeal.Read

/-- The reference's normalised rows. -/
theorem ref_h (X : FVec Ideal S2x16384x2048 .f32) (M : FVec Ideal S2x12288 .f32) (b : Fin 2) (s : Fin 16384) (d : Fin 2048) :
    val_main_v22 (F := Ideal) X M (ix3 b s d) = Cert.FfnIdeal.Step.hRow X M b s d := by
  pointwise [val_main_v22, val_main_v21, val_main_v20, val_main_v19, val_main_v18, val_main_v17, val_main_cst_2, val_main_v16, val_main_v15, val_main_v14, val_main_v13, val_main_v12, val_main_cst_1, val_main_v11, val_main_v10, val_main_cst_0, val_main_v9, val_main_v8, val_main_cst, val_main_v7, val_main_v6, val_main_v5, val_main_v4, val_main_v3, val_main_v2, val_main_v1, val_main_v0, Cert.FfnIdeal.Step.hRow]

/-- The reference's gated activation. -/
theorem ref_act (X : FVec Ideal S2x16384x2048 .f32) (M : FVec Ideal S2x12288 .f32) (W : FVec Ideal S2048x11264 .f32) (b : Fin 2) (s : Fin 16384) (j : Fin 5632) :
    val_main_v33 (F := Ideal) X M W (ix3 b s j) = Cert.FfnIdeal.Step.act (Cert.FfnIdeal.Step.hRow X M b s) W j := by
  unfold Cert.FfnIdeal.Step.act
  simp only [← ref_h]
  pointwise [val_main_v33, val_main_v32, val_main_v31, val_main_v30, val_main_cst_4, val_main_v29, val_main_v28, val_main_cst_3, val_main_v27, val_main_v26, val_main_v25, val_main_v24, val_main_v23, Ideal.logistic]

/-- The reference's residual rows. -/
theorem ref_res (X : FVec Ideal S2x16384x2048 .f32) (M : FVec Ideal S2x12288 .f32) (W : FVec Ideal S2048x11264 .f32) (O : FVec Ideal S5632x2048 .f32) (b : Fin 2) (s : Fin 16384) (e : Fin 2048) :
    val_main_v37 (F := Ideal) X M W O (ix3 b s e) = Cert.FfnIdeal.Step.resRow X M W O b s e := by
  unfold Cert.FfnIdeal.Step.resRow
  simp only [← ref_act]
  pointwise [val_main_v37, val_main_v36, val_main_v35, val_main_v34, val_main_v6, val_main_v0]

end Cert.MidRefIdeal.Eq
end
-- ==== Proof.SwaPure.lean ====
module

public import proofs.«01_k».proof.Proof.Gen.SwaIdeal.Value
public import Idealize.ShloMosaic.Lib.Pipeline.ValueKit
public import Idealize.ShloMosaic.Lib.Pointwise
public import Idealize.ShloMosaic.Lib.WordCmp
public import Idealize.ShloMosaic.Lib.WordArith

@[expose] public section

set_option maxRecDepth 16384

noncomputable section
open Idealize.ShloMosaic Idealize.ShloMosaic.TcCoe Idealize.SL.Sem
namespace Cert.SwaIdeal.Pure
open Cert.SwaIdeal Cert.SwaIdeal.Gen

/-- The lane mask of a head: the first 64 lanes for an even head, the last 64 for an odd one. -/
def par (h : Fin 8) (l : Fin 128) : EReal := if h.val % 2 = 0 then (if l.val < 64 then 1 else 0) else (if l.val < 64 then 0 else 1)

/-- The lane pair's block a head reads. -/
def pick (q0 q1 q2 q3 : FVec Ideal S1x128x128 .bf16) (h : Fin 8) : FVec Ideal S1x128x128 .bf16 :=
  if h.val < 2 then q0 else if h.val < 4 then q1 else if h.val < 6 then q2 else q3

/-- The mask of an even head: one on the first 64 lanes, zero on the last 64. -/
theorem lo_apply (r l : Fin 128) : k0_pay2 (F := Ideal) (ix2 r l) = if l.val < 64 then 1 else 0 := by
  pointwise [k0_pay2, hlo_ix]
  word_cmp

/-- The mask of an odd head: zero on the first 64 lanes, one on the last 64. -/
theorem hi_apply (r l : Fin 128) : k0_pay3 (F := Ideal) (ix2 r l) = if l.val < 64 then 0 else 1 := by
  pointwise [k0_pay3]
  simp (disch := word_cmp_side) only [hlo_ix]
  by_cases hl : l.val < 64
  · rw [if_neg (by omega), if_pos hl]
  · rw [if_pos (by omega), if_neg hl]

/-- A column's place in its block of 128 columns, as a word. -/
theorem lane_word (c : Nat) (h : c < 1024) : IntOp.andi (BitVec.ofNat 32 c) 127#32 = BitVec.ofNat 32 (c % 128) := by
  apply BitVec.eq_of_toNat_eq
  have e : (IntOp.andi (BitVec.ofNat 32 c) 127#32).toNat = c &&& (2 ^ 7 - 1) := by
    show (BitVec.ofNat 32 c &&& 127#32).toNat = _
    rw [BitVec.toNat_and, BitVec.toNat_ofNat, Nat.mod_eq_of_lt (show c < 2 ^ 32 by omega)]
    rfl
  rw [e, Nat.and_two_pow_sub_one_eq_mod, BitVec.toNat_ofNat, Nat.mod_eq_of_lt (show c % 128 < 2 ^ 32 by omega)]

/-- The distance from a key to its query, as a signed word. -/
theorem dist_word (a k : Nat) (ha : a < 128) (hk : k < 256) :
    (IntOp.subi (IntOp.addi 128#32 (BitVec.ofNat 32 a)) (BitVec.ofNat 32 k)).toInt = 128 + (a : Int) - k := by
  rw [WordCmp.addi_ofNat]
  show (BitVec.ofNat 32 (128 + a) - BitVec.ofNat 32 k).toInt = _
  have h1 : (BitVec.ofNat 32 (128 + a)).toInt = ((128 + a : Nat) : Int) := WordCmp.toInt_ofNat_of_lt (by omega)
  have h2 : (BitVec.ofNat 32 k).toInt = (k : Int) := WordCmp.toInt_ofNat_of_lt (by omega)
  rw [BitVec.toInt_sub, h1, h2, Int.bmod_eq_of_le (by omega) (by omega)]
  omega

/-- The key's place in the sequence, as a signed word. -/
theorem pos_word (i k : Nat) (hi : i < 128) (hk : k < 256) :
    (IntOp.addi (Scalar.muli (Scalar.subi (BitVec.ofNat 32 i) 1#32) 128#32) (BitVec.ofNat 32 k)).toInt = ((i : Int) - 1) * 128 + k := by
  show ((BitVec.ofNat 32 i - 1#32) * 128#32 + BitVec.ofNat 32 k).toInt = _
  have h1 : (BitVec.ofNat 32 i).toInt = (i : Int) := WordCmp.toInt_ofNat_of_lt (by omega)
  have h2 : (BitVec.ofNat 32 k).toInt = (k : Int) := WordCmp.toInt_ofNat_of_lt (by omega)
  have h3 : (BitVec.ofNat 32 i - 1#32).toInt = (i : Int) - 1 := by
    rw [BitVec.toInt_sub, h1, show (1#32).toInt = 1 from rfl, Int.bmod_eq_of_le (by omega) (by omega)]
  have h4 : ((BitVec.ofNat 32 i - 1#32) * 128#32).toInt = ((i : Int) - 1) * 128 := by
    rw [BitVec.toInt_mul, h3, show (128#32).toInt = 128 from rfl, Int.bmod_eq_of_le (by omega) (by omega)]
  rw [BitVec.toInt_add, h4, h2, Int.bmod_eq_of_le (by omega) (by omega)]

/-- The signed comparison of a word with zero. -/
theorem sge_word (x : BitVec 32) : IntOp.cmpi .sge x 0#32 = BitVec.ofBool (decide (0 ≤ x.toInt)) := by
  show BitVec.ofBool (BitVec.sle 0#32 x) = _
  rw [BitVec.sle_eq_decide]; rfl

/-- The signed comparison of a word with 128. -/
theorem slt_word (x : BitVec 32) : IntOp.cmpi .slt x 128#32 = BitVec.ofBool (decide (x.toInt < 128)) := by
  show BitVec.ofBool (BitVec.slt x 128#32) = _
  rw [BitVec.slt_eq_decide]; rfl

/-- A choice by the mask of seen keys: the key is in the window of the query and in the sequence. -/
theorem valid_apply (i : grid0.Coords) (k : Fin 256) (c : Fin 1024) (a b : EReal) : Scalar.select (k0_pay4 i (ix2 k c)) a b
    = if k.val ≤ 128 + c.val % 128 ∧ c.val % 128 < k.val ∧ 128 ≤ (i 1).val * 128 + k.val then a else b := by
  pointwise [k0_pay4]
  have hi : (i 1).val < 128 := (i 1).isLt
  rw [lane_word _ c.isLt, sge_word, slt_word, sge_word, dist_word _ _ (by omega) k.isLt, pos_word _ _ hi k.isLt]
  simp (disch := word_cmp_side) only [hlo_ix]
  by_cases hv : k.val ≤ 128 + c.val % 128 ∧ c.val % 128 < k.val ∧ 128 ≤ (i 1).val * 128 + k.val
  · rw [if_pos hv, if_pos (by omega)]
  · rw [if_neg hv, if_neg (by omega)]

set_option maxHeartbeats 4000000 in
/-- One entry of a group's scores: the product of key and query in the head's lanes where the key is seen, minus infinity elsewhere. -/
theorem sc_apply (V : IVec S256x1024 1) (kk : FVec Ideal S256x128 .bf16) (q0 q1 q2 q3 : FVec Ideal S1x128x128 .bf16) (k : Fin 256) (h : Fin 8) (r : Fin 128) :
    k0_pay7 k0_pay2 k0_pay3 V kk q0 q1 q2 q3 (ix2 k ⟨h.val * 128 + r.val, by omega⟩)
    = Scalar.select (V (ix2 k ⟨h.val * 128 + r.val, by omega⟩)) (∑ l : Fin 128, kk (ix2 k l) * (pick q0 q1 q2 q3 h (ix3 0 r l) * par h l)) ⊥ := by
  pointwise [k0_pay7]
  refine congrArg₂ (fun z y => Scalar.select (V (ix2 k ⟨h.val * 128 + r.val, by omega⟩)) z y) (Finset.sum_congr rfl fun l _ => congrArg (fun z => kk (ix2 k l) * z) ?_) rfl
  simp only [lo_apply, hi_apply, par, pick]
  fin_vals h with hk
  all_goals
    have hr := r.isLt
    simp (disch := omega) only [hk, dif_pos, dif_neg, if_pos, if_neg]
    simp only [Nat.reduceMul, Nat.reduceMod, Nat.reduceEqDiff, reduceIte, Nat.reduceLT, Nat.sub_sub, Nat.reduceAdd, Nat.add_sub_cancel_left, Nat.zero_add, Nat.zero_mul, Fin.eta]

/-- One column's maximum: the largest of its scores and its sink logit. -/
theorem mx_apply (s : FVec Ideal S256x1024 .f32) (sk : FVec Ideal S1x1024 .f32) (c : Fin 1024) :
    k0_pay24 s sk (ix2 0 c) = max (Finset.univ.sup fun k : Fin 256 => s (ix2 k c)) (sk (ix2 0 c)) := by
  pointwise [k0_pay24]
  rw [show Ideal.ofBits FTy.f32 4286578688#32 = (⊥ : EReal) from rfl]
  congr 1
  refine le_antisymm (Finset.sup_le fun x _ => ?_) (Finset.sup_le fun k _ => ?_)
  · have e (j : Fin 256) : s (ix2 j c) ≤ Finset.univ.sup fun k : Fin 256 => s (ix2 k c) := Finset.le_sup (f := fun k : Fin 256 => s (ix2 k c)) (Finset.mem_univ j)
    exact max_le (max_le (max_le (e _) (e _)) (e _)) (e _)
  · have e (x : Fin 64) := Finset.le_sup (f := fun x : Fin 64 => max (max (max (s (ix2 ⟨x.val, by omega⟩ c)) (s (ix2 ⟨64 + x.val, by omega⟩ c)))
      (s (ix2 ⟨128 + x.val, by omega⟩ c))) (s (ix2 ⟨192 + x.val, by omega⟩ c))) (Finset.mem_univ x)
    have hk := k.isLt
    by_cases h1 : k.val < 64
    · refine le_trans ?_ (e ⟨k.val, h1⟩)
      exact le_trans (le_trans (le_max_left _ _) (le_max_left _ _)) (le_max_left _ _)
    by_cases h2 : k.val < 128
    · refine le_trans ?_ (e ⟨k.val - 64, by omega⟩)
      refine le_trans (le_of_eq ?_) (le_trans (le_trans (le_max_right _ _) (le_max_left _ _)) (le_max_left _ _))
      exact congrArg (fun z => s (ix2 z c)) (Fin.ext (by dsimp only; omega))
    by_cases h3 : k.val < 192
    · refine le_trans ?_ (e ⟨k.val - 128, by omega⟩)
      refine le_trans (le_of_eq ?_) (le_trans (le_max_right _ _) (le_max_left _ _))
      exact congrArg (fun z => s (ix2 z c)) (Fin.ext (by dsimp only; omega))
    · refine le_trans ?_ (e ⟨k.val - 192, by omega⟩)
      refine le_trans (le_of_eq ?_) (le_max_right _ _)
      exact congrArg (fun z => s (ix2 z c)) (Fin.ext (by dsimp only; omega))

/-- One entry of the exponentials: two to the score less the column's maximum. -/
theorem pr_apply (s : FVec Ideal S256x1024 .f32) (m : FVec Ideal S1x1024 .f32) (k : Fin 256) (c : Fin 1024) :
    k0_pay30 s m (ix2 k c) = Ideal.exp2 (s (ix2 k c) - m (ix2 0 c)) := by
  pointwise [k0_pay30]
  rcases k with ⟨k, hk⟩
  have e : ∀ a, FloatOps.exp2 (F := Ideal) (φ := .f32) a = Ideal.exp2 a := fun _ => rfl
  simp only [e]
  repeat' split
  all_goals first | rfl | exact congrArg (fun z => Ideal.exp2 (s (ix2 z c) - m (ix2 0 c))) (Fin.ext (by dsimp only; omega))

set_option maxHeartbeats 4000000 in
/-- One entry of a group's outputs: the values weighted with the exponentials, over the exponentials' sum with the sink's. -/
theorem out_apply (sk m : FVec Ideal S1x1024 .f32) (p : FVec Ideal S256x1024 .bf16) (vp vc : FVec Ideal S1x1x64x128 .bf16) (r : Fin 128) (h : Fin 8) (d : Fin 64) :
    k0_pay47 k0_pay5 sk m p vp vc (ix3 0 r ⟨h.val * 64 + d.val, by omega⟩)
    = Ideal.div (∑ k : Fin 256, (if hk : k.val < 128 then vp (ix4 0 0 d ⟨k.val, hk⟩) else vc (ix4 0 0 d ⟨k.val - 128, by omega⟩)) * p (ix2 k ⟨h.val * 128 + r.val, by omega⟩))
      ((∑ k : Fin 256, p (ix2 k ⟨h.val * 128 + r.val, by omega⟩)) + Ideal.exp2 (sk (ix2 0 ⟨h.val * 128 + r.val, by omega⟩) - m (ix2 0 ⟨h.val * 128 + r.val, by omega⟩))) := by
  pointwise [k0_pay47, k0_pay5]
  fin_vals h with hk
  all_goals
    have hr := r.isLt
    have hd := d.isLt
    simp (disch := omega) only [hk, dif_pos, dif_neg, if_pos, if_neg]
    simp only [Nat.reduceMul, Nat.sub_sub, Nat.reduceAdd, Nat.add_sub_cancel_left, Nat.zero_add, Fin.eta]
    try rfl
end Cert.SwaIdeal.Pure
end
-- ==== Proof.SwaMath.lean ====
module

public import Idealize.ShloMosaic.PureOps.Ideal

@[expose] public section

set_option maxRecDepth 16384

noncomputable section
open Idealize.ShloMosaic
namespace Cert.SwaMath

variable {ι : Type} [Fintype ι] (p : ι → Prop) [DecidablePred p] (a : ι → ℝ) (c : ℝ)

/-- The softmax's denominator over the reals: the seen keys' exponentials and the sink's. -/
def den : ℝ := (∑ j, if p j then Real.exp (a j) else 0) + Real.exp c

/-- The denominator is positive. -/
theorem den_pos : 0 < den p a c :=
  add_pos_of_nonneg_of_pos (Finset.sum_nonneg fun j _ => by split; exacts [(Real.exp_pos _).le, le_rfl]) (Real.exp_pos c)

/-- Subtracting one number from every logit scales the denominator. -/
theorem den_shift (M : ℝ) : den p (fun j => a j - M) (c - M) = den p a c * (Real.exp M)⁻¹ := by
  unfold den
  rw [add_mul, Finset.sum_mul, ← Real.exp_neg, ← Real.exp_add]
  refine congrArg₂ (· + ·) (Finset.sum_congr rfl fun j _ => ?_) (by rw [sub_eq_add_neg])
  split
  · rw [← Real.exp_add]; exact congrArg Real.exp (sub_eq_add_neg _ _)
  · rw [zero_mul]

/-- A key's weight in the softmax. -/
def wt (k : ι) : ℝ := Real.exp (a k) / den p a c

/-- A key's weight does not change when one number is subtracted from every logit. -/
theorem wt_shift (M : ℝ) (k : ι) : Real.exp (a k - M) * (den p (fun j => a j - M) (c - M))⁻¹ = wt p a c k := by
  rw [den_shift, Real.exp_sub]
  unfold wt
  have h := Real.exp_pos M
  have h2 := den_pos p a c
  field_simp

/-- Dividing by a positive real is multiplying by its inverse. -/
theorem div_real (x : EReal) (y : ℝ) (h : 0 < y) : Ideal.div x y = x * ((y⁻¹ : ℝ) : EReal) := by
  unfold Ideal.div
  rw [if_neg (by exact_mod_cast h.ne'), EReal.coe_inv]

/-- A sum of extended reals times a real that is not negative. -/
theorem sum_mul_real {κ : Type} (s : Finset κ) (f : κ → EReal) (x : ℝ) (hx : 0 ≤ x) : (∑ k ∈ s, f k) * (x : EReal) = ∑ k ∈ s, f k * x := by
  classical
  induction s using Finset.induction_on with
  | empty => simp
  | insert b s hb ih =>
    rw [Finset.sum_insert hb, Finset.sum_insert hb, ← ih]
    exact EReal.right_distrib_of_nonneg_of_ne_top (by exact_mod_cast hx) (EReal.coe_ne_top x) _ _

/-- A sum of reals, each taken as an extended real. -/
theorem sum_coe {κ : Type} (s : Finset κ) (f : κ → ℝ) : ∑ k ∈ s, (f k : EReal) = ((∑ k ∈ s, f k : ℝ) : EReal) := by
  classical
  induction s using Finset.induction_on with
  | empty => simp
  | insert b s hb ih => rw [Finset.sum_insert hb, Finset.sum_insert hb, ih, EReal.coe_add]

/-- The larger of a real and of finitely many logits, none of them infinite above, is a real. -/
theorem max_real {κ : Type} [Fintype κ] (s : κ → EReal) (hs : ∀ k, s k < ⊤) (z : EReal) (h1 : z < ⊤) (h2 : ⊥ < z) : ∃ M : ℝ, max (Finset.univ.sup s) z = M := by
  have hs' : Finset.univ.sup s < ⊤ := (Finset.sup_lt_iff (by exact bot_lt_top)).2 fun k _ => hs k
  refine ⟨(max (Finset.univ.sup s) z).toReal, (EReal.coe_toReal (max_lt hs' h1).ne ?_).symm⟩
  exact (lt_of_lt_of_le h2 (le_max_right _ _)).ne'

/-- Powers of two of logits divided by the logarithm of two, against a maximum so divided, are exponentials. -/
theorem exp2_log (x M : ℝ) : Ideal.exp2 (((x / Real.log 2 : ℝ) : EReal) - ((M / Real.log 2 : ℝ) : EReal)) = ((Real.exp (x - M) : ℝ) : EReal) := by
  have h : (0:ℝ) < Real.log 2 := Real.log_pos (by norm_num)
  rw [← EReal.coe_sub, Ideal.exp2_coe]
  refine congrArg _ ?_
  show (2:ℝ) ^ (x / Real.log 2 - M / Real.log 2) = _
  rw [Real.rpow_def_of_pos (by norm_num)]
  congr 1
  field_simp

/-- The call's form of a softmax with a sink, in powers of two, divided once at the end. -/
theorem exp2_form (s v : ι → EReal) (hs : ∀ k, s k = if p k then ((a k / Real.log 2 : ℝ) : EReal) else ⊥) (z : EReal) (hz : z = ((c / Real.log 2 : ℝ) : EReal)) :
    Ideal.div (∑ k, v k * Ideal.exp2 (s k - max (Finset.univ.sup s) z))
      ((∑ k, Ideal.exp2 (s k - max (Finset.univ.sup s) z)) + Ideal.exp2 (z - max (Finset.univ.sup s) z))
    = ∑ k, if p k then v k * (wt p a c k : EReal) else 0 := by
  have hl : (0:ℝ) < Real.log 2 := Real.log_pos (by norm_num)
  obtain ⟨M', hM'⟩ := max_real s (fun k => by rw [hs k]; split; exacts [EReal.coe_lt_top _, bot_lt_top]) z
    (by rw [hz]; exact EReal.coe_lt_top _) (by rw [hz]; exact EReal.bot_lt_coe _)
  obtain ⟨M, rfl⟩ : ∃ M, M' = M / Real.log 2 := ⟨M' * Real.log 2, by field_simp⟩
  have he : ∀ k, Ideal.exp2 (s k - max (Finset.univ.sup s) z) = ((if p k then Real.exp (a k - M) else 0 : ℝ) : EReal) := by
    intro k
    rw [hM', hs k]
    split
    · exact exp2_log _ _
    · rw [EReal.bot_sub, Ideal.exp2_bot, EReal.coe_zero]
  have hz2 : Ideal.exp2 (z - max (Finset.univ.sup s) z) = ((Real.exp (c - M) : ℝ) : EReal) := by
    rw [hM', hz]; exact exp2_log _ _
  simp only [he, hz2]
  rw [sum_coe, ← EReal.coe_add, show (∑ k, if p k then Real.exp (a k - M) else 0) + Real.exp (c - M) = den p (fun j => a j - M) (c - M) from rfl,
    div_real _ _ (den_pos _ _ _), sum_mul_real _ _ _ (inv_nonneg.2 (den_pos _ _ _).le)]
  refine Finset.sum_congr rfl fun k _ => ?_
  split
  · rw [mul_assoc, ← EReal.coe_mul, wt_shift]
  · rw [EReal.coe_zero, mul_zero, zero_mul]

/-- The reference's form of it: every key's exponential divided by the sum over the keys and the sink. -/
theorem exp_form {n : ℕ} (p : Fin n → Prop) [DecidablePred p] (a : Fin n → ℝ) (x : Fin (n + 1) → EReal)
    (hx : ∀ j : Fin n, x j.castSucc = if p j then ((a j : ℝ) : EReal) else ⊥) (hc : x (Fin.last n) = (c : EReal)) (v : Fin n → EReal) :
    ∑ j : Fin n, Ideal.div (Ideal.exp (x j.castSucc - max ⊥ (Finset.univ.sup x))) (∑ i, Ideal.exp (x i - max ⊥ (Finset.univ.sup x))) * v j
    = ∑ j, if p j then v j * (wt p a c j : EReal) else 0 := by
  have hlt : ∀ i, x i < ⊤ := fun i => by
    refine Fin.lastCases ?_ (fun j => ?_) i
    · rw [hc]; exact EReal.coe_lt_top _
    · rw [hx j]; split; exacts [EReal.coe_lt_top _, bot_lt_top]
  obtain ⟨M, hM⟩ := max_real x hlt (x (Fin.last n)) (hlt _) (by rw [hc]; exact EReal.bot_lt_coe _)
  rw [max_eq_left (Finset.le_sup (Finset.mem_univ _))] at hM
  have hM' : max ⊥ (Finset.univ.sup x) = (M : EReal) := by rw [hM]; exact max_eq_right bot_le
  have he : ∀ j : Fin n, Ideal.exp (x j.castSucc - (M : EReal)) = ((if p j then Real.exp (a j - M) else 0 : ℝ) : EReal) := by
    intro j
    rw [hx j]
    split
    · rw [← EReal.coe_sub, Ideal.exp_coe]
    · rw [EReal.bot_sub, Ideal.exp_bot, EReal.coe_zero]
  rw [hM', Fin.sum_univ_castSucc, hc]
  simp only [he]
  rw [← EReal.coe_sub, Ideal.exp_coe, sum_coe, ← EReal.coe_add, show (∑ k, if p k then Real.exp (a k - M) else 0) + Real.exp (c - M) = den p (fun j => a j - M) (c - M) from rfl]
  refine Finset.sum_congr rfl fun k _ => ?_
  rw [div_real _ _ (den_pos _ _ _)]
  split
  · rw [← EReal.coe_mul, wt_shift, mul_comm]
  · rw [EReal.coe_zero, zero_mul, zero_mul]

/-- Whether a query at `s` sees the key at `j`: the key is not later and less than 128 earlier. -/
def near (s j : Fin 16384) : Prop := j.val ≤ s.val ∧ s.val < j.val + 128

/-- Whether a query sees a key can be decided. -/
instance (s j : Fin 16384) : Decidable (near s j) := by unfold near; infer_instance

/-- Whether row `r` of block `i` sees place `k` of its window, which is the block before and the block itself. -/
def seen (i : Nat) (r : Fin 128) (k : Fin 256) : Prop := k.val ≤ 128 + r.val ∧ r.val < k.val ∧ 128 ≤ i * 128 + k.val

/-- Whether a row sees a place of its window can be decided. -/
instance (i : Nat) (r : Fin 128) (k : Fin 256) : Decidable (seen i r k) := by unfold seen; infer_instance

/-- The position in the sequence of place `k` of block `i`'s window. -/
def pos (i : Fin 128) (k : Fin 256) : Fin 16384 := ⟨i.val * 128 + k.val - 128, by omega⟩

/-- The position in the sequence of row `r` of block `i`. -/
def row (i r : Fin 128) : Fin 16384 := ⟨i.val * 128 + r.val, by omega⟩

/-- A sum over the window's seen places is the sum over the sequence's near keys. -/
theorem window_sum {M : Type} [AddCommMonoid M] (i r : Fin 128) (f : Fin 16384 → M) :
    (∑ k, if seen i.val r k then f (pos i k) else 0) = ∑ j, if near (row i r) j then f j else 0 := by
  rw [← Finset.sum_filter, ← Finset.sum_filter]
  refine Finset.sum_nbij' (pos i) (fun j => ⟨min (j.val + 128 - i.val * 128) 255, by omega⟩) ?_ ?_ ?_ ?_ ?_
  · intro k hk
    rw [Finset.mem_filter] at hk ⊢
    obtain ⟨_, h⟩ := hk
    unfold seen at h
    refine ⟨Finset.mem_univ _, ?_⟩
    unfold near pos row
    dsimp only
    omega
  · intro j hj
    rw [Finset.mem_filter] at hj ⊢
    obtain ⟨_, h⟩ := hj
    unfold near row at h
    refine ⟨Finset.mem_univ _, ?_⟩
    unfold seen
    dsimp only at h ⊢
    omega
  · intro k hk
    rw [Finset.mem_filter] at hk
    obtain ⟨_, h⟩ := hk
    unfold seen at h
    unfold pos
    apply Fin.ext
    dsimp only
    omega
  · intro j hj
    rw [Finset.mem_filter] at hj
    obtain ⟨_, h⟩ := hj
    unfold near row at h
    unfold pos
    apply Fin.ext
    dsimp only at h ⊢
    omega
  · intro k _
    rfl

/-- The window's weights are the sequence's. -/
theorem window_wt (i r : Fin 128) (a : Fin 16384 → ℝ) (k : Fin 256) :
    wt (seen i.val r) (fun k => a (pos i k)) c k = wt (near (row i r)) a c (pos i k) := by
  unfold wt den
  rw [window_sum i r fun j => Real.exp (a j)]
end Cert.SwaMath
end
-- ==== Proof.SwaBlock.lean ====
module

public import proofs.«01_k».proof.Proof.SwaPure
public import proofs.«01_k».proof.Proof.SwaMath

@[expose] public section

set_option maxRecDepth 16384

noncomputable section
open Idealize.ShloMosaic Idealize.ShloMosaic.TcCoe Idealize.SL.Sem
open Idealize.ShloMosaic.Pipeline (Dat)
namespace Cert.SwaIdeal.Block
open Cert.SwaIdeal Cert.SwaIdeal.Gen Cert.SwaIdeal.Pure Cert.SwaMath

/-- Softmax in base two over a window of 256 scores `s` and one sink score `z`, applied to the values `v`. -/
def win (s v : Fin 256 → EReal) (z : EReal) : EReal :=
  Ideal.div (∑ k : Fin 256, v k * Ideal.exp2 (s k - max (Finset.univ.sup s) z))
    ((∑ k : Fin 256, Ideal.exp2 (s k - max (Finset.univ.sup s) z)) + Ideal.exp2 (z - max (Finset.univ.sup s) z))

/-- One group's masked scores, as the body computes them. -/
def scores (V : IVec S256x1024 1) (kp kc q0 q1 q2 q3 : FVec Ideal S1x128x128 .bf16) : FVec Ideal S256x1024 .f32 :=
  k0_pay7 k0_pay2 k0_pay3 V (k0_pay6 kp kc) q0 q1 q2 q3

/-- One group's running maximum, with the sink. -/
def peak (V : IVec S256x1024 1) (kp kc q0 q1 q2 q3 : FVec Ideal S1x128x128 .bf16) (sk : FVec Ideal S1x1x1024 .f32) : FVec Ideal S1x1024 .f32 :=
  k0_pay24 (scores V kp kc q0 q1 q2 q3) (k0_pay20 sk)

/-- One group's block of outputs, as the body computes it. -/
def groupOut (V : IVec S256x1024 1) (kp kc q0 q1 q2 q3 : FVec Ideal S1x128x128 .bf16) (sk : FVec Ideal S1x1x1024 .f32) (vp vc : FVec Ideal S1x1x64x128 .bf16) : FVec Ideal S1x128x512 .bf16 :=
  k0_pay47 k0_pay5 (k0_pay20 sk) (peak V kp kc q0 q1 q2 q3 sk) (k0_pay30 (scores V kp kc q0 q1 q2 q3) (peak V kp kc q0 q1 q2 q3 sk)) vp vc

/-- A window's keys: the block before, then the block itself. -/
theorem keys_apply (kp kc : FVec Ideal S1x128x128 .bf16) (k : Fin 256) (l : Fin 128) :
    k0_pay6 kp kc (ix2 k l) = if hk : k.val < 128 then kp (ix3 0 ⟨k.val, hk⟩ l) else kc (ix3 0 ⟨k.val - 128, by omega⟩ l) := by
  pointwise [k0_pay6]

/-- The sink logits, scaled for powers of two. -/
theorem sink_apply (sk : FVec Ideal S1x1x1024 .f32) (x : Fin 1024) :
    k0_pay20 sk (ix2 0 x) = sk (ix3 0 0 x) * ((Real.log 2)⁻¹ : ℝ) := by
  pointwise [k0_pay20]
  rfl

/-- One entry of a group's outputs: the window's softmax with the sink. -/
theorem groupOut_apply (V : IVec S256x1024 1) (kp kc q0 q1 q2 q3 : FVec Ideal S1x128x128 .bf16) (sk : FVec Ideal S1x1x1024 .f32) (vp vc : FVec Ideal S1x1x64x128 .bf16)
    (r : Fin 128) (h : Fin 8) (d : Fin 64) :
    groupOut V kp kc q0 q1 q2 q3 sk vp vc (ix3 0 r ⟨h.val * 64 + d.val, by omega⟩)
    = win (fun k => Scalar.select (V (ix2 k ⟨h.val * 128 + r.val, by omega⟩)) (∑ l : Fin 128, (if hk : k.val < 128 then kp (ix3 0 ⟨k.val, hk⟩ l) else kc (ix3 0 ⟨k.val - 128, by omega⟩ l)) * (pick q0 q1 q2 q3 h (ix3 0 r l) * par h l)) ⊥)
      (fun k => if hk : k.val < 128 then vp (ix4 0 0 d ⟨k.val, hk⟩) else vc (ix4 0 0 d ⟨k.val - 128, by omega⟩))
      (sk (ix3 0 0 ⟨h.val * 128 + r.val, by omega⟩) * ((Real.log 2)⁻¹ : ℝ)) := by
  unfold groupOut
  rw [out_apply]
  simp only [pr_apply, peak, mx_apply, scores, sc_apply, keys_apply, sink_apply, win]

/-- The keys, values and queries of a grid point's blocks that a row of a group's head reads. -/
def keyB (kc kp : FVec Ideal S1x128x512 .bf16) (g : Fin 4) (k : Fin 256) (l : Fin 128) : EReal :=
  if hk : k.val < 128 then kp (ix3 0 ⟨k.val, hk⟩ ⟨g.val * 128 + l.val, by omega⟩) else kc (ix3 0 ⟨k.val - 128, by omega⟩ ⟨g.val * 128 + l.val, by omega⟩)

/-- The values of a window. -/
def valB (vc vp : FVec Ideal S1x1x256x128 .bf16) (g : Fin 4) (d : Fin 64) (k : Fin 256) : EReal :=
  if hk : k.val < 128 then vp (ix4 0 0 ⟨g.val * 64 + d.val, by omega⟩ ⟨k.val, hk⟩) else vc (ix4 0 0 ⟨g.val * 64 + d.val, by omega⟩ ⟨k.val - 128, by omega⟩)

/-- The query row of a head pair. -/
def qryB (q : FVec Ideal S1x128x2048 .bf16) (g : Fin 4) (h : Fin 8) (r l : Fin 128) : EReal :=
  q (ix3 0 r ⟨g.val * 512 + h.val / 2 * 128 + l.val, by omega⟩)

/-- What a grid point leaves at a row, a group, a head and a lane. -/
def outB (q : FVec Ideal S1x128x2048 .bf16) (kc kp : FVec Ideal S1x128x512 .bf16) (vc vp : FVec Ideal S1x1x256x128 .bf16) (sk : FVec Ideal S4x1x1024 .f32)
    (i : Nat) (r : Fin 128) (g : Fin 4) (h : Fin 8) (d : Fin 64) : EReal :=
  win (fun k => if seen i r k then ∑ l : Fin 128, keyB kc kp g k l * (qryB q g h r l * par h l) else ⊥) (valB vc vp g d)
    (sk (ix3 g 0 ⟨h.val * 128 + r.val, by omega⟩) * ((Real.log 2)⁻¹ : ℝ))

/-- A window's softmax depends only on its scores, its values and its sink logit. -/
theorem win_congr {s s' v v' : Fin 256 → EReal} {z z' : EReal} (hs : ∀ k, s k = s' k) (hv : ∀ k, v k = v' k) (hz : z = z') : win s v z = win s' v' z' := by
  rw [show s = s' from funext hs, show v = v' from funext hv, hz]

/-- A place of a group's block of outputs from its row and column. -/
theorem place (x : S1x128x512.Idx) (r : Fin 128) (e : Fin 512) (h1 : r.val = (x 1).val) (h2 : e.val = (x 2).val) : x = ix3 0 r e := by
  have e0 : x 0 = (0 : Fin 1) := Subsingleton.elim (α := Fin 1) _ _
  have e1 : x 1 = r := Fin.ext h1.symm
  have e2 : x 2 = e := Fin.ext h2.symm
  rw [eq_ix3 x, e0, e1, e2]

/-- A column's place within its head. -/
theorem lane (h : Fin 8) (r : Fin 128) : (h.val * 128 + r.val) % 128 = r.val := by omega

variable (m : (ℓ : Loc nD τ sig) → Buf (Elt Ideal) ℓ) (c : Dev nD)

set_option maxHeartbeats 4000000 in
/-- What the body leaves at a grid point, entry by entry. -/
theorem block (t : Fin cfg0.N) (r : Fin 128) (g : Fin 4) (h : Fin 8) (d : Fin 64) :
    outsAt0 (F := Ideal) m c t (ix3 0 r ⟨g.val * 512 + (h.val * 64 + d.val), by omega⟩)
    = outB (X0_0 m c t) (iblk m c 1 t) (iblk m c 2 t) (iblk m c 3 t) (iblk m c 4 t) (iblk m c 5 t) (grid0.coords t 1).val r g h d := by
  unfold outsAt0
  generalize X0_0 m c t = x0
  generalize iblk m c 1 t = x1
  generalize iblk m c 2 t = x2
  generalize iblk m c 3 t = x3
  generalize iblk m c 4 t = x4
  generalize iblk m c 5 t = x5
  unfold out0_A_6
  frame_out
  canon_tiles x k
  · change groupOut (k0_pay4 (grid0.coords t)) (View.ld x2 (Rect.unit ![0, 0, 384] ![1, 128, 128] inb_S1x128x512_S1x128x128_0_0_384)) (View.ld x1 (Rect.unit ![0, 0, 384] ![1, 128, 128] inb_S1x128x512_S1x128x128_0_0_384))
      (View.ld x0 (Rect.unit ![0, 0, 1536] ![1, 128, 128] inb_S1x128x2048_S1x128x128_0_0_1536))
      (View.ld x0 (Rect.unit ![0, 0, 1664] ![1, 128, 128] inb_S1x128x2048_S1x128x128_0_0_1664))
      (View.ld x0 (Rect.unit ![0, 0, 1792] ![1, 128, 128] inb_S1x128x2048_S1x128x128_0_0_1792))
      (View.ld x0 (Rect.unit ![0, 0, 1920] ![1, 128, 128] inb_S1x128x2048_S1x128x128_0_0_1920))
      (View.ld x5 (Rect.unit ![3, 0, 0] ![1, 1, 1024] inb_S4x1x1024_S1x1x1024_3_0_0))
      (View.ld x4 (Rect.unit ![0, 0, 192, 0] ![1, 1, 64, 128] inb_S1x1x256x128_S1x1x64x128_0_0_192_0)) (View.ld x3 (Rect.unit ![0, 0, 192, 0] ![1, 1, 64, 128] inb_S1x1x256x128_S1x1x64x128_0_0_192_0)) x = _
    obtain rfl : g = 3 := Fin.ext (by simp only [ix3_2] at k2; show g.val = 3; omega)
    rw [place x r ⟨h.val * 64 + d.val, by omega⟩ k1 (by simp only [ix3_2, Fin.isValue, Fin.coe_ofNat_eq_mod] at k2; show h.val * 64 + d.val = (x 2).val; omega), groupOut_apply]
    refine win_congr (fun k => ?_) (fun k => ?_) ?_
    · rw [valid_apply]
      simp only [seen, lane]
      refine if_congr Iff.rfl (Finset.sum_congr rfl fun l _ => congrArg₂ (· * ·) ?_ (congrArg (· * par h l) ?_)) rfl
      · pointwise [keyB]
      · fin_vals h with hh
        all_goals (simp only [pick, hh, Nat.reduceLT, reduceIte]; pointwise [qryB]; blk_point)
    · pointwise [valB]
    · pointwise
  · change groupOut (k0_pay4 (grid0.coords t)) (View.ld x2 (Rect.unit ![0, 0, 256] ![1, 128, 128] inb_S1x128x512_S1x128x128_0_0_256)) (View.ld x1 (Rect.unit ![0, 0, 256] ![1, 128, 128] inb_S1x128x512_S1x128x128_0_0_256))
      (View.ld x0 (Rect.unit ![0, 0, 1024] ![1, 128, 128] inb_S1x128x2048_S1x128x128_0_0_1024))
      (View.ld x0 (Rect.unit ![0, 0, 1152] ![1, 128, 128] inb_S1x128x2048_S1x128x128_0_0_1152))
      (View.ld x0 (Rect.unit ![0, 0, 1280] ![1, 128, 128] inb_S1x128x2048_S1x128x128_0_0_1280))
      (View.ld x0 (Rect.unit ![0, 0, 1408] ![1, 128, 128] inb_S1x128x2048_S1x128x128_0_0_1408))
      (View.ld x5 (Rect.unit ![2, 0, 0] ![1, 1, 1024] inb_S4x1x1024_S1x1x1024_2_0_0))
      (View.ld x4 (Rect.unit ![0, 0, 128, 0] ![1, 1, 64, 128] inb_S1x1x256x128_S1x1x64x128_0_0_128_0)) (View.ld x3 (Rect.unit ![0, 0, 128, 0] ![1, 1, 64, 128] inb_S1x1x256x128_S1x1x64x128_0_0_128_0)) x = _
    obtain rfl : g = 2 := Fin.ext (by simp only [ix3_2] at k2; show g.val = 2; omega)
    rw [place x r ⟨h.val * 64 + d.val, by omega⟩ k1 (by simp only [ix3_2, Fin.isValue, Fin.coe_ofNat_eq_mod] at k2; show h.val * 64 + d.val = (x 2).val; omega), groupOut_apply]
    refine win_congr (fun k => ?_) (fun k => ?_) ?_
    · rw [valid_apply]
      simp only [seen, lane]
      refine if_congr Iff.rfl (Finset.sum_congr rfl fun l _ => congrArg₂ (· * ·) ?_ (congrArg (· * par h l) ?_)) rfl
      · pointwise [keyB]
      · fin_vals h with hh
        all_goals (simp only [pick, hh, Nat.reduceLT, reduceIte]; pointwise [qryB]; blk_point)
    · pointwise [valB]
    · pointwise
  · change groupOut (k0_pay4 (grid0.coords t)) (View.ld x2 (Rect.unit ![0, 0, 128] ![1, 128, 128] inb_S1x128x512_S1x128x128_0_0_128)) (View.ld x1 (Rect.unit ![0, 0, 128] ![1, 128, 128] inb_S1x128x512_S1x128x128_0_0_128))
      (View.ld x0 (Rect.unit ![0, 0, 512] ![1, 128, 128] inb_S1x128x2048_S1x128x128_0_0_512))
      (View.ld x0 (Rect.unit ![0, 0, 640] ![1, 128, 128] inb_S1x128x2048_S1x128x128_0_0_640))
      (View.ld x0 (Rect.unit ![0, 0, 768] ![1, 128, 128] inb_S1x128x2048_S1x128x128_0_0_768))
      (View.ld x0 (Rect.unit ![0, 0, 896] ![1, 128, 128] inb_S1x128x2048_S1x128x128_0_0_896))
      (View.ld x5 (Rect.unit ![1, 0, 0] ![1, 1, 1024] inb_S4x1x1024_S1x1x1024_1_0_0))
      (View.ld x4 (Rect.unit ![0, 0, 64, 0] ![1, 1, 64, 128] inb_S1x1x256x128_S1x1x64x128_0_0_64_0)) (View.ld x3 (Rect.unit ![0, 0, 64, 0] ![1, 1, 64, 128] inb_S1x1x256x128_S1x1x64x128_0_0_64_0)) x = _
    obtain rfl : g = 1 := Fin.ext (by simp only [ix3_2] at k2; show g.val = 1; omega)
    rw [place x r ⟨h.val * 64 + d.val, by omega⟩ k1 (by simp only [ix3_2, Fin.isValue, Fin.coe_ofNat_eq_mod] at k2; show h.val * 64 + d.val = (x 2).val; omega), groupOut_apply]
    refine win_congr (fun k => ?_) (fun k => ?_) ?_
    · rw [valid_apply]
      simp only [seen, lane]
      refine if_congr Iff.rfl (Finset.sum_congr rfl fun l _ => congrArg₂ (· * ·) ?_ (congrArg (· * par h l) ?_)) rfl
      · pointwise [keyB]
      · fin_vals h with hh
        all_goals (simp only [pick, hh, Nat.reduceLT, reduceIte]; pointwise [qryB]; blk_point)
    · pointwise [valB]
    · pointwise
  · change groupOut (k0_pay4 (grid0.coords t)) (View.ld x2 (Rect.unit ![0, 0, 0] ![1, 128, 128] inb_S1x128x512_S1x128x128_0_0_0)) (View.ld x1 (Rect.unit ![0, 0, 0] ![1, 128, 128] inb_S1x128x512_S1x128x128_0_0_0))
      (View.ld x0 (Rect.unit ![0, 0, 0] ![1, 128, 128] inb_S1x128x2048_S1x128x128_0_0_0))
      (View.ld x0 (Rect.unit ![0, 0, 128] ![1, 128, 128] inb_S1x128x2048_S1x128x128_0_0_128))
      (View.ld x0 (Rect.unit ![0, 0, 256] ![1, 128, 128] inb_S1x128x2048_S1x128x128_0_0_256))
      (View.ld x0 (Rect.unit ![0, 0, 384] ![1, 128, 128] inb_S1x128x2048_S1x128x128_0_0_384))
      (View.ld x5 (Rect.unit ![0, 0, 0] ![1, 1, 1024] inb_S4x1x1024_S1x1x1024_0_0_0))
      (View.ld x4 (Rect.unit ![0, 0, 0, 0] ![1, 1, 64, 128] inb_S1x1x256x128_S1x1x64x128_0_0_0_0)) (View.ld x3 (Rect.unit ![0, 0, 0, 0] ![1, 1, 64, 128] inb_S1x1x256x128_S1x1x64x128_0_0_0_0)) x = _
    obtain rfl : g = 0 := Fin.ext (by simp only [ix3_2] at k2; show g.val = 0; omega)
    rw [place x r ⟨h.val * 64 + d.val, by omega⟩ k1 (by simp only [ix3_2, Fin.isValue, Fin.coe_ofNat_eq_mod] at k2; show h.val * 64 + d.val = (x 2).val; omega), groupOut_apply]
    refine win_congr (fun k => ?_) (fun k => ?_) ?_
    · rw [valid_apply]
      simp only [seen, lane]
      refine if_congr Iff.rfl (Finset.sum_congr rfl fun l _ => congrArg₂ (· * ·) ?_ (congrArg (· * par h l) ?_)) rfl
      · pointwise [keyB]
      · fin_vals h with hh
        all_goals (simp only [pick, hh, Nat.reduceLT, reduceIte]; pointwise [qryB]; blk_point)
    · pointwise [valB]
    · pointwise
end Cert.SwaIdeal.Block
end
-- ==== Proof.SwaFold.lean ====
module

public import proofs.«01_k».proof.Proof.SwaBlock
public import Idealize.ShloMosaic.Lib.Claim

@[expose] public section

set_option maxRecDepth 16384

noncomputable section
open Idealize.ShloMosaic Idealize.ShloMosaic.TcCoe Idealize.SL.Sem
open Idealize.ShloMosaic.Pipeline (Dat)
namespace Cert.SwaIdeal.Block
open Cert.SwaIdeal Cert.SwaIdeal.Gen Cert.SwaIdeal.Pure

/-- The block each window shows at grid point `t`. -/
theorem idx : ∀ t : Fin cfg0.N, win0_0.index t = ![t.val / 128, t.val % 128, 0] ∧ win0_1.index t = ![t.val / 128, t.val % 128, 4]
    ∧ win0_2.index t = ![t.val / 128, t.val % 128 - 1, 4] ∧ win0_3.index t = ![t.val / 128, t.val % 128 / 4, 0, t.val % 128 % 4]
    ∧ win0_4.index t = ![t.val / 128, (t.val % 128 - 1) / 4, 0, (t.val % 128 - 1) % 4] ∧ win0_5.index t = ![0, 0, 0]
    ∧ win0_6.index t = ![t.val / 128, t.val % 128, 0] :=
  (by decide +kernel : ∀ t : Fin grid0.N, _)

/-- The query block a point works on. -/
theorem coord : ∀ t : Fin cfg0.N, (grid0.coords t 1).val = t.val % 128 :=
  (by decide +kernel : ∀ t : Fin grid0.N, _)

variable (m : (ℓ : Loc nD τ sig) → Buf (Elt Ideal) ℓ)

/-- The batch entry a point works on. -/
abbrev bOf (t : Fin cfg0.N) : Fin 2 := ⟨t.val / 128, by have := lt_of_lt_of_eq t.isLt (show cfg0.N = 256 from N_0); omega⟩
/-- The sequence row that row `r` of a point's block is. -/
abbrev sOf (t : Fin cfg0.N) (r : Fin 128) : Fin 16384 := ⟨t.val % 128 * 128 + r.val, by have := r.isLt; omega⟩
/-- The sequence row that row `r` of the block before a point's is. -/
abbrev pOf (t : Fin cfg0.N) (r : Fin 128) : Fin 16384 := ⟨(t.val % 128 - 1) * 128 + r.val, by have := r.isLt; omega⟩

/-- The factor the queries are scaled by: one eighth over the natural logarithm of two. -/
def scl : EReal := Ideal.div (Ideal.ofBits .f32 0x3E000000#32) (Ideal.log (Ideal.ofBits .f32 0x40000000#32))

/-- The argument of queries. -/
abbrev qA (c : Dev nD) : FVec Ideal S2x32x16384x64 .f32 := m ((c : Thread nD τ).loc main_arg0)
/-- The argument of keys. -/
abbrev kA (c : Dev nD) : FVec Ideal S2x4x16384x64 .f32 := m ((c : Thread nD τ).loc main_arg1)
/-- The argument of values. -/
abbrev vA (c : Dev nD) : FVec Ideal S2x4x16384x64 .f32 := m ((c : Thread nD τ).loc main_arg2)
/-- The argument of the sinks' logits. -/
abbrev zA (c : Dev nD) : FVec Ideal S32 .f32 := m ((c : Thread nD τ).loc main_arg3)

/-- The values' array at an index, as the call finds it: tiles of 512 positions, each transposed. -/
theorem v17_apply (c : Dev nD) (i : S2x32x256x512.Idx) : V m c main_v17 i
    = vA m c (ix4 (i 0) ⟨(i 2).val / 64, by have : (i 2).val < 256 := (i 2).isLt; omega⟩
      ⟨(i 1).val * 512 + (i 3).val, by have : (i 1).val < 32 := (i 1).isLt; have : (i 3).val < 512 := (i 3).isLt; omega⟩ ⟨(i 2).val % 64, by omega⟩) := by
  entry_read
  pointwise

/-- The queries' part of the array of queries and keys, as the call finds it. -/
theorem v12_q (c : Dev nD) (i : S2x16384x2560.Idx) (h : (i 2).val < 2048) : V m c main_v12 i
    = qA m c (ix4 (i 0) ⟨(i 2).val / 64, by omega⟩ (i 1) ⟨(i 2).val % 64, by omega⟩) * scl := by
  entry_read
  pointwise [scl]
  rw [dif_pos h]

/-- The keys' part of the array of queries and keys, as the call finds it: each head's keys twice. -/
theorem v12_k (c : Dev nD) (i : S2x16384x2560.Idx) (h : ¬(i 2).val < 2048) : V m c main_v12 i
    = kA m c (ix4 (i 0) ⟨((i 2).val - 2048) / 128, by have : (i 2).val < 2560 := (i 2).isLt; omega⟩ (i 1) ⟨((i 2).val - 2048) % 64, by omega⟩) := by
  entry_read
  pointwise
  rw [dif_neg h]

/-- Window 3's block reads the values' array where the window stands. -/
theorem x3_read (c : Dev nD) (t : Fin cfg0.N) (x : ((cfg0.win 3).xblock (cfg0.grid.coords t)).Idx) :
    iblk m c 3 t x = V m c (Pipeline.arrRef spec0 3) (((cfg0.win 3).blk t).view.emb x) := by
  unfold iblk
  rw [View.read_apply]
  exact eq_of_heq (cast_heq _ _)

/-- Window 4's block reads the values' array where the window stands. -/
theorem x4_read (c : Dev nD) (t : Fin cfg0.N) (x : ((cfg0.win 4).xblock (cfg0.grid.coords t)).Idx) :
    iblk m c 4 t x = V m c (Pipeline.arrRef spec0 4) (((cfg0.win 4).blk t).view.emb x) := by
  unfold iblk
  rw [View.read_apply]
  exact eq_of_heq (cast_heq _ _)

/-- A point's queries: the query array's rows, scaled. -/
theorem b0 (c : Dev nD) (t : Fin cfg0.N) (r : Fin 128) (e : Fin 2048) :
    X0_0 m c t (ix3 0 r e) = qA m c (ix4 (bOf t) ⟨e.val / 64, by omega⟩ (sOf t r) ⟨e.val % 64, by omega⟩) * scl := by
  unfold X0_0 Pipeline.Window.fill
  rw [dif_pos (moved0_0 t _)]
  blk_simp [iblk]
  have he : e.val < 2048 := e.isLt
  rw [v12_q m c _ (by blk_simp [idx t]; exact he)]
  refine congrArg₂ (· * ·) ?_ rfl
  blk_ext [idx t]

/-- A point's own block of keys: the key array's rows, each head's lanes twice. -/
theorem b1 (c : Dev nD) (t : Fin cfg0.N) (r : Fin 128) (e : Fin 512) :
    iblk m c 1 t (ix3 0 r e) = kA m c (ix4 (bOf t) ⟨e.val / 128, by omega⟩ (sOf t r) ⟨e.val % 64, by omega⟩) := by
  blk_simp [iblk]
  rw [v12_k m c _ (by blk_simp [idx t]; omega)]
  blk_ext [idx t]

/-- The block of keys before a point's. -/
theorem b2 (c : Dev nD) (t : Fin cfg0.N) (r : Fin 128) (e : Fin 512) :
    iblk m c 2 t (ix3 0 r e) = kA m c (ix4 (bOf t) ⟨e.val / 128, by omega⟩ (pOf t r) ⟨e.val % 64, by omega⟩) := by
  blk_simp [iblk]
  rw [v12_k m c _ (by blk_simp [idx t]; omega)]
  blk_ext [idx t]

/-- A point's own block of values. -/
theorem b3 (c : Dev nD) (t : Fin cfg0.N) (e : Fin 256) (r : Fin 128) :
    iblk m c 3 t (ix4 0 0 e r) = vA m c (ix4 (bOf t) ⟨e.val / 64, by omega⟩ (sOf t r) ⟨e.val % 64, by omega⟩) := by
  refine (x3_read m c t _).trans ((v17_apply m c _).trans ?_)
  blk_ext [idx t]

/-- The block of values before a point's. -/
theorem b4 (c : Dev nD) (t : Fin cfg0.N) (e : Fin 256) (r : Fin 128) :
    iblk m c 4 t (ix4 0 0 e r) = vA m c (ix4 (bOf t) ⟨e.val / 64, by omega⟩ (pOf t r) ⟨e.val % 64, by omega⟩) := by
  refine (x4_read m c t _).trans ((v17_apply m c _).trans ?_)
  blk_ext [idx t]

/-- The sinks' block: each head's logit along its 128 columns. -/
theorem b5 (c : Dev nD) (t : Fin cfg0.N) (g : Fin 4) (h : Fin 8) (r : Fin 128) :
    iblk m c 5 t (ix3 g 0 ⟨h.val * 128 + r.val, by omega⟩) = zA m c (ix1 ⟨g.val * 8 + h.val, by omega⟩) := by
  blk_simp [iblk]
  entry_read
  pointwise
  blk_ext [idx t]
end Cert.SwaIdeal.Block
end
-- ==== Proof.SwaVal.lean ====
module

public import proofs.«01_k».proof.Proof.SwaFold

@[expose] public section

set_option maxRecDepth 16384

noncomputable section
open Idealize.ShloMosaic Idealize.ShloMosaic.TcCoe Idealize.SL.Sem
open Idealize.ShloMosaic.Pipeline (Dat)
namespace Cert.SwaIdeal.Block
open Cert.SwaIdeal Cert.SwaIdeal.Gen Cert.SwaIdeal.Pure Cert.SwaMath

/-- The product of a query row and a key row. -/
def dotR (q : S2x32x16384x64.Idx → ℝ) (k : S2x4x16384x64.Idx → ℝ) (b : Fin 2) (n : Fin 32) (s j : Fin 16384) : ℝ :=
  ∑ d : Fin 64, q (ix4 b n s d) * k (ix4 b ⟨n.val / 8, by omega⟩ j d)

/-- Sliding-window attention with a sink: the values of the near keys, each by its weight in the softmax. -/
def attn (q : S2x32x16384x64.Idx → ℝ) (k : S2x4x16384x64.Idx → ℝ) (z : S32.Idx → ℝ) (V : FVec Ideal S2x4x16384x64 .f32)
    (b : Fin 2) (n : Fin 32) (s : Fin 16384) (d : Fin 64) : EReal :=
  ∑ j, if near s j then V (ix4 b ⟨n.val / 8, by omega⟩ j d) * (wt (near s) (fun j => dotR q k b n s j * (1 / 8)) (z (ix1 n)) j : EReal) else 0

/-- The constant one eighth. -/
theorem eighth : Ideal.ofBits .f32 0x3E000000#32 = ((1 / 8 : ℝ) : EReal) := by
  simp [Ideal.ofBits, Ideal.ieee, -EReal.coe_mul]; norm_num

/-- The scale of the queries is a real. -/
theorem scl_real : scl = ((1 / 8 * (Real.log 2)⁻¹ : ℝ) : EReal) := by
  have h2 : Ideal.ofBits .f32 0x40000000#32 = ((2 : ℝ) : EReal) := by
    simp [Ideal.ofBits, Ideal.ieee, -EReal.coe_mul]; norm_num
  unfold scl
  rw [eighth, h2, Ideal.log_coe, if_neg (by norm_num), div_real _ _ (Real.log_pos (by norm_num)), ← EReal.coe_mul]

/-- Two indices with the same coordinates. -/
theorem ix4_eq {n0 n1 n2 n3 : ℕ} {a a' : Fin n0} {b b' : Fin n1} {c c' : Fin n2} {d d' : Fin n3}
    (ha : a.val = a'.val) (hb : b.val = b'.val) (hc : c.val = c'.val) (hd : d.val = d'.val) : ix4 a b c d = ix4 a' b' c' d' := by
  obtain rfl := Fin.ext ha
  obtain rfl := Fin.ext hb
  obtain rfl := Fin.ext hc
  obtain rfl := Fin.ext hd
  rfl

variable (m : (ℓ : Loc nD τ sig) → Buf (Elt Ideal) ℓ)

/-- The block of the sequence a point works on. -/
abbrev iOf (t : Fin cfg0.N) : Fin 128 := ⟨t.val % 128, by omega⟩

/-- A seen place of the window reads its key from the key argument. -/
theorem key_read (c : Dev nD) (t : Fin cfg0.N) (r : Fin 128) (g : Fin 4) (k : Fin 256) (l : Fin 128) (hs : seen (iOf t).val r k) :
    keyB (iblk m c 1 t) (iblk m c 2 t) g k l = kA m c (ix4 (bOf t) g (pos (iOf t) k) ⟨l.val % 64, by omega⟩) := by
  unfold seen at hs
  unfold keyB
  split
  · rw [b2]
    exact congrArg (kA m c) (ix4_eq rfl (by dsimp only; omega) (by unfold pos; dsimp only at hs ⊢; omega) (by dsimp only; omega))
  · rw [b1]
    exact congrArg (kA m c) (ix4_eq rfl (by dsimp only; omega) (by unfold pos; dsimp only at hs ⊢; omega) (by dsimp only; omega))

/-- A seen place of the window reads its value from the value argument. -/
theorem val_read (c : Dev nD) (t : Fin cfg0.N) (r : Fin 128) (g : Fin 4) (k : Fin 256) (d : Fin 64) (hs : seen (iOf t).val r k) :
    valB (iblk m c 3 t) (iblk m c 4 t) g d k = vA m c (ix4 (bOf t) g (pos (iOf t) k) d) := by
  unfold seen at hs
  unfold valB
  split
  · rw [b4]
    exact congrArg (vA m c) (ix4_eq rfl (by dsimp only; omega) (by unfold pos; dsimp only at hs ⊢; omega) (by dsimp only; omega))
  · rw [b3]
    exact congrArg (vA m c) (ix4_eq rfl (by dsimp only; omega) (by unfold pos; dsimp only at hs ⊢; omega) (by dsimp only; omega))

/-- Lane `l` of a head pair's query row, in the query argument. -/
theorem qry_read (c : Dev nD) (t : Fin cfg0.N) (r : Fin 128) (g : Fin 4) (h : Fin 8) (l : Fin 128) :
    qryB (X0_0 m c t) g h r l = qA m c (ix4 (bOf t) ⟨g.val * 8 + h.val / 2 * 2 + l.val / 64, by omega⟩ (row (iOf t) r) ⟨l.val % 64, by omega⟩) * scl := by
  unfold qryB
  rw [b0]
  exact congrArg (fun z => qA m c z * scl) (ix4_eq rfl (by dsimp only; omega) (by unfold row; dsimp only) (by dsimp only; omega))

variable (q : S2x32x16384x64.Idx → ℝ) (k : S2x4x16384x64.Idx → ℝ) (z : S32.Idx → ℝ)

/-- One lane's product. -/
theorem lane_prod (c : Dev nD) (hq : ∀ i, qA m c i = (q i : EReal)) (hk : ∀ i, kA m c i = (k i : EReal))
    (t : Fin cfg0.N) (r : Fin 128) (g : Fin 4) (h : Fin 8) (w : Fin 256) (hs : seen (iOf t).val r w) (l : Fin 128) (d : Fin 64) (hd : l.val % 64 = d.val) (hp : l.val / 64 = h.val % 2) :
    keyB (iblk m c 1 t) (iblk m c 2 t) g w l * qryB (X0_0 m c t) g h r l
    = ((q (ix4 (bOf t) ⟨g.val * 8 + h.val, by omega⟩ (row (iOf t) r) d) * k (ix4 (bOf t) g (pos (iOf t) w) d) * (1 / 8 * (Real.log 2)⁻¹) : ℝ) : EReal) := by
  rw [key_read m c t r g w l hs, qry_read, hq, hk, scl_real, ← EReal.coe_mul, ← EReal.coe_mul]
  rw [ix4_eq (a' := bOf t) (b' := (⟨g.val * 8 + h.val, by omega⟩ : Fin 32)) (c' := row (iOf t) r) (d' := d) rfl (by dsimp only; omega) rfl hd,
    ix4_eq (a' := bOf t) (b' := g) (c' := pos (iOf t) w) (d' := d) (d := (⟨l.val % 64, by omega⟩ : Fin 64)) rfl rfl rfl hd]
  refine congrArg _ ?_
  ring

/-- The sum over the lanes is the scaled product of the query and the key row, over the logarithm of two. -/
theorem score_eq (c : Dev nD) (hq : ∀ i, qA m c i = (q i : EReal)) (hk : ∀ i, kA m c i = (k i : EReal))
    (t : Fin cfg0.N) (r : Fin 128) (g : Fin 4) (h : Fin 8) (w : Fin 256) (hs : seen (iOf t).val r w) :
    ∑ l : Fin 128, keyB (iblk m c 1 t) (iblk m c 2 t) g w l * (qryB (X0_0 m c t) g h r l * par h l)
    = ((dotR q k (bOf t) ⟨g.val * 8 + h.val, by omega⟩ (row (iOf t) r) (pos (iOf t) w) * (1 / 8) / Real.log 2 : ℝ) : EReal) := by
  have e : ((dotR q k (bOf t) ⟨g.val * 8 + h.val, by omega⟩ (row (iOf t) r) (pos (iOf t) w) * (1 / 8) / Real.log 2 : ℝ) : EReal)
      = ∑ d : Fin 64, ((q (ix4 (bOf t) ⟨g.val * 8 + h.val, by omega⟩ (row (iOf t) r) d) * k (ix4 (bOf t) g (pos (iOf t) w) d) * (1 / 8 * (Real.log 2)⁻¹) : ℝ) : EReal) := by
    rw [sum_coe, ← Finset.sum_mul]
    refine congrArg _ ?_
    unfold dotR
    rw [div_eq_mul_inv, mul_assoc]
    refine congrArg (· * _) (Finset.sum_congr rfl fun d _ => congrArg (q _ * ·) (congrArg k ?_))
    exact ix4_eq rfl (by dsimp only; omega) rfl rfl
  rw [e, Fin.sum_univ_two_halves 64 64 rfl]
  rcases Nat.mod_two_eq_zero_or_one h.val with hp | hp
  · rw [Finset.sum_eq_zero (f := fun d : Fin 64 => keyB (iblk m c 1 t) (iblk m c 2 t) g w ⟨64 + d.val, by omega⟩ * (qryB (X0_0 m c t) g h r ⟨64 + d.val, by omega⟩ * par h ⟨64 + d.val, by omega⟩)) fun d _ => by
      unfold par; rw [if_pos hp, if_neg (by dsimp only; omega), mul_zero, mul_zero], add_zero]
    refine Finset.sum_congr rfl fun d _ => ?_
    unfold par
    rw [if_pos hp, if_pos (by dsimp only; omega), mul_one]
    exact lane_prod m q k c hq hk t r g h w hs _ d (by dsimp only; omega) (by dsimp only; omega)
  · rw [Finset.sum_eq_zero (f := fun d : Fin 64 => keyB (iblk m c 1 t) (iblk m c 2 t) g w ⟨d.val, by omega⟩ * (qryB (X0_0 m c t) g h r ⟨d.val, by omega⟩ * par h ⟨d.val, by omega⟩)) fun d _ => by
      unfold par; rw [if_neg (by omega), if_pos (by dsimp only; omega), mul_zero, mul_zero], zero_add]
    refine Finset.sum_congr rfl fun d _ => ?_
    unfold par
    rw [if_neg (by omega), if_neg (by dsimp only; omega), mul_one]
    exact lane_prod m q k c hq hk t r g h w hs _ d (by dsimp only; omega) (by dsimp only; omega)

/-- The window's softmax, its scores being reals over the logarithm of two where seen and minus infinity elsewhere. -/
theorem win_form (p : Fin 256 → Prop) [DecidablePred p] (a : Fin 256 → ℝ) (x : ℝ) (s v : Fin 256 → EReal)
    (hs : ∀ w, s w = if p w then ((a w / Real.log 2 : ℝ) : EReal) else ⊥) (y : EReal) (hy : y = ((x / Real.log 2 : ℝ) : EReal)) :
    win s v y = ∑ w, if p w then v w * (wt p a x w : EReal) else 0 := exp2_form p a x s v hs y hy

/-- What a grid point leaves at a row, a head and a lane: the attention of the array's row. -/
theorem point (c : Dev nD) (hq : ∀ i, qA m c i = (q i : EReal)) (hk : ∀ i, kA m c i = (k i : EReal)) (hz : ∀ i, zA m c i = (z i : EReal))
    (t : Fin cfg0.N) (r : Fin 128) (g : Fin 4) (h : Fin 8) (d : Fin 64) :
    outsAt0 m c t (ix3 0 r ⟨g.val * 512 + (h.val * 64 + d.val), by omega⟩)
    = attn q k z (vA m c) (bOf t) ⟨g.val * 8 + h.val, by omega⟩ (row (iOf t) r) d := by
  rw [block, coord]
  unfold outB
  refine (win_form (seen (iOf t).val r) (fun w => dotR q k (bOf t) ⟨g.val * 8 + h.val, by omega⟩ (row (iOf t) r) (pos (iOf t) w) * (1 / 8)) (z (ix1 ⟨g.val * 8 + h.val, by omega⟩)) _ _
    (fun w => ?_) _ ?_).trans ?_
  · by_cases hs : seen (iOf t).val r w
    · rw [if_pos hs, if_pos hs]; exact score_eq m q k c hq hk t r g h w hs
    · rw [if_neg hs, if_neg hs]
  · rw [b5, hz, ← EReal.coe_mul, div_eq_mul_inv]
  unfold attn
  rw [← window_sum]
  refine Finset.sum_congr rfl fun w _ => ?_
  by_cases hs : seen (iOf t).val r w
  · rw [if_pos hs, if_pos hs, val_read m c t r g w d hs,
      window_wt (z (ix1 ⟨g.val * 8 + h.val, by omega⟩)) (iOf t) r (fun j => dotR q k (bOf t) ⟨g.val * 8 + h.val, by omega⟩ (row (iOf t) r) j * (1 / 8)) w]
    exact congrArg (fun i => vA m c i * _) (ix4_eq rfl (by dsimp only; omega) rfl rfl)
  · rw [if_neg hs, if_neg hs]

/-- The result array after the run: the attention of every row. -/
def result (c : Dev nD) : Buf (Elt Ideal) ((c : Thread nD τ).loc main_v21) := fun i : S2x16384x2048.Idx =>
  attn q k z (vA m c) (i 0) ⟨(i 2).val / 64, by have : (i 2).val < 2048 := (i 2).isLt; omega⟩ (i 1) ⟨(i 2).val % 64, by omega⟩

/-- The array the run leaves is `result`: the blocks written back tile it. -/
theorem final (c : Dev nD) (hq : ∀ i, qA m c i = (q i : EReal)) (hk : ∀ i, kA m c i = (k i : EReal)) (hz : ∀ i, zA m c i = (z i : EReal)) :
    (dats m 0 c).arrAt 6 (cfgs 0).N = result m q k z c := by
  refine (dats m 0 c).arrAt_eq_of_covers 6 _ (by decide +kernel) fun t hf y => ?_
  blk_simp
  rw [after0_6]
  have h2 : (y 2).val < 2048 := (y 2).isLt
  have h := point m q k z c hq hk hz t (y 1) ⟨(y 2).val / 512, by omega⟩ ⟨(y 2).val / 64 % 8, by omega⟩ ⟨(y 2).val % 64, by omega⟩
  have hy : (ix3 0 (y 1) ⟨(y 2).val / 512 * 512 + ((y 2).val / 64 % 8 * 64 + (y 2).val % 64), by omega⟩ : S1x128x2048.Idx) = y := by blk_ext
  dsimp only at h
  rw [hy] at h
  refine h.trans ?_
  unfold result
  have e0 : bOf t = (win0_6.blk t).view.emb y 0 := by apply Fin.ext; blk_simp [idx t]
  have e1 : row (iOf t) (y 1) = (win0_6.blk t).view.emb y 1 := by apply Fin.ext; unfold row; blk_simp [idx t]
  have e2 : ((win0_6.blk t).view.emb y 2).val = (y 2).val := by blk_simp [idx t]
  have e3 : (⟨(y 2).val / 512 * 8 + (y 2).val / 64 % 8, by omega⟩ : Fin 32) = ⟨((win0_6.blk t).view.emb y 2).val / 64, by omega⟩ :=
    Fin.ext (by show _ = ((win0_6.blk t).view.emb y 2).val / 64; rw [e2]; show (y 2).val / 512 * 8 + (y 2).val / 64 % 8 = (y 2).val / 64; omega)
  have e4 : (⟨(y 2).val % 64, by omega⟩ : Fin 64) = ⟨((win0_6.blk t).view.emb y 2).val % 64, by omega⟩ :=
    Fin.ext (by show _ = ((win0_6.blk t).view.emb y 2).val % 64; rw [e2])
  rw [e0, e1, e3, e4]
end Cert.SwaIdeal.Block
end
-- ==== Proof.SwaRef.lean ====
module

public import proofs.«01_k».proof.Proof.SwaVal
public import proofs.«01_k».proof.Proof.Gen.SwaRefIdeal.Read

@[expose] public section

set_option maxRecDepth 16384

noncomputable section
open Idealize.ShloMosaic Idealize.ShloMosaic.TcCoe Idealize.SL.Sem
namespace Cert.SwaRefIdeal.Eq
open Cert.SwaRefIdeal Cert.SwaRefIdeal.Gen Cert.SwaRefIdeal.Read Cert.SwaMath Cert.SwaIdeal.Pure

variable (Q : FVec Ideal S2x32x16384x64 .f32) (K V : FVec Ideal S2x4x16384x64 .f32) (Z : FVec Ideal S32 .f32)

/-- The distance between two positions, as a signed word. -/
theorem rel_word (s j : Fin 16384) : (IntOp.subi (BitVec.ofNat 32 s.val) (BitVec.ofNat 32 j.val)).toInt = (s.val : Int) - j.val := by
  show (BitVec.ofNat 32 s.val - BitVec.ofNat 32 j.val).toInt = _
  have h1 : (BitVec.ofNat 32 s.val).toInt = (s.val : Int) := WordCmp.toInt_ofNat_of_lt (by omega)
  have h2 : (BitVec.ofNat 32 j.val).toInt = (j.val : Int) := WordCmp.toInt_ofNat_of_lt (by omega)
  rw [BitVec.toInt_sub, h1, h2, Int.bmod_eq_of_le (by omega) (by omega)]

/-- The reference's mask selects the near keys. -/
theorem mask_ref (s j : Fin 16384) (x y : EReal) : Scalar.select (val_main_v11 (F := Ideal) (ix2 s j)) x y = if near s j then x else y := by
  pointwise [val_main_v11, val_main_v10, val_main_v9, val_main_v8, val_main_v7, val_main_v6, val_main_v5, val_main_v4, val_main_v3, val_main_v2, val_main_v1, val_main_c, val_main_c_0]
  rw [sge_word, slt_word, rel_word]
  simp (disch := word_cmp_side) only [hlo_ix]
  by_cases hv : j.val ≤ s.val ∧ s.val < j.val + 128
  · exact (if_pos (by omega)).trans (if_pos hv).symm
  · exact (if_neg (by omega)).trans (if_neg hv).symm

/-- The reference's masked scores. -/
theorem score_ref (b : Fin 2) (g : Fin 4) (h : Fin 8) (s j : Fin 16384) : val_main_v15 (F := Ideal) Q K (ix5 b g h s j)
    = if near s j then (∑ d : Fin 64, Q (ix4 b ⟨g.val * 8 + h.val, by omega⟩ s d) * K (ix4 b g j d)) * Ideal.ofBits .f32 0x3E000000#32 else ⊥ := by
  rw [← mask_ref]
  pointwise [val_main_v15, val_main_call0_v2, val_main_call0_v1, val_main_call0_v0, val_main_cst_1, val_main_v14, val_main_v13, val_main_cst, val_main_v12, val_main_v0]
  exact congrArg (Scalar.select _ _) rfl

/-- The reference's row of logits: first the scores. -/
theorem cat_ref (b : Fin 2) (g : Fin 4) (h : Fin 8) (s : Fin 16384) (j : Fin 16385) (hj : j.val < 16384) : val_main_v18 (F := Ideal) Q K Z (ix5 b g h s j)
    = val_main_v15 (F := Ideal) Q K (ix5 b g h s ⟨j.val, hj⟩) := by
  pointwise [val_main_v18]
  exact dif_pos hj

/-- The last logit is the head's sink. -/
theorem cat_last (b : Fin 2) (g : Fin 4) (h : Fin 8) (s : Fin 16384) (j : Fin 16385) (hj : ¬j.val < 16384) : val_main_v18 (F := Ideal) Q K Z (ix5 b g h s j)
    = Z (ix1 ⟨g.val * 8 + h.val, by omega⟩) := by
  pointwise [val_main_v18, val_main_v17, val_main_v16]
  exact dif_neg hj

/-- A maximum over the last axis, from minus infinity. -/
theorem max_last (y : FVec Ideal S2x4x8x16384x16385 .f32) (b : Fin 2) (g : Fin 4) (h : Fin 8) (s : Fin 16384) :
    Host.reduce FloatOps.maximumf y (constant (F := Ideal) S_ .f32 0xFF800000#32) reducesTo_S2x4x8x16384x16385_S2x4x8x16384_d4 h_S_ (ix4 b g h s)
    = Finset.univ.sup fun j : Fin 16385 => y (ix5 b g h s j) := by
  have hr : S2x4x8x16384x16385.Reduces [4] S2x4x8x16384 := by decide
  refine (Host.reduce_eq_fold_single FloatOps.maximumf y _ reducesTo_S2x4x8x16384x16385_S2x4x8x16384_d4 hr h_S_ (ix4 b g h s)).trans ?_
  have e : ∀ j : Fin 16385, hr.lift (ix4 b g h s) j = ix5 b g h s j := fun j => by
    funext a
    apply Fin.ext
    fin_cases a <;> rfl
  refine Eq.trans ?_ (congrArg (Finset.sup Finset.univ) (funext fun j => congrArg y (e j)))
  rfl

/-- The reference's row maximum. -/
theorem max_ref (b : Fin 2) (g : Fin 4) (h : Fin 8) (s : Fin 16384) : val_main_v21 (F := Ideal) Q K Z (ix4 b g h s)
    = max ⊥ (Finset.univ.sup fun j : Fin 16385 => val_main_v18 (F := Ideal) Q K Z (ix5 b g h s j)) := by
  have e : ∀ x y : EReal, FloatOps.maximumf (F := Ideal) (φ := .f32) x y = max x y := fun _ _ => rfl
  rw [val_main_v21_apply, e]
  refine congrArg₂ max ?_ ?_
  · rw [val_main_v20_apply, val_main_cst_3_apply]
    rfl
  · unfold val_main_v19 val_main_cst_2
    exact max_last _ b g h s

/-- The reference's weights. -/
theorem wt_ref (b : Fin 2) (g : Fin 4) (h : Fin 8) (s : Fin 16384) (j : Fin 16385) : val_main_v29 (F := Ideal) Q K Z (ix5 b g h s j)
    = Ideal.div (Ideal.exp (val_main_v18 (F := Ideal) Q K Z (ix5 b g h s j) - val_main_v21 (F := Ideal) Q K Z (ix4 b g h s)))
      (∑ i : Fin 16385, Ideal.exp (val_main_v18 (F := Ideal) Q K Z (ix5 b g h s i) - val_main_v21 (F := Ideal) Q K Z (ix4 b g h s))) := by
  pointwise [val_main_v29, val_main_v28, val_main_v27, val_main_v26, val_main_cst_4, val_main_v25, val_main_v24, val_main_v23, val_main_v22]

/-- The reference's result, from its weights. -/
theorem out_ref (b : Fin 2) (s : Fin 16384) (n : Fin 32) (d : Fin 64) : val_main_v35 (F := Ideal) Q K V Z (ix3 b s ⟨n.val * 64 + d.val, by omega⟩)
    = ∑ j : Fin 16384, val_main_v29 (F := Ideal) Q K Z (ix5 b ⟨n.val / 8, by omega⟩ ⟨n.val % 8, by omega⟩ s j.castSucc) * V (ix4 b ⟨n.val / 8, by omega⟩ j d) := by
  pointwise [val_main_v35, val_main_v34, val_main_v33, val_main_v32, val_main_v31, val_main_v30]
  rfl

/-- The reference's result is the attention. -/
theorem ref (q : S2x32x16384x64.Idx → ℝ) (k : S2x4x16384x64.Idx → ℝ) (z : S32.Idx → ℝ)
    (hq : ∀ i, Q i = (q i : EReal)) (hk : ∀ i, K i = (k i : EReal)) (hz : ∀ i, Z i = (z i : EReal))
    (b : Fin 2) (s : Fin 16384) (n : Fin 32) (d : Fin 64) : val_main_v35 (F := Ideal) Q K V Z (ix3 b s ⟨n.val * 64 + d.val, by omega⟩)
    = Cert.SwaIdeal.Block.attn q k z V b n s d := by
  rw [out_ref]
  simp only [wt_ref, max_ref]
  refine (exp_form (z (ix1 n)) (near s) (fun j => Cert.SwaIdeal.Block.dotR q k b n s j * (1 / 8))
    (fun i => val_main_v18 (F := Ideal) Q K Z (ix5 b ⟨n.val / 8, by omega⟩ ⟨n.val % 8, by omega⟩ s i)) (fun j => ?_) ?_
    (fun j => V (ix4 b ⟨n.val / 8, by omega⟩ j d))).trans rfl
  · beta_reduce
    rw [cat_ref _ _ _ _ _ _ _ _ (by rw [Fin.val_castSucc]; exact j.isLt), score_ref, Cert.SwaIdeal.Block.eighth]
    refine if_congr Iff.rfl ?_ rfl
    simp only [hq, hk, ← EReal.coe_mul]
    rw [sum_coe, ← EReal.coe_mul]
    refine congrArg (fun x : ℝ => ((x * (1 / 8) : ℝ) : EReal)) (Finset.sum_congr rfl fun d _ => ?_)
    exact congrArg (fun i => q i * _) (Cert.SwaIdeal.Block.ix4_eq rfl (by dsimp only; omega) rfl rfl)
  · beta_reduce
    rw [cat_last _ _ _ _ _ _ _ _ (by rw [Fin.val_last]; exact lt_irrefl _), hz]
    exact congrArg (fun i : Fin 32 => (z (ix1 i) : EReal)) (Fin.ext (by dsimp only; omega))
end Cert.SwaRefIdeal.Eq
end
-- ==== Proof.SwaFinite.lean ====
module

public import proofs.«01_k».proof.Proof.Gen.Pre_finite
public import Idealize.ShloMosaic.Lib.Pointwise
public import Idealize.ShloMosaic.Lib.ReduceAll

@[expose] public section

noncomputable section
open Idealize.ShloMosaic Idealize.ShloMosaic.TcCoe Idealize.SL.Sem
namespace Cert.SwaFinite

/-- An extended real whose absolute value compares below infinity is a real. -/
theorem real_of_lt (x : EReal) (h : Ideal.cmp .olt (max x (-x)) (Ideal.ofBits .f32 0x7F800000#32) = 1#1) : x = (x.toReal : EReal) := by
  have hi : Ideal.ofBits .f32 0x7F800000#32 = ⊤ := rfl
  rw [hi] at h
  have hlt : max x (-x) < ⊤ := by
    by_contra hn
    unfold Ideal.cmp at h
    simp [hn] at h
  refine (EReal.coe_toReal (lt_of_le_of_lt (le_max_left _ _) hlt).ne ?_).symm
  intro hb
  rw [hb, EReal.neg_bot] at hlt
  exact absurd (lt_of_le_of_lt (le_max_right _ _) hlt) (lt_irrefl _)

/-- A shape without axes has one index. -/
instance : Subsingleton (Cert.Pre_finite.S_).Idx := ⟨fun a b => funext fun i => i.elim0⟩

/-- The precondition says that every query, key and sink logit is a real. -/
theorem finite_real (q : FVec Ideal Cert.Pre_finite.S2x32x16384x64 .f32) (k v : FVec Ideal Cert.Pre_finite.S2x4x16384x64 .f32) (z : FVec Ideal Cert.Pre_finite.S32 .f32)
    (h0 : (Cert.Pre_finite.fn q k v z).1 = fun _ => 1#1) (h1 : (Cert.Pre_finite.fn q k v z).2.1 = fun _ => 1#1) (h2 : (Cert.Pre_finite.fn q k v z).2.2 = fun _ => 1#1) :
    (∀ i, q i = ((q i).toReal : EReal)) ∧ (∀ i, k i = ((k i).toReal : EReal)) ∧ (∀ i, z i = ((z i).toReal : EReal)) := by
  unfold Cert.Pre_finite.fn at h0 h1 h2
  dsimp only at h0 h1 h2
  exact ⟨fun i => real_of_lt _ (Host.reduce_andi_all _ _ _ _ ValueIdx.ix0 (congrFun h0 _) i), fun i => real_of_lt _ (Host.reduce_andi_all _ _ _ _ ValueIdx.ix0 (congrFun h1 _) i),
    fun i => real_of_lt _ (Host.reduce_andi_all _ _ _ _ ValueIdx.ix0 (congrFun h2 _) i)⟩
end Cert.SwaFinite
end
-- ==== Proof.OutEven.lean ====
module

public import proofs.«01_k».proof.Proof.Gen.OutEvenIdeal.Value
public import proofs.«01_k».proof.Proof.Gen.OutEvenRefIdeal.Read
public import Idealize.ShloMosaic.Lib.Pipeline.ValueKit
public import Idealize.ShloMosaic.Lib.Pointwise
public import Idealize.ShloMosaic.Lib.Claim

@[expose] public section

set_option maxRecDepth 16384

noncomputable section
open Idealize.ShloMosaic Idealize.ShloMosaic.TcCoe Idealize.SL.Sem
open Idealize.ShloMosaic.Pipeline (Dat)
namespace Cert.OutEvenIdeal.Step
open Cert.OutEvenIdeal Cert.OutEvenIdeal.Gen

/-- The block each window shows at grid point `t`. -/
theorem idx : ∀ t : Fin cfg0.N, win0_0.index t = ![t.val / 32, t.val % 32, 0] ∧ win0_1.index t = ![t.val / 32, t.val % 32, 0]
    ∧ win0_2.index t = ![0, 0] ∧ win0_3.index t = ![0, 0] ∧ win0_4.index t = ![t.val / 32, 0, 0]
    ∧ win0_5.index t = ![t.val / 32, t.val % 32, 0] ∧ win0_6.index t = ![t.val / 32, t.val % 32, 0] :=
  (by decide +kernel : ∀ t : Fin grid0.N, _)

variable (m : (ℓ : Loc nD τ sig) → Buf (Elt Ideal) ℓ)

/-- The batch entry a point works on. -/
abbrev bOf (t : Fin cfg0.N) : Fin 2 := ⟨t.val / 32, by have := lt_of_lt_of_eq t.isLt (show cfg0.N = 64 from N_0); omega⟩
/-- The sequence row that row `r` of a point's block is. -/
abbrev sOf (t : Fin cfg0.N) (r : Fin 512) : Fin 16384 := ⟨t.val % 32 * 512 + r.val, by have := r.isLt; omega⟩

/-- The block-sparse attention's column `j` of a row. -/
def aCol (A : FVec Ideal S2x8x16384x128 .f32) (b : Fin 2) (s : Fin 16384) (j : Fin 1024) : EReal :=
  A (ix4 b ⟨j.val / 128, by omega⟩ s ⟨j.val % 128, by omega⟩)

/-- The differential attention's column `j` of a row. -/
def bCol (B : FVec Ideal S2x4x16384x256 .f32) (b : Fin 2) (s : Fin 16384) (j : Fin 1024) : EReal :=
  B (ix4 b ⟨j.val / 256, by omega⟩ s ⟨j.val % 256, by omega⟩)

/-- One entry of the residual stream after the output projection. -/
def outRow (X : FVec Ideal S2x16384x2048 .f32) (M : FVec Ideal S2x12288 .f32) (A : FVec Ideal S2x8x16384x128 .f32) (B : FVec Ideal S2x4x16384x256 .f32)
    (W : FVec Ideal S2048x2048 .f32) (b : Fin 2) (s : Fin 16384) (e : Fin 2048) : EReal :=
  X (ix3 b s e) + M (ix2 b ⟨4096 + e.val, by omega⟩)
    * ((∑ j : Fin 1024, aCol A b s j * W (ix2 ⟨j.val, by omega⟩ e)) + ∑ j : Fin 1024, bCol B b s j * W (ix2 ⟨1024 + j.val, by omega⟩ e))

/-- A point's rows of the block-sparse attention. -/
theorem b0 (c : Dev nD) (t : Fin cfg0.N) (r : Fin 512) (j : Fin 1024) :
    iblk m c 0 t (ix3 0 r j) = aCol (m ((c : Thread nD τ).loc main_arg2)) (bOf t) (sOf t r) j := by
  unfold aCol
  blk_simp [iblk]
  entry_read
  pointwise
  blk_ext [idx t]

/-- A point's rows of the differential attention. -/
theorem b1 (c : Dev nD) (t : Fin cfg0.N) (r : Fin 512) (j : Fin 1024) :
    iblk m c 1 t (ix3 0 r j) = bCol (m ((c : Thread nD τ).loc main_arg3)) (bOf t) (sOf t r) j := by
  unfold bCol
  blk_simp [iblk]
  entry_read
  pointwise
  blk_ext [idx t]

/-- The upper half of the weights. -/
theorem b2 (c : Dev nD) (t : Fin cfg0.N) (j : Fin 1024) (e : Fin 2048) :
    iblk m c 2 t (ix2 j e) = m ((c : Thread nD τ).loc main_arg4) (ix2 ⟨j.val, by omega⟩ e) := by
  blk_simp [iblk]
  entry_read
  pointwise
  blk_ext [idx t]

/-- The lower half of the weights. -/
theorem b3 (c : Dev nD) (t : Fin cfg0.N) (j : Fin 1024) (e : Fin 2048) :
    iblk m c 3 t (ix2 j e) = m ((c : Thread nD τ).loc main_arg4) (ix2 ⟨1024 + j.val, by omega⟩ e) := by
  blk_simp [iblk]
  entry_read
  pointwise
  blk_ext [idx t]

/-- A point's modulation gate. -/
theorem b4 (c : Dev nD) (t : Fin cfg0.N) (e : Fin 2048) :
    iblk m c 4 t (ix3 0 0 e) = m ((c : Thread nD τ).loc main_arg1) (ix2 (bOf t) ⟨4096 + e.val, by omega⟩) := by
  blk_simp [iblk]
  entry_read
  pointwise
  blk_ext [idx t]

/-- A point's rows of the residual stream. -/
theorem b5 (c : Dev nD) (t : Fin cfg0.N) (r : Fin 512) (e : Fin 2048) :
    iblk m c 5 t (ix3 0 r e) = m ((c : Thread nD τ).loc main_arg0) (ix3 (bOf t) (sOf t r) e) := by
  blk_simp [iblk]
  entry_read
  blk_ext [idx t]

/-- The block a point leaves, from the blocks it reads. -/
theorem blk (x0 x1 : FVec Ideal S1x512x1024 .bf16) (x2 x3 : FVec Ideal S1024x2048 .bf16) (x4 : FVec Ideal S1x1x2048 .f32) (x5 : FVec Ideal S1x512x2048 .f32)
    (r : Fin 512) (e : Fin 2048) : out0_6 (F := Ideal) x0 x1 x2 x3 x4 x5 (ix3 0 r e)
    = x5 (ix3 0 r e) + x4 (ix3 0 0 e) * ((∑ j : Fin 1024, x0 (ix3 0 r j) * x2 (ix2 j e)) + ∑ j : Fin 1024, x1 (ix3 0 r j) * x3 (ix2 j e)) := by
  unfold out0_6
  frame_out
  open_payloads
  pointwise

/-- The block point `t` leaves. -/
theorem point (c : Dev nD) (t : Fin cfg0.N) (r : Fin 512) (e : Fin 2048) : out0_6 (iblk m c 0 t) (iblk m c 1 t) (iblk m c 2 t) (iblk m c 3 t) (iblk m c 4 t) (iblk m c 5 t) (ix3 0 r e)
    = outRow (m ((c : Thread nD τ).loc main_arg0)) (m ((c : Thread nD τ).loc main_arg1)) (m ((c : Thread nD τ).loc main_arg2)) (m ((c : Thread nD τ).loc main_arg3)) (m ((c : Thread nD τ).loc main_arg4)) (bOf t) (sOf t r) e := by
  unfold outRow
  rw [blk]
  simp only [b0, b1, b2, b3, b4, b5]

/-- The result array after the run. -/
def result (c : Dev nD) : Buf (Elt Ideal) ((c : Thread nD τ).loc main_v21) := fun i : S2x16384x2048.Idx =>
  outRow (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) (i 2)

/-- The array the run leaves is `result`: the points' blocks tile it. -/
theorem final (c : Dev nD) : (dats m 0 c).arrAt 6 (cfgs 0).N = result m c := by
  refine (dats m 0 c).arrAt_eq_of_covers 6 _ (by decide +kernel) fun t hf y => ?_
  blk_simp
  rw [after0_6]
  have hy : (ix3 0 (y 1) (y 2) : S1x512x2048.Idx) = y := by blk_ext
  have h := point m c t (y 1) (y 2)
  rw [hy] at h
  refine h.trans ?_
  unfold result
  have e0 : bOf t = (win0_6.blk t).view.emb y 0 := by apply Fin.ext; blk_simp [idx t]
  have e1 : sOf t (y 1) = (win0_6.blk t).view.emb y 1 := by apply Fin.ext; blk_simp [idx t]
  have e2 : y 2 = (win0_6.blk t).view.emb y 2 := by apply Fin.ext; blk_simp [idx t]
  rw [e0, e1, e2]
end Cert.OutEvenIdeal.Step

namespace Cert.OutEvenRefIdeal.Eq
open Cert.OutEvenRefIdeal Cert.OutEvenRefIdeal.Gen Cert.OutEvenRefIdeal.Read
open Cert.OutEvenIdeal.Step (aCol bCol outRow)

/-- The reference's joined rows: the first half. -/
theorem join_lo (A : FVec Ideal S2x8x16384x128 .f32) (B : FVec Ideal S2x4x16384x256 .f32) (b : Fin 2) (s : Fin 16384) (j : Fin 1024) :
    val_main_v11 (F := Ideal) A B (ix3 b s ⟨j.val, by omega⟩) = aCol A b s j := by
  have hj := j.isLt
  pointwise [val_main_v11, val_main_v8, val_main_v7, aCol]

/-- The reference's joined rows: the second half. -/
theorem join_hi (A : FVec Ideal S2x8x16384x128 .f32) (B : FVec Ideal S2x4x16384x256 .f32) (b : Fin 2) (s : Fin 16384) (j : Fin 1024) :
    val_main_v11 (F := Ideal) A B (ix3 b s ⟨1024 + j.val, by omega⟩) = bCol B b s j := by
  have hj := j.isLt
  pointwise [val_main_v11, val_main_v10, val_main_v9, bCol]

/-- The reference's result. -/
theorem ref (X : FVec Ideal S2x16384x2048 .f32) (M : FVec Ideal S2x12288 .f32) (A : FVec Ideal S2x8x16384x128 .f32) (B : FVec Ideal S2x4x16384x256 .f32)
    (W : FVec Ideal S2048x2048 .f32) (b : Fin 2) (s : Fin 16384) (e : Fin 2048) : val_main_v15 (F := Ideal) X M A B W (ix3 b s e) = outRow X M A B W b s e := by
  have h : val_main_v15 (F := Ideal) X M A B W (ix3 b s e) = X (ix3 b s e) + M (ix2 b ⟨4096 + e.val, by omega⟩)
      * ∑ j : Fin 2048, val_main_v11 (F := Ideal) A B (ix3 b s j) * W (ix2 j e) := by
    pointwise [val_main_v15, val_main_v14, val_main_v13, val_main_v3, val_main_v0, val_main_v12]
  rw [h]
  unfold outRow
  simp only [← join_lo A B b s, ← join_hi A B b s]
  refine congrArg _ (congrArg _ ?_)
  exact Fin.sum_univ_add (a := 1024) (b := 1024) (fun j : Fin 2048 => (val_main_v11 (F := Ideal) A B (ix3 b s j) * W (ix2 j e) : EReal))
end Cert.OutEvenRefIdeal.Eq
end
-- ==== Proof.OutOdd.lean ====
module

public import proofs.«01_k».proof.Proof.Gen.OutOddIdeal.Value
public import proofs.«01_k».proof.Proof.Gen.OutOddRefIdeal.Read
public import Idealize.ShloMosaic.Lib.Pipeline.ValueKit
public import Idealize.ShloMosaic.Lib.Pointwise
public import Idealize.ShloMosaic.Lib.Claim

@[expose] public section

set_option maxRecDepth 16384

noncomputable section
open Idealize.ShloMosaic Idealize.ShloMosaic.TcCoe Idealize.SL.Sem
open Idealize.ShloMosaic.Pipeline (Dat)
namespace Cert.OutOddIdeal.Step
open Cert.OutOddIdeal Cert.OutOddIdeal.Gen

/-- The block each window shows at grid point `t`. -/
theorem idx : ∀ t : Fin cfg0.N, win0_0.index t = ![t.val / 32, t.val % 32, 0] ∧ win0_1.index t = ![0, 0]
    ∧ win0_2.index t = ![0, 0] ∧ win0_3.index t = ![t.val / 32, 0, 0]
    ∧ win0_4.index t = ![t.val / 32, t.val % 32, 0] ∧ win0_5.index t = ![t.val / 32, t.val % 32, 0] :=
  (by decide +kernel : ∀ t : Fin grid0.N, _)

variable (m : (ℓ : Loc nD τ sig) → Buf (Elt Ideal) ℓ)

/-- The batch entry a point works on. -/
abbrev bOf (t : Fin cfg0.N) : Fin 2 := ⟨t.val / 32, by have := lt_of_lt_of_eq t.isLt (show cfg0.N = 64 from N_0); omega⟩
/-- The sequence row that row `r` of a point's block is. -/
abbrev sOf (t : Fin cfg0.N) (r : Fin 512) : Fin 16384 := ⟨t.val % 32 * 512 + r.val, by have := r.isLt; omega⟩

/-- The attention's column `j` of a row. -/
def yCol (Y : FVec Ideal S2x32x16384x64 .f32) (b : Fin 2) (s : Fin 16384) (j : Fin 2048) : EReal :=
  Y (ix4 b ⟨j.val / 64, by omega⟩ s ⟨j.val % 64, by omega⟩)

/-- One entry of the residual stream after the output projection. -/
def outRow (X : FVec Ideal S2x16384x2048 .f32) (M : FVec Ideal S2x12288 .f32) (Y : FVec Ideal S2x32x16384x64 .f32)
    (W : FVec Ideal S2048x2048 .f32) (Z : FVec Ideal S2048 .f32) (b : Fin 2) (s : Fin 16384) (e : Fin 2048) : EReal :=
  X (ix3 b s e) + M (ix2 b ⟨4096 + e.val, by omega⟩) * ((∑ j : Fin 2048, yCol Y b s j * W (ix2 j e)) + Z (ix1 e))

/-- A point's rows of the attention. -/
theorem b0 (c : Dev nD) (t : Fin cfg0.N) (r : Fin 512) (j : Fin 2048) :
    iblk m c 0 t (ix3 0 r j) = yCol (m ((c : Thread nD τ).loc main_arg2)) (bOf t) (sOf t r) j := by
  unfold yCol
  blk_simp [iblk]
  entry_read
  pointwise
  blk_ext [idx t]

/-- The weights. -/
theorem b1 (c : Dev nD) (t : Fin cfg0.N) (j : Fin 2048) (e : Fin 2048) :
    iblk m c 1 t (ix2 j e) = m ((c : Thread nD τ).loc main_arg3) (ix2 j e) := by
  blk_simp [iblk]
  entry_read
  pointwise
  blk_ext [idx t]

/-- The bias. -/
theorem b2 (c : Dev nD) (t : Fin cfg0.N) (e : Fin 2048) :
    iblk m c 2 t (ix2 0 e) = m ((c : Thread nD τ).loc main_arg4) (ix1 e) := by
  blk_simp [iblk]
  entry_read
  pointwise
  blk_ext [idx t]

/-- A point's modulation gate. -/
theorem b3 (c : Dev nD) (t : Fin cfg0.N) (e : Fin 2048) :
    iblk m c 3 t (ix3 0 0 e) = m ((c : Thread nD τ).loc main_arg1) (ix2 (bOf t) ⟨4096 + e.val, by omega⟩) := by
  blk_simp [iblk]
  entry_read
  pointwise
  blk_ext [idx t]

/-- A point's rows of the residual stream. -/
theorem b4 (c : Dev nD) (t : Fin cfg0.N) (r : Fin 512) (e : Fin 2048) :
    iblk m c 4 t (ix3 0 r e) = m ((c : Thread nD τ).loc main_arg0) (ix3 (bOf t) (sOf t r) e) := by
  blk_simp [iblk]
  entry_read
  blk_ext [idx t]

/-- The block a point leaves, from the blocks it reads. -/
theorem blk (x0 : FVec Ideal S1x512x2048 .bf16) (x1 : FVec Ideal S2048x2048 .bf16) (x2 : FVec Ideal S1x2048 .f32) (x3 : FVec Ideal S1x1x2048 .f32) (x4 : FVec Ideal S1x512x2048 .f32)
    (r : Fin 512) (e : Fin 2048) : out0_5 (F := Ideal) x0 x1 x2 x3 x4 (ix3 0 r e)
    = x4 (ix3 0 r e) + x3 (ix3 0 0 e) * ((∑ j : Fin 2048, x0 (ix3 0 r j) * x1 (ix2 j e)) + x2 (ix2 0 e)) := by
  unfold out0_5
  frame_out
  open_payloads
  pointwise

/-- The block point `t` leaves. -/
theorem point (c : Dev nD) (t : Fin cfg0.N) (r : Fin 512) (e : Fin 2048) : out0_5 (iblk m c 0 t) (iblk m c 1 t) (iblk m c 2 t) (iblk m c 3 t) (iblk m c 4 t) (ix3 0 r e)
    = outRow (m ((c : Thread nD τ).loc main_arg0)) (m ((c : Thread nD τ).loc main_arg1)) (m ((c : Thread nD τ).loc main_arg2)) (m ((c : Thread nD τ).loc main_arg3)) (m ((c : Thread nD τ).loc main_arg4)) (bOf t) (sOf t r) e := by
  unfold outRow
  rw [blk]
  simp only [b0, b1, b2, b3, b4]

/-- The result array after the run. -/
def result (c : Dev nD) : Buf (Elt Ideal) ((c : Thread nD τ).loc main_v17) := fun i : S2x16384x2048.Idx =>
  outRow (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) (i 2)

/-- The array the run leaves is `result`: the points' blocks tile it. -/
theorem final (c : Dev nD) : (dats m 0 c).arrAt 5 (cfgs 0).N = result m c := by
  refine (dats m 0 c).arrAt_eq_of_covers 5 _ (by decide +kernel) fun t hf y => ?_
  blk_simp
  rw [after0_5]
  have hy : (ix3 0 (y 1) (y 2) : S1x512x2048.Idx) = y := by blk_ext
  have h := point m c t (y 1) (y 2)
  rw [hy] at h
  refine h.trans ?_
  unfold result
  have e0 : bOf t = (win0_5.blk t).view.emb y 0 := by apply Fin.ext; blk_simp [idx t]
  have e1 : sOf t (y 1) = (win0_5.blk t).view.emb y 1 := by apply Fin.ext; blk_simp [idx t]
  have e2 : y 2 = (win0_5.blk t).view.emb y 2 := by apply Fin.ext; blk_simp [idx t]
  rw [e0, e1, e2]
end Cert.OutOddIdeal.Step

namespace Cert.OutOddRefIdeal.Eq
open Cert.OutOddRefIdeal Cert.OutOddRefIdeal.Gen Cert.OutOddRefIdeal.Read
open Cert.OutOddIdeal.Step (yCol outRow)

/-- The reference's result. -/
theorem ref (X : FVec Ideal S2x16384x2048 .f32) (M : FVec Ideal S2x12288 .f32) (Y : FVec Ideal S2x32x16384x64 .f32)
    (W : FVec Ideal S2048x2048 .f32) (Z : FVec Ideal S2048 .f32) (b : Fin 2) (s : Fin 16384) (e : Fin 2048) : val_main_v15 (F := Ideal) X M Y W Z (ix3 b s e) = outRow X M Y W Z b s e := by
  pointwise [val_main_v15, val_main_v14, val_main_v13, val_main_v12, val_main_v11, val_main_v10, val_main_v9, val_main_v8, val_main_v7, val_main_v3, val_main_v0, outRow, yCol]
end Cert.OutOddRefIdeal.Eq
end
-- ==== Proof.ProjStep.lean ====
module

public import proofs.«01_k».proof.Proof.Gen.ProjEvenIdeal.Value
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem
open Idealize.ShloMosaic.Pipeline (Dat)
namespace Cert.ProjEvenIdeal.Step
open Cert.ProjEvenIdeal Cert.ProjEvenIdeal.Gen

/-- One entry of a block's normalised and modulated rows. -/
def hBlk (x : FVec Ideal S1x512x2048 .f32) (sc sh : FVec Ideal S1x1x2048 .f32) (r : Fin 512) (d : Fin 2048) : EReal :=
  (x (ix3 0 r d) * Ideal.rsqrt (Ideal.div (∑ e : Fin 2048, x (ix3 0 r e) * x (ix3 0 r e)) (Ideal.ofBits .f32 0x45000000#32) + Ideal.ofBits .f32 0x358637BD#32))
    * (Ideal.ofBits .f32 0x3F800000#32 + sc (ix3 0 0 d)) + sh (ix3 0 0 d)

/-- One entry of a row's product with the query and key columns, held in tiles of 512. -/
def accBlk (h : Fin 2048 → EReal) (w : FVec Ideal S8x2048x512 .bf16) (e : Fin 4096) : EReal :=
  ∑ d : Fin 2048, h d * w (ix3 ⟨e.val / 512, by omega⟩ d ⟨e.val % 512, by omega⟩)

/-- The rotary table a column uses: the first for the queries, the second for the keys. -/
def tab (e : Fin 4096) : Fin 2 := ⟨e.val / 1024 % 2, by omega⟩

/-- The column half a head away, within the head. -/
def mate (e : Fin 4096) : Fin 4096 := ⟨e.val / 128 * 128 + (e.val + 64) % 128, by omega⟩

/-- One entry of a block's rotated queries and keys. -/
def qkBlk (h : Fin 2048 → EReal) (w : FVec Ideal S8x2048x512 .bf16) (co si : FVec Ideal S2x512x128 .f32) (r : Fin 512) (e : Fin 4096) : EReal :=
  accBlk h w e * co (ix3 (tab e) r ⟨e.val % 128, by omega⟩) + accBlk h w (mate e) * si (ix3 (tab e) r ⟨e.val % 128, by omega⟩)

/-- The rows of rotated queries and keys a point leaves, from the blocks it reads. -/
theorem qk_apply (x0 : FVec Ideal S1x512x2048 .f32) (x1 x2 : FVec Ideal S1x1x2048 .f32) (x3 : FVec Ideal S8x2048x512 .bf16) (x4 : FVec Ideal S4x2048x512 .bf16) (x5 x6 : FVec Ideal S2x512x128 .f32) (r : Fin 512) (e : Fin 4096) :
    out0_7 (F := Ideal) x0 x1 x2 x3 x4 x5 x6 (ix3 0 r e) = qkBlk (hBlk x0 x1 x2 r) x3 x5 x6 r e := by
  unfold out0_7
  frame_out
  canon_tiles x h
  all_goals
    simp only [ix3_0, ix3_1, ix3_2] at h0 h1 h2
    open_payloads
    pointwise [qkBlk, accBlk, tab, mate, hBlk]
    blk_point

/-- One entry of a row's product with the value columns, held in tiles of 512. -/
def vBlk (h : Fin 2048 → EReal) (w : FVec Ideal S4x2048x512 .bf16) (e : Fin 2048) : EReal :=
  ∑ d : Fin 2048, h d * w (ix3 ⟨e.val / 512, by omega⟩ d ⟨e.val % 512, by omega⟩)

/-- The transposed tile of values a point leaves. -/
theorem v_apply (x0 : FVec Ideal S1x512x2048 .f32) (x1 x2 : FVec Ideal S1x1x2048 .f32) (x3 : FVec Ideal S8x2048x512 .bf16) (x4 : FVec Ideal S4x2048x512 .bf16) (x5 x6 : FVec Ideal S2x512x128 .f32) (e : Fin 2048) (r : Fin 512) :
    out0_8 (F := Ideal) x0 x1 x2 x3 x4 x5 x6 (ix4 0 0 e r) = vBlk (hBlk x0 x1 x2 r) x4 e := by
  unfold out0_8
  canon_tiles x h
  all_goals
    simp only [ix4_0, ix4_1, ix4_2, ix4_3] at h0 h1 h2 h3
    open_payloads
    pointwise [vBlk, hBlk]
    blk_point
end Cert.ProjEvenIdeal.Step
end
-- ==== Proof.ProjEven.lean ====
module

public import proofs.«01_k».proof.Proof.ProjStep
public import proofs.«01_k».proof.Proof.SwaMath
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem
open Idealize.ShloMosaic.Pipeline (Dat)
namespace Cert.ProjEvenIdeal.Step
open Cert.ProjEvenIdeal Cert.ProjEvenIdeal.Gen

/-- The block each window shows at grid point `t`. -/
theorem idx : ∀ t : Fin cfg0.N, win0_0.index t = ![t.val / 32, t.val % 32, 0] ∧ win0_1.index t = ![t.val / 32, 0, 0]
    ∧ win0_2.index t = ![t.val / 32, 0, 0] ∧ win0_3.index t = ![0, 0, 0] ∧ win0_4.index t = ![0, 0, 0]
    ∧ win0_5.index t = ![0, t.val % 32, 0] ∧ win0_6.index t = ![0, t.val % 32, 0]
    ∧ win0_7.index t = ![t.val / 32, t.val % 32, 0] ∧ win0_8.index t = ![t.val / 32, t.val % 32, 0, 0] :=
  (by decide +kernel : ∀ t : Fin grid0.N, _)

variable (m : (ℓ : Loc nD τ sig) → Buf (Elt Ideal) ℓ)

/-- The batch entry a point works on. -/
abbrev bOf (t : Fin cfg0.N) : Fin 2 := ⟨t.val / 32, by have := lt_of_lt_of_eq t.isLt (show cfg0.N = 64 from N_0); omega⟩
/-- The sequence row that row `r` of a point's block is. -/
abbrev sOf (t : Fin cfg0.N) (r : Fin 512) : Fin 16384 := ⟨t.val % 32 * 512 + r.val, by have := r.isLt; omega⟩

/-- The argument of the residual stream. -/
abbrev xA (c : Dev nD) : FVec Ideal S2x16384x2048 .f32 := m ((c : Thread nD τ).loc main_arg0)
/-- The argument of the modulation. -/
abbrev mA (c : Dev nD) : FVec Ideal S2x12288 .f32 := m ((c : Thread nD τ).loc main_arg1)
/-- The argument of the weights. -/
abbrev wA (c : Dev nD) : FVec Ideal S2048x6144 .f32 := m ((c : Thread nD τ).loc main_arg2)
/-- The argument of cosines. -/
abbrev cA (c : Dev nD) : FVec Ideal S16384x64 .f32 := m ((c : Thread nD τ).loc main_arg3)
/-- The argument of sines. -/
abbrev sA (c : Dev nD) : FVec Ideal S16384x64 .f32 := m ((c : Thread nD τ).loc main_arg4)

/-- One entry of a normalised and modulated row. -/
def hRow (X : FVec Ideal S2x16384x2048 .f32) (M : FVec Ideal S2x12288 .f32) (b : Fin 2) (s : Fin 16384) (d : Fin 2048) : EReal :=
  (X (ix3 b s d) * Ideal.rsqrt (Ideal.div (∑ e : Fin 2048, X (ix3 b s e) * X (ix3 b s e)) (Ideal.ofBits .f32 0x45000000#32) + Ideal.ofBits .f32 0x358637BD#32))
    * (Ideal.ofBits .f32 0x3F800000#32 + M (ix2 b ⟨2048 + d.val, by omega⟩)) + M (ix2 b ⟨d.val, by omega⟩)

/-- One entry of a row's product with the weights. -/
def projRow (X : FVec Ideal S2x16384x2048 .f32) (M : FVec Ideal S2x12288 .f32) (W : FVec Ideal S2048x6144 .f32) (b : Fin 2) (s : Fin 16384) (e : Fin 6144) : EReal :=
  ∑ d : Fin 2048, hRow X M b s d * W (ix2 d e)

/-- The weights' column that a column of queries and keys uses. -/
def qkCol (e : Fin 4096) : Fin 6144 := ⟨if e.val < 2048 then e.val else 1024 + e.val, by split <;> omega⟩
/-- The weights' column that a column of values uses. -/
def vCol (e : Fin 2048) : Fin 6144 := ⟨if e.val < 1024 then 2048 + e.val else 4096 + e.val, by split <;> omega⟩

/-- The factor the queries are scaled by: one over the root of the head's width, over the natural logarithm of two. -/
def scl : EReal := Ideal.div (Ideal.ofBits .f32 0x3DB504F3#32) (Ideal.log (Ideal.ofBits .f32 0x40000000#32))

/-- The rotary table of cosines: both halves the same. -/
def cosT (C : FVec Ideal S16384x64 .f32) (s : Fin 16384) (l : Fin 128) : EReal := C (ix2 s ⟨l.val % 64, by omega⟩)
/-- The rotary table of sines: the first half negated. -/
def sinT (S : FVec Ideal S16384x64 .f32) (s : Fin 16384) (l : Fin 128) : EReal :=
  if l.val < 64 then -S (ix2 s ⟨l.val % 64, by omega⟩) else S (ix2 s ⟨l.val % 64, by omega⟩)

/-- The table of cosines as the call finds it. -/
theorem v17_apply (c : Dev nD) (s : Fin 16384) (l : Fin 128) : V m c main_v17 (ix2 s l) = cosT (cA m c) s l := by
  have hl := l.isLt
  entry_read
  pointwise [cosT]
  split <;> blk_ext

/-- The table of sines as the call finds it. -/
theorem v22_apply (c : Dev nD) (s : Fin 16384) (l : Fin 128) : V m c main_v22 (ix2 s l) = sinT (sA m c) s l := by
  have hl := l.isLt
  entry_read
  pointwise [sinT]
  by_cases h : l.val < 64
  · rw [dif_pos h, if_pos h]
    refine congrArg (fun z : EReal => -z) ?_
    blk_ext
  · rw [dif_neg h, if_neg h]
    blk_ext

/-- The contents before the call, as the host operations from the `n`-th on leave them over those of the first `n`. -/
theorem V_split (n : ℕ) (c : Dev nD) (b : Ref sig .tc) : V m c b = StableHlo.after (hostOps0.drop n) (StableHlo.after (hostOps0.take n) (fun b => m (c, b))) b := by
  rw [← StableHlo.after_append, List.take_append_drop]

/-- The table of cosines before the call. -/
abbrev cosV (c : Dev nD) : FVec Ideal S16384x128 .f32 := V m c main_v17
/-- The table of sines before the call. -/
abbrev sinV (c : Dev nD) : FVec Ideal S16384x128 .f32 := V m c main_v22
/-- The queries' factor before the call. -/
abbrev sclV (c : Dev nD) : FVec Ideal S_ .f32 := V m c main_v13

/-- The queries' factor as the call's tables find it. -/
theorem v13_apply (c : Dev nD) : sclV m c ix0 = scl := by
  unfold sclV
  entry_read
  pointwise [scl]

/-- The table of cosines of the queries, scaled, as the call finds it. -/
theorem v27_q (c : Dev nD) (s : Fin 16384) (l : Fin 128) : V m c main_v27 (ix3 0 s l) = (cosV m c (ix2 s l) * sclV m c ix0 : EReal) := by
  unfold cosV sclV
  rw [V_split m 25 c main_v27, V_split m 25 c main_v17, V_split m 25 c main_v13]
  generalize StableHlo.after (hostOps0.take 25) (fun b => m (c, b)) = W
  simp only [List.drop]
  after_results
  pointwise

/-- The table of cosines of the keys, as the call finds it. -/
theorem v27_k (c : Dev nD) (s : Fin 16384) (l : Fin 128) : V m c main_v27 (ix3 1 s l) = cosV m c (ix2 s l) := by
  unfold cosV
  rw [V_split m 25 c main_v27, V_split m 25 c main_v17]
  generalize StableHlo.after (hostOps0.take 25) (fun b => m (c, b)) = W
  simp only [List.drop]
  after_results
  pointwise

/-- The table of sines of the queries, scaled, as the call finds it. -/
theorem v32_q (c : Dev nD) (s : Fin 16384) (l : Fin 128) : V m c main_v32 (ix3 0 s l) = (sinV m c (ix2 s l) * sclV m c ix0 : EReal) := by
  unfold sinV sclV
  rw [V_split m 25 c main_v32, V_split m 25 c main_v22, V_split m 25 c main_v13]
  generalize StableHlo.after (hostOps0.take 25) (fun b => m (c, b)) = W
  simp only [List.drop]
  after_results
  pointwise

/-- The table of sines of the keys, as the call finds it. -/
theorem v32_k (c : Dev nD) (s : Fin 16384) (l : Fin 128) : V m c main_v32 (ix3 1 s l) = sinV m c (ix2 s l) := by
  unfold sinV
  rw [V_split m 25 c main_v32, V_split m 25 c main_v22]
  generalize StableHlo.after (hostOps0.take 25) (fun b => m (c, b)) = W
  simp only [List.drop]
  after_results
  pointwise

/-- The weights as the call finds them. -/
theorem v33_apply (c : Dev nD) (d : Fin 2048) (e : Fin 6144) : V m c main_v33 (ix2 d e) = wA m c (ix2 d e) := by
  entry_read
  pointwise

/-- The weights of queries and keys as the call finds them, in tiles of 512 columns. -/
theorem v43_apply (c : Dev nD) (j : Fin 8) (d : Fin 2048) (l : Fin 512) : V m c main_v43 (ix3 j d l) = wA m c (ix2 d (qkCol ⟨j.val * 512 + l.val, by omega⟩)) := by
  have hl := l.isLt
  have hj := j.isLt
  rw [← v33_apply m c, V_split m 36 c main_v43, V_split m 36 c main_v33]
  generalize StableHlo.after (hostOps0.take 36) (fun b => m (c, b)) = W
  simp only [List.drop]
  after_results_simp
  pointwise [qkCol]
  after_results_simp
  pointwise
  split_ifs <;> refine congrArg _ (congrArg _ (Fin.ext ?_)) <;> dsimp only <;> first | omega | (split_ifs <;> omega)

/-- The weights of values as the call finds them, in tiles of 512 columns. -/
theorem v45_apply (c : Dev nD) (j : Fin 4) (d : Fin 2048) (l : Fin 512) : V m c main_v45 (ix3 j d l) = wA m c (ix2 d (vCol ⟨j.val * 512 + l.val, by omega⟩)) := by
  have hl := l.isLt
  have hj := j.isLt
  entry_read
  pointwise [vCol]
  split_ifs <;> refine congrArg _ (congrArg _ (Fin.ext ?_)) <;> dsimp only <;> omega

/-- A point's rows of the residual stream. -/
theorem b0 (c : Dev nD) (t : Fin cfg0.N) (r : Fin 512) (d : Fin 2048) :
    iblk m c 0 t (ix3 0 r d) = xA m c (ix3 (bOf t) (sOf t r) d) := by
  blk_simp [iblk]
  entry_read
  blk_ext [idx t]

/-- A point's modulation scale. -/
theorem b1 (c : Dev nD) (t : Fin cfg0.N) (d : Fin 2048) :
    iblk m c 1 t (ix3 0 0 d) = mA m c (ix2 (bOf t) ⟨2048 + d.val, by omega⟩) := by
  blk_simp [iblk]
  entry_read
  pointwise
  blk_ext [idx t]

/-- A point's modulation shift. -/
theorem b2 (c : Dev nD) (t : Fin cfg0.N) (d : Fin 2048) :
    iblk m c 2 t (ix3 0 0 d) = mA m c (ix2 (bOf t) ⟨d.val, by omega⟩) := by
  blk_simp [iblk]
  entry_read
  pointwise
  blk_ext [idx t]

/-- A point's tile of the weights of queries and keys. -/
theorem b3 (c : Dev nD) (t : Fin cfg0.N) (j : Fin 8) (d : Fin 2048) (l : Fin 512) :
    iblk m c 3 t (ix3 j d l) = wA m c (ix2 d (qkCol ⟨j.val * 512 + l.val, by omega⟩)) := by
  blk_simp [iblk]
  refine Eq.trans ?_ (v43_apply m c j d l)
  blk_ext [idx t]

/-- A point's tile of the weights of values. -/
theorem b4 (c : Dev nD) (t : Fin cfg0.N) (j : Fin 4) (d : Fin 2048) (l : Fin 512) :
    iblk m c 4 t (ix3 j d l) = wA m c (ix2 d (vCol ⟨j.val * 512 + l.val, by omega⟩)) := by
  blk_simp [iblk]
  refine Eq.trans ?_ (v45_apply m c j d l)
  blk_ext [idx t]

/-- A point's cosines of the queries. -/
theorem b5_q (c : Dev nD) (t : Fin cfg0.N) (r : Fin 512) (l : Fin 128) :
    iblk m c 5 t (ix3 0 r l) = cosT (cA m c) (sOf t r) l * scl := by
  blk_simp [iblk]
  rw [← v17_apply, ← v13_apply m c]
  refine Eq.trans ?_ (v27_q m c (sOf t r) l)
  blk_ext [idx t]

/-- A point's cosines of the keys. -/
theorem b5_k (c : Dev nD) (t : Fin cfg0.N) (r : Fin 512) (l : Fin 128) :
    iblk m c 5 t (ix3 1 r l) = cosT (cA m c) (sOf t r) l := by
  blk_simp [iblk]
  rw [← v17_apply]
  refine Eq.trans ?_ (v27_k m c (sOf t r) l)
  blk_ext [idx t]

/-- A point's sines of the queries. -/
theorem b6_q (c : Dev nD) (t : Fin cfg0.N) (r : Fin 512) (l : Fin 128) :
    iblk m c 6 t (ix3 0 r l) = sinT (sA m c) (sOf t r) l * scl := by
  blk_simp [iblk]
  rw [← v22_apply, ← v13_apply m c]
  refine Eq.trans ?_ (v32_q m c (sOf t r) l)
  blk_ext [idx t]

/-- A point's sines of the keys. -/
theorem b6_k (c : Dev nD) (t : Fin cfg0.N) (r : Fin 512) (l : Fin 128) :
    iblk m c 6 t (ix3 1 r l) = sinT (sA m c) (sOf t r) l := by
  blk_simp [iblk]
  rw [← v22_apply]
  refine Eq.trans ?_ (v32_k m c (sOf t r) l)
  blk_ext [idx t]

/-- A rotated entry `a` with its mate `p`, in the first or in the second half of its head. -/
def rot (a p c s : EReal) (l : ℕ) : EReal := if l < 64 then a * c - p * s else a * c + p * s

/-- The rotation by the tables. -/
theorem turn (a p : EReal) (C S : FVec Ideal S16384x64 .f32) (s : Fin 16384) (l : Fin 128) :
    a * cosT C s l + p * sinT S s l = rot a p (C (ix2 s ⟨l.val % 64, by omega⟩)) (S (ix2 s ⟨l.val % 64, by omega⟩)) l.val := by
  unfold cosT sinT rot
  split
  · rw [mul_neg, ← sub_eq_add_neg]
  · rfl

/-- The queries' factor is a nonnegative real. -/
theorem scl_real : ∃ r : ℝ, 0 ≤ r ∧ scl = (r : EReal) := by
  have h2 : Ideal.ofBits .f32 0x40000000#32 = ((2 : ℝ) : EReal) := by
    simp [Ideal.ofBits, Ideal.ieee, -EReal.coe_mul]; norm_num
  have h1 : ∃ r : ℝ, 0 ≤ r ∧ Ideal.ofBits .f32 0x3DB504F3#32 = (r : EReal) := by
    refine ⟨_, ?_, by simp [Ideal.ofBits, Ideal.ieee, -EReal.coe_mul]; rfl⟩
    positivity
  obtain ⟨r, hr, h1⟩ := h1
  refine ⟨r / Real.log 2, div_nonneg hr (Real.log_nonneg (by norm_num)), ?_⟩
  unfold scl
  rw [h1, h2, Ideal.log_coe, if_neg (by norm_num), Cert.SwaMath.div_real _ _ (Real.log_pos (by norm_num)), ← EReal.coe_mul, div_eq_mul_inv]

/-- Scaling both tables scales the rotation. -/
theorem scale (a p c s : EReal) : a * (c * scl) + p * (s * scl) = (a * c + p * s) * scl := by
  obtain ⟨r, hr, h⟩ := scl_real
  rw [h, ← mul_assoc, ← mul_assoc]
  exact (EReal.right_distrib_of_nonneg_of_ne_top (by exact_mod_cast hr) (EReal.coe_ne_top _) _ _).symm

/-- One entry of the rotated queries and keys: the queries scaled. -/
def qkRow (X : FVec Ideal S2x16384x2048 .f32) (M : FVec Ideal S2x12288 .f32) (W : FVec Ideal S2048x6144 .f32) (C S : FVec Ideal S16384x64 .f32)
    (b : Fin 2) (s : Fin 16384) (e : Fin 4096) : EReal :=
  let y := rot (projRow X M W b s (qkCol e)) (projRow X M W b s (qkCol (mate e))) (C (ix2 s ⟨e.val % 128 % 64, by omega⟩)) (S (ix2 s ⟨e.val % 128 % 64, by omega⟩)) (e.val % 128)
  if e.val / 1024 % 2 = 0 then y * scl else y

/-- One entry of the values. -/
def vRow (X : FVec Ideal S2x16384x2048 .f32) (M : FVec Ideal S2x12288 .f32) (W : FVec Ideal S2048x6144 .f32) (b : Fin 2) (s : Fin 16384) (e : Fin 2048) : EReal :=
  projRow X M W b s (vCol e)

/-- A point's normalised rows. -/
theorem hB (c : Dev nD) (t : Fin cfg0.N) (r : Fin 512) :
    hBlk (iblk m c 0 t) (iblk m c 1 t) (iblk m c 2 t) r = hRow (xA m c) (mA m c) (bOf t) (sOf t r) := by
  funext d
  unfold hBlk hRow
  simp only [b0, b1, b2]

/-- A point's product with the columns of queries and keys. -/
theorem accB (c : Dev nD) (t : Fin cfg0.N) (r : Fin 512) (e : Fin 4096) :
    accBlk (hRow (xA m c) (mA m c) (bOf t) (sOf t r)) (iblk m c 3 t) e = projRow (xA m c) (mA m c) (wA m c) (bOf t) (sOf t r) (qkCol e) := by
  unfold accBlk projRow
  refine Finset.sum_congr rfl fun d _ => ?_
  rw [b3]
  have h : (⟨e.val / 512 * 512 + e.val % 512, by omega⟩ : Fin 4096) = e := Fin.ext (by dsimp only; omega)
  simp only [h]

/-- A point's product with the columns of values. -/
theorem vB (c : Dev nD) (t : Fin cfg0.N) (r : Fin 512) (e : Fin 2048) :
    vBlk (hRow (xA m c) (mA m c) (bOf t) (sOf t r)) (iblk m c 4 t) e = vRow (xA m c) (mA m c) (wA m c) (bOf t) (sOf t r) e := by
  unfold vBlk vRow projRow
  refine Finset.sum_congr rfl fun d _ => ?_
  rw [b4]
  have h : (⟨e.val / 512 * 512 + e.val % 512, by omega⟩ : Fin 2048) = e := Fin.ext (by dsimp only; omega)
  simp only [h]

/-- The rows of queries and keys point `t` leaves. -/
theorem point7 (c : Dev nD) (t : Fin cfg0.N) (r : Fin 512) (e : Fin 4096) :
    out0_7 (iblk m c 0 t) (iblk m c 1 t) (iblk m c 2 t) (iblk m c 3 t) (iblk m c 4 t) (iblk m c 5 t) (iblk m c 6 t) (ix3 0 r e)
    = qkRow (xA m c) (mA m c) (wA m c) (cA m c) (sA m c) (bOf t) (sOf t r) e := by
  rw [qk_apply, hB]
  unfold qkBlk qkRow
  rw [accB, accB]
  by_cases h : e.val / 1024 % 2 = 0
  · have ht : tab e = 0 := Fin.ext h
    rw [ht, b5_q, b6_q, scale, turn, if_pos h]
  · have ht : tab e = 1 := Fin.ext (by unfold tab; dsimp only; omega)
    rw [ht, b5_k, b6_k, turn, if_neg h]

/-- The tile of values point `t` leaves. -/
theorem point8 (c : Dev nD) (t : Fin cfg0.N) (e : Fin 2048) (r : Fin 512) :
    out0_8 (iblk m c 0 t) (iblk m c 1 t) (iblk m c 2 t) (iblk m c 3 t) (iblk m c 4 t) (iblk m c 5 t) (iblk m c 6 t) (ix4 0 0 e r)
    = vRow (xA m c) (mA m c) (wA m c) (bOf t) (sOf t r) e := by
  rw [v_apply, hB, vB]

/-- The array of queries and keys after the run. -/
def result7 (c : Dev nD) : Buf (Elt Ideal) ((c : Thread nD τ).loc main_v46_0) := fun i : S2x16384x4096.Idx =>
  qkRow (xA m c) (mA m c) (wA m c) (cA m c) (sA m c) (i 0) (i 1) (i 2)

/-- The array of values after the run, in transposed tiles of 512 rows. -/
def result8 (c : Dev nD) : Buf (Elt Ideal) ((c : Thread nD τ).loc main_v46_1) := fun i : S2x32x2048x512.Idx =>
  vRow (xA m c) (mA m c) (wA m c) (i 0) ⟨(i 1).val * 512 + (i 3).val, by have h1 : (i 1).val < 32 := (i 1).isLt; have h3 : (i 3).val < 512 := (i 3).isLt; omega⟩ (i 2)

/-- The first array the run leaves is `result7`. -/
theorem final7 (c : Dev nD) : (dats m 0 c).arrAt 7 (cfgs 0).N = result7 m c := by
  refine (dats m 0 c).arrAt_eq_of_covers 7 _ (by decide +kernel) fun t hf y => ?_
  blk_simp
  rw [after0_7]
  have hy : (ix3 0 (y 1) (y 2) : S1x512x4096.Idx) = y := by blk_ext
  have h := point7 m c t (y 1) (y 2)
  rw [hy] at h
  refine h.trans ?_
  unfold result7
  have e0 : bOf t = (win0_7.blk t).view.emb y 0 := by apply Fin.ext; blk_simp [idx t]
  have e1 : sOf t (y 1) = (win0_7.blk t).view.emb y 1 := by apply Fin.ext; blk_simp [idx t]
  have e2 : y 2 = (win0_7.blk t).view.emb y 2 := by apply Fin.ext; blk_simp [idx t]
  rw [e0, e1, e2]

/-- The second array the run leaves is `result8`. -/
theorem final8 (c : Dev nD) : (dats m 0 c).arrAt 8 (cfgs 0).N = result8 m c := by
  refine (dats m 0 c).arrAt_eq_of_covers 8 _ (by decide +kernel) fun t hf y => ?_
  blk_simp
  rw [after0_8]
  have hy : (ix4 0 0 (y 2) (y 3) : S1x1x2048x512.Idx) = y := by blk_ext
  have h := point8 m c t (y 2) (y 3)
  rw [hy] at h
  refine h.trans ?_
  unfold result8
  have e0 : bOf t = (win0_8.blk t).view.emb y 0 := by apply Fin.ext; blk_simp [idx t]
  have e1 : t.val % 32 = ((win0_8.blk t).view.emb y 1).val := by blk_simp [idx t]
  have e2 : y 2 = (win0_8.blk t).view.emb y 2 := by apply Fin.ext; blk_simp [idx t]
  have e3 : (y 3).val = ((win0_8.blk t).view.emb y 3).val := by blk_simp [idx t]
  rw [e0, ← e2]
  refine congrArg (fun s => vRow (xA m c) (mA m c) (wA m c) _ s (y 2)) (Fin.ext ?_)
  show t.val % 32 * 512 + (y 3).val = _
  rw [e1, e3]
end Cert.ProjEvenIdeal.Step
end
-- ==== Proof.ProjEvenRef.lean ====
module

public import proofs.«01_k».proof.Proof.ProjEven
public import proofs.«01_k».proof.Proof.Gen.ProjEvenRefIdeal.Read

@[expose] public section

set_option maxRecDepth 16384

noncomputable section
open Idealize.ShloMosaic Idealize.ShloMosaic.TcCoe Idealize.SL.Sem
namespace Cert.ProjEvenRefIdeal.Eq
open Cert.ProjEvenRefIdeal Cert.ProjEvenRefIdeal.Gen Cert.ProjEvenRefIdeal.Read
open Cert.ProjEvenIdeal.Step (hRow projRow qkCol vCol scl rot mate qkRow vRow)

variable (X : FVec Ideal S2x16384x2048 .f32) (M : FVec Ideal S2x12288 .f32) (W : FVec Ideal S2048x6144 .f32) (C S : FVec Ideal S16384x64 .f32)

/-- The reference's product with the weights. -/
theorem proj (b : Fin 2) (s : Fin 16384) (e : Fin 6144) : val_main_v23 (F := Ideal) X M W (ix3 b s e) = projRow X M W b s e := by
  pointwise [val_main_v23, val_main_v22, val_main_v21, val_main_v20, val_main_v19, val_main_v18, val_main_v17, val_main_cst_2, val_main_v16, val_main_v15, val_main_v14, val_main_v13, val_main_v12, val_main_cst_1, val_main_v11, val_main_v10, val_main_cst_0, val_main_v9, val_main_v8, val_main_cst, val_main_v7, val_main_v2, val_main_v1, val_main_v0, projRow, hRow]

/-- The columns `off` to `off + 1024` of the product, each head rotated. -/
def grp (off : ℕ) (h : off + 1024 ≤ 6144) (b : Fin 2) (s : Fin 16384) (j : Fin 1024) : EReal :=
  rot (projRow X M W b s ⟨off + j.val, by omega⟩) (projRow X M W b s ⟨off + (j.val / 128 * 128 + (j.val + 64) % 128), by omega⟩)
    (C (ix2 s ⟨j.val % 128 % 64, by omega⟩)) (S (ix2 s ⟨j.val % 128 % 64, by omega⟩)) (j.val % 128)

/-- The first attention's queries. -/
theorem aq (b : Fin 2) (s : Fin 16384) (j : Fin 1024) : val_main_v52 (F := Ideal) X M W C S (ix3 b s j) = grp X M W C S 0 (by omega) b s j := by
  have hj := j.isLt
  unfold grp rot
  simp only [← proj]
  by_cases h : j.val % 128 < 64
  · have e1 : j.val % 128 % 64 = j.val % 128 := by omega
    have e2 : (j.val + 64) % 128 = 64 + j.val % 128 := by omega
    simp only [if_pos h, e1, e2]
    pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v24]
    exact dif_pos h
  · have e1 : j.val % 128 % 64 = j.val % 128 - 64 := by omega
    have e2 : (j.val + 64) % 128 = j.val % 128 - 64 := by omega
    simp only [if_neg h, e1, e2]
    pointwise [val_main_v52, val_main_v51, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v24]
    refine (dif_neg h).trans ?_
    have e3 : j.val / 128 * 128 + (64 + (j.val % 128 - 64)) = j.val := by omega
    simp only [e3]

/-- The first attention's keys. -/
theorem ak (b : Fin 2) (s : Fin 16384) (j : Fin 1024) : val_main_v73 (F := Ideal) X M W C S (ix3 b s j) = grp X M W C S 1024 (by omega) b s j := by
  have hj := j.isLt
  unfold grp rot
  simp only [← proj]
  by_cases h : j.val % 128 < 64
  · have e1 : j.val % 128 % 64 = j.val % 128 := by omega
    have e2 : (j.val + 64) % 128 = 64 + j.val % 128 := by omega
    simp only [if_pos h, e1, e2]
    pointwise [val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v25]
    exact dif_pos h
  · have e1 : j.val % 128 % 64 = j.val % 128 - 64 := by omega
    have e2 : (j.val + 64) % 128 = j.val % 128 - 64 := by omega
    simp only [if_neg h, e1, e2]
    pointwise [val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v25]
    refine (dif_neg h).trans ?_
    have e3 : j.val / 128 * 128 + (64 + (j.val % 128 - 64)) = j.val := by omega
    simp only [e3]

/-- The second attention's queries. -/
theorem bq (b : Fin 2) (s : Fin 16384) (j : Fin 1024) : val_main_v94 (F := Ideal) X M W C S (ix3 b s j) = grp X M W C S 3072 (by omega) b s j := by
  have hj := j.isLt
  unfold grp rot
  simp only [← proj]
  by_cases h : j.val % 128 < 64
  · have e1 : j.val % 128 % 64 = j.val % 128 := by omega
    have e2 : (j.val + 64) % 128 = 64 + j.val % 128 := by omega
    simp only [if_pos h, e1, e2]
    pointwise [val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v27]
    exact dif_pos h
  · have e1 : j.val % 128 % 64 = j.val % 128 - 64 := by omega
    have e2 : (j.val + 64) % 128 = j.val % 128 - 64 := by omega
    simp only [if_neg h, e1, e2]
    pointwise [val_main_v94, val_main_v93, val_main_v92, val_main_v91, val_main_v90, val_main_v89, val_main_v88, val_main_v87, val_main_v86, val_main_v85, val_main_v84, val_main_v83, val_main_v82, val_main_v81, val_main_v80, val_main_v79, val_main_v78, val_main_v77, val_main_v76, val_main_v75, val_main_v74, val_main_v27]
    refine (dif_neg h).trans ?_
    have e3 : j.val / 128 * 128 + (64 + (j.val % 128 - 64)) = j.val := by omega
    simp only [e3]

/-- The second attention's keys. -/
theorem bk (b : Fin 2) (s : Fin 16384) (j : Fin 1024) : val_main_v115 (F := Ideal) X M W C S (ix3 b s j) = grp X M W C S 4096 (by omega) b s j := by
  have hj := j.isLt
  unfold grp rot
  simp only [← proj]
  by_cases h : j.val % 128 < 64
  · have e1 : j.val % 128 % 64 = j.val % 128 := by omega
    have e2 : (j.val + 64) % 128 = 64 + j.val % 128 := by omega
    simp only [if_pos h, e1, e2]
    pointwise [val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v28]
    exact dif_pos h
  · have e1 : j.val % 128 % 64 = j.val % 128 - 64 := by omega
    have e2 : (j.val + 64) % 128 = j.val % 128 - 64 := by omega
    simp only [if_neg h, e1, e2]
    pointwise [val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v28]
    refine (dif_neg h).trans ?_
    have e3 : j.val / 128 * 128 + (64 + (j.val % 128 - 64)) = j.val := by omega
    simp only [e3]

/-- The joined queries and keys: the first attention's queries. -/
theorem join_aq (b : Fin 2) (s : Fin 16384) (j : Fin 1024) : val_main_v122 (F := Ideal) X M W C S (ix3 b s ⟨j.val, by omega⟩) = val_main_v117 (F := Ideal) X M W C S (ix3 b s j) := by
  have hj := j.isLt
  pointwise [val_main_v122, val_main_v120]

/-- The joined queries and keys: the first attention's keys. -/
theorem join_ak (b : Fin 2) (s : Fin 16384) (j : Fin 1024) : val_main_v122 (F := Ideal) X M W C S (ix3 b s ⟨1024 + j.val, by omega⟩) = val_main_v73 (F := Ideal) X M W C S (ix3 b s j) := by
  have hj := j.isLt
  pointwise [val_main_v122, val_main_v120]

/-- The joined queries and keys: the second attention's queries. -/
theorem join_bq (b : Fin 2) (s : Fin 16384) (j : Fin 1024) : val_main_v122 (F := Ideal) X M W C S (ix3 b s ⟨2048 + j.val, by omega⟩) = val_main_v119 (F := Ideal) X M W C S (ix3 b s j) := by
  have hj := j.isLt
  pointwise [val_main_v122, val_main_v120]
  rw [dif_neg (by omega), dif_neg (by omega), dif_pos (by omega)]
  blk_ext

/-- The joined queries and keys: the second attention's keys. -/
theorem join_bk (b : Fin 2) (s : Fin 16384) (j : Fin 1024) : val_main_v122 (F := Ideal) X M W C S (ix3 b s ⟨3072 + j.val, by omega⟩) = val_main_v115 (F := Ideal) X M W C S (ix3 b s j) := by
  have hj := j.isLt
  pointwise [val_main_v122, val_main_v120]
  rw [dif_neg (by omega), dif_neg (by omega), dif_neg (by omega)]
  blk_ext

/-- The reference's scale. -/
theorem v31 : val_main_v31 (F := Ideal) ix0 = scl := by
  pointwise [val_main_v31, val_main_v30, val_main_cst_4, val_main_cst_3, scl]

/-- The scaled queries of the first attention. -/
theorem scl_aq (b : Fin 2) (s : Fin 16384) (j : Fin 1024) : val_main_v117 (F := Ideal) X M W C S (ix3 b s j) = val_main_v52 (F := Ideal) X M W C S (ix3 b s j) * scl := by
  have hi : idx_main_v116 (ix3 b s j) = ix0 := funext fun a => a.elim0
  rw [← v31, val_main_v117_apply, val_main_v116_apply, hi]
  generalize val_main_v52 (F := Ideal) X M W C S = z
  generalize val_main_v31 (F := Ideal) = w
  rfl

/-- The scaled queries of the second attention. -/
theorem scl_bq (b : Fin 2) (s : Fin 16384) (j : Fin 1024) : val_main_v119 (F := Ideal) X M W C S (ix3 b s j) = val_main_v94 (F := Ideal) X M W C S (ix3 b s j) * scl := by
  have hi : idx_main_v118 (ix3 b s j) = ix0 := funext fun a => a.elim0
  rw [← v31, val_main_v119_apply, val_main_v118_apply, hi]
  generalize val_main_v94 (F := Ideal) X M W C S = z
  generalize val_main_v31 (F := Ideal) = w
  rfl

/-- A group's entry, from the columns the joined array gives it. -/
theorem grp_eq (off : ℕ) (h : off + 1024 ≤ 6144) (b : Fin 2) (s : Fin 16384) (j : Fin 1024) (e : Fin 4096) (hm : e.val % 128 = j.val % 128)
    (h0 : (qkCol e).val = off + j.val) (h1 : (qkCol (mate e)).val = off + (j.val / 128 * 128 + (j.val + 64) % 128)) :
    grp X M W C S off h b s j = rot (projRow X M W b s (qkCol e)) (projRow X M W b s (qkCol (mate e))) (C (ix2 s ⟨e.val % 128 % 64, by omega⟩)) (S (ix2 s ⟨e.val % 128 % 64, by omega⟩)) (e.val % 128) := by
  unfold grp
  have e0 : qkCol e = ⟨off + j.val, by omega⟩ := Fin.ext h0
  have e1 : qkCol (mate e) = ⟨off + (j.val / 128 * 128 + (j.val + 64) % 128), by omega⟩ := Fin.ext h1
  simp only [e0, e1, hm]

/-- The reference's joined array: the first attention's queries. -/
theorem ref_aq (b : Fin 2) (s : Fin 16384) (j : Fin 1024) : val_main_v122 (F := Ideal) X M W C S (ix3 b s ⟨j.val, by omega⟩) = qkRow X M W C S b s ⟨j.val, by omega⟩ := by
  have hj := j.isLt
  have e0 : (qkCol ⟨j.val, by omega⟩).val = 0 + j.val := by
    dsimp only [qkCol]
    rw [if_pos (by omega)]
    try omega
  have e1 : (qkCol (mate ⟨j.val, by omega⟩)).val = 0 + (j.val / 128 * 128 + (j.val + 64) % 128) := by
    dsimp only [qkCol, mate]
    rw [if_pos (by omega)]
    try omega
  unfold qkRow
  dsimp only
  rw [if_pos (by omega)]
  have hg := grp_eq X M W C S 0 (by omega) b s j ⟨j.val, by omega⟩ (by first | rfl | (dsimp only; omega)) e0 e1
  dsimp only at hg
  rw [← hg, ← aq, ← scl_aq, ← join_aq]

/-- The reference's joined array: the first attention's keys. -/
theorem ref_ak (b : Fin 2) (s : Fin 16384) (j : Fin 1024) : val_main_v122 (F := Ideal) X M W C S (ix3 b s ⟨1024 + j.val, by omega⟩) = qkRow X M W C S b s ⟨1024 + j.val, by omega⟩ := by
  have hj := j.isLt
  have e0 : (qkCol ⟨1024 + j.val, by omega⟩).val = 1024 + j.val := by
    dsimp only [qkCol]
    rw [if_pos (by omega)]
    try omega
  have e1 : (qkCol (mate ⟨1024 + j.val, by omega⟩)).val = 1024 + (j.val / 128 * 128 + (j.val + 64) % 128) := by
    dsimp only [qkCol, mate]
    rw [if_pos (by omega)]
    try omega
  unfold qkRow
  dsimp only
  rw [if_neg (by omega)]
  have hg := grp_eq X M W C S 1024 (by omega) b s j ⟨1024 + j.val, by omega⟩ (by first | rfl | (dsimp only; omega)) e0 e1
  dsimp only at hg
  rw [← hg, ← ak, ← join_ak]

/-- The reference's joined array: the second attention's queries. -/
theorem ref_bq (b : Fin 2) (s : Fin 16384) (j : Fin 1024) : val_main_v122 (F := Ideal) X M W C S (ix3 b s ⟨2048 + j.val, by omega⟩) = qkRow X M W C S b s ⟨2048 + j.val, by omega⟩ := by
  have hj := j.isLt
  have e0 : (qkCol ⟨2048 + j.val, by omega⟩).val = 3072 + j.val := by
    dsimp only [qkCol]
    rw [if_neg (by omega)]
    try omega
  have e1 : (qkCol (mate ⟨2048 + j.val, by omega⟩)).val = 3072 + (j.val / 128 * 128 + (j.val + 64) % 128) := by
    dsimp only [qkCol, mate]
    rw [if_neg (by omega)]
    try omega
  unfold qkRow
  dsimp only
  rw [if_pos (by omega)]
  have hg := grp_eq X M W C S 3072 (by omega) b s j ⟨2048 + j.val, by omega⟩ (by first | rfl | (dsimp only; omega)) e0 e1
  dsimp only at hg
  rw [← hg, ← bq, ← scl_bq, ← join_bq]

/-- The reference's joined array: the second attention's keys. -/
theorem ref_bk (b : Fin 2) (s : Fin 16384) (j : Fin 1024) : val_main_v122 (F := Ideal) X M W C S (ix3 b s ⟨3072 + j.val, by omega⟩) = qkRow X M W C S b s ⟨3072 + j.val, by omega⟩ := by
  have hj := j.isLt
  have e0 : (qkCol ⟨3072 + j.val, by omega⟩).val = 4096 + j.val := by
    dsimp only [qkCol]
    rw [if_neg (by omega)]
    try omega
  have e1 : (qkCol (mate ⟨3072 + j.val, by omega⟩)).val = 4096 + (j.val / 128 * 128 + (j.val + 64) % 128) := by
    dsimp only [qkCol, mate]
    rw [if_neg (by omega)]
    try omega
  unfold qkRow
  dsimp only
  rw [if_neg (by omega)]
  have hg := grp_eq X M W C S 4096 (by omega) b s j ⟨3072 + j.val, by omega⟩ (by first | rfl | (dsimp only; omega)) e0 e1
  dsimp only at hg
  rw [← hg, ← bk, ← join_bk]

/-- The reference's queries and keys. -/
theorem ref7 (b : Fin 2) (s : Fin 16384) (e : Fin 4096) : val_main_v122 (F := Ideal) X M W C S (ix3 b s e) = qkRow X M W C S b s e := by
  have he := e.isLt
  have key : ∀ e' : Fin 4096, e' = e → val_main_v122 (F := Ideal) X M W C S (ix3 b s e') = qkRow X M W C S b s e' → val_main_v122 (F := Ideal) X M W C S (ix3 b s e) = qkRow X M W C S b s e := by
    rintro _ rfl h
    exact h
  by_cases h0 : e.val < 1024
  · exact key _ rfl (ref_aq X M W C S b s ⟨e.val, h0⟩)
  by_cases h1 : e.val < 2048
  · exact key _ (Fin.ext (by dsimp only; omega)) (ref_ak X M W C S b s ⟨e.val - 1024, by omega⟩)
  by_cases h2 : e.val < 3072
  · exact key _ (Fin.ext (by dsimp only; omega)) (ref_bq X M W C S b s ⟨e.val - 2048, by omega⟩)
  · exact key _ (Fin.ext (by dsimp only; omega)) (ref_bk X M W C S b s ⟨e.val - 3072, by omega⟩)

/-- Where the values' cut into tiles of rows reads. -/
theorem cut_idx (b : Fin 2) (t : Fin 32) (e : Fin 2048) (r : Fin 512) : idx_main_v123 (ix4 b t r e) = ix3 b ⟨t.val * 512 + r.val, by omega⟩ e := by
  have hb := b.isLt
  have ht := t.isLt
  have he := e.isLt
  have hr := r.isLt
  blk_ext

/-- The values, cut into tiles of rows. -/
theorem vcut (b : Fin 2) (t : Fin 32) (e : Fin 2048) (r : Fin 512) : val_main_v123 (F := Ideal) X M W (ix4 b t r e) = val_main_v121 (F := Ideal) X M W (ix3 b ⟨t.val * 512 + r.val, by omega⟩ e) := by
  rw [val_main_v123_apply, cut_idx]

/-- Where the values' transposed tiles read. -/
theorem turn_idx (b : Fin 2) (t : Fin 32) (e : Fin 2048) (r : Fin 512) : idx_main_v124 (ix4 b t e r) = ix4 b t r e := by
  blk_ext

/-- The values, laid out in tiles. -/
theorem vtile (b : Fin 2) (t : Fin 32) (e : Fin 2048) (r : Fin 512) : val_main_v125 (F := Ideal) X M W (ix4 b t e r) = val_main_v121 (F := Ideal) X M W (ix3 b ⟨t.val * 512 + r.val, by omega⟩ e) := by
  rw [val_main_v125_apply, val_main_v124_apply, turn_idx, ← vcut]
  rfl

/-- The joined values: the first attention's. -/
theorem vjoin_a (b : Fin 2) (s : Fin 16384) (j : Fin 1024) : val_main_v121 (F := Ideal) X M W (ix3 b s ⟨j.val, by omega⟩) = projRow X M W b s ⟨2048 + j.val, by omega⟩ := by
  have hj := j.isLt
  rw [← proj]
  pointwise [val_main_v121, val_main_v26]

/-- The joined values: the second attention's. -/
theorem vjoin_b (b : Fin 2) (s : Fin 16384) (j : Fin 1024) : val_main_v121 (F := Ideal) X M W (ix3 b s ⟨1024 + j.val, by omega⟩) = projRow X M W b s ⟨5120 + j.val, by omega⟩ := by
  have hj := j.isLt
  rw [← proj]
  pointwise [val_main_v121, val_main_v29]

/-- The reference's values. -/
theorem ref8 (b : Fin 2) (t : Fin 32) (e : Fin 2048) (r : Fin 512) : val_main_v125 (F := Ideal) X M W (ix4 b t e r) = vRow X M W b ⟨t.val * 512 + r.val, by omega⟩ e := by
  have he := e.isLt
  rw [vtile]
  unfold vRow
  by_cases h : e.val < 1024
  · refine (vjoin_a X M W b _ ⟨e.val, h⟩).trans (congrArg _ (Fin.ext ?_))
    dsimp only [vCol]
    rw [if_pos h]
  · have e1 : e = ⟨1024 + (e.val - 1024), by omega⟩ := Fin.ext (by dsimp only; omega)
    rw [e1]
    refine (vjoin_b X M W b _ ⟨e.val - 1024, by omega⟩).trans (congrArg _ (Fin.ext ?_))
    dsimp only [vCol]
    rw [if_neg (by omega)]
    omega

end Cert.ProjEvenRefIdeal.Eq
end
-- ==== Proof.ProjOddStep.lean ====
module

public import proofs.«01_k».proof.Proof.Gen.ProjOddIdeal.Value
public import proofs.«01_k».proof.Proof.ProjStep
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem
open Idealize.ShloMosaic.Pipeline (Dat)
namespace Cert.ProjOddIdeal.Step
open Cert.ProjOddIdeal Cert.ProjOddIdeal.Gen
open Cert.ProjEvenIdeal.Step (hBlk)

/-- One entry of a row's product with the query and key columns, held in tiles of 512, with the bias. -/
def accBlk (h : Fin 2048 → EReal) (w : FVec Ideal S5x2048x512 .bf16) (bi : FVec Ideal S1x2560 .f32) (e : Fin 2560) : EReal :=
  (∑ d : Fin 2048, h d * w (ix3 ⟨e.val / 512, by omega⟩ d ⟨e.val % 512, by omega⟩)) + bi (ix2 0 e)

/-- The rotary table a column uses: the first for the queries, the second for the keys. -/
def tab (e : Fin 2560) : Fin 2 := ⟨e.val / 2048, by omega⟩

/-- The column half a head away, within the head. -/
def mate (e : Fin 2560) : Fin 2560 := ⟨e.val / 64 * 64 + (e.val + 32) % 64, by omega⟩

/-- One entry of a block's rotated queries and keys. -/
def qkBlk (h : Fin 2048 → EReal) (w : FVec Ideal S5x2048x512 .bf16) (bi : FVec Ideal S1x2560 .f32) (co si : FVec Ideal S2x512x128 .f32) (r : Fin 512) (e : Fin 2560) : EReal :=
  accBlk h w bi e * co (ix3 (tab e) r ⟨e.val % 128, by omega⟩) + accBlk h w bi (mate e) * si (ix3 (tab e) r ⟨e.val % 128, by omega⟩)

/-- The test a lane makes for the half of its head it lies in. -/
theorem lane_slt : ∀ l : Fin 128, (IntOp.cmpi .slt (IntOp.andi (BitVec.ofNat 32 l.val) 63#32) 32#32) = if l.val % 64 < 32 then 1#1 else 0#1 := by
  decide +kernel

/-- The lane's choice between the two rotations. -/
theorem pick {α : Type} (l : ℕ) (hl : l < 128) (a b : α) : Scalar.select (IntOp.cmpi .slt (IntOp.andi (BitVec.ofNat 32 l) 63#32) 32#32) a b = if l % 64 < 32 then a else b := by
  have h := lane_slt ⟨l, hl⟩
  dsimp only at h
  rw [h]
  split_ifs <;> rfl

set_option maxHeartbeats 4000000 in
/-- The rows of rotated queries and keys a point leaves, from the blocks it reads. -/
theorem qk_apply (x0 : FVec Ideal S1x512x2048 .f32) (x1 x2 : FVec Ideal S1x1x2048 .f32) (x3 : FVec Ideal S5x2048x512 .bf16) (x4 : FVec Ideal S1x2048x256 .bf16) (x5 : FVec Ideal S1x2560 .f32) (x6 : FVec Ideal S1x256 .f32)
    (x7 x8 : FVec Ideal S2x512x128 .f32) (r : Fin 512) (e : Fin 2560) :
    out0_9 (F := Ideal) x0 x1 x2 x3 x4 x5 x6 x7 x8 (ix3 0 r e) = qkBlk (hBlk x0 x1 x2 r) x3 x5 x7 x8 r e := by
  unfold out0_9
  frame_out
  canon_tiles x h
  all_goals
    simp only [ix3_0, ix3_1, ix3_2] at h0 h1 h2
    open_payloads
    pointwise [qkBlk, accBlk, tab, mate, hBlk]
    simp only [pick _ x2_lt]
    by_cases hl : (x 2).val % 64 < 32
    · simp only [if_pos hl]
      blk_point
    · simp only [if_neg hl]
      blk_point

/-- One entry of a row's product with the value columns, with the bias. -/
def vBlk (h : Fin 2048 → EReal) (w : FVec Ideal S1x2048x256 .bf16) (bi : FVec Ideal S1x256 .f32) (e : Fin 256) : EReal :=
  (∑ d : Fin 2048, h d * w (ix3 0 d e)) + bi (ix2 0 e)

/-- The transposed tile of values a point leaves. -/
theorem v_apply (x0 : FVec Ideal S1x512x2048 .f32) (x1 x2 : FVec Ideal S1x1x2048 .f32) (x3 : FVec Ideal S5x2048x512 .bf16) (x4 : FVec Ideal S1x2048x256 .bf16) (x5 : FVec Ideal S1x2560 .f32) (x6 : FVec Ideal S1x256 .f32)
    (x7 x8 : FVec Ideal S2x512x128 .f32) (e : Fin 256) (r : Fin 512) :
    out0_10 (F := Ideal) x0 x1 x2 x3 x4 x5 x6 x7 x8 (ix4 0 0 e r) = vBlk (hBlk x0 x1 x2 r) x4 x6 e := by
  unfold out0_10
  frame_out
  open_payloads
  pointwise [vBlk, hBlk]
end Cert.ProjOddIdeal.Step
end
-- ==== Proof.ProjOdd.lean ====
module

public import proofs.«01_k».proof.Proof.ProjOddStep
public import proofs.«01_k».proof.Proof.ProjEven
public import proofs.«01_k».proof.Proof.SwaMath
public import Idealize.ShloMosaic.Lib.Pipeline.ValueKit
public import Idealize.ShloMosaic.Lib.Pointwise

@[expose] public section

set_option maxRecDepth 16384

noncomputable section
open Idealize.ShloMosaic Idealize.ShloMosaic.TcCoe Idealize.SL.Sem
open Idealize.ShloMosaic.Pipeline (Dat)
namespace Cert.ProjOddIdeal.Step
open Cert.ProjOddIdeal Cert.ProjOddIdeal.Gen
open Cert.ProjEvenIdeal.Step (hBlk hRow)

/-- The block each window shows at grid point `t`. -/
theorem idx : ∀ t : Fin cfg0.N, win0_0.index t = ![t.val / 32, t.val % 32, 0] ∧ win0_1.index t = ![t.val / 32, 0, 0]
    ∧ win0_2.index t = ![t.val / 32, 0, 0] ∧ win0_3.index t = ![0, 0, 0] ∧ win0_4.index t = ![0, 0, 0] ∧ win0_5.index t = ![0, 0] ∧ win0_6.index t = ![0, 0]
    ∧ win0_7.index t = ![0, t.val % 32, 0] ∧ win0_8.index t = ![0, t.val % 32, 0]
    ∧ win0_9.index t = ![t.val / 32, t.val % 32, 0] ∧ win0_10.index t = ![t.val / 32, t.val % 32, 0, 0] :=
  (by decide +kernel : ∀ t : Fin grid0.N, _)

variable (m : (ℓ : Loc nD τ sig) → Buf (Elt Ideal) ℓ)

/-- The batch entry a point works on. -/
abbrev bOf (t : Fin cfg0.N) : Fin 2 := ⟨t.val / 32, by have := lt_of_lt_of_eq t.isLt (show cfg0.N = 64 from N_0); omega⟩
/-- The sequence row that row `r` of a point's block is. -/
abbrev sOf (t : Fin cfg0.N) (r : Fin 512) : Fin 16384 := ⟨t.val % 32 * 512 + r.val, by have := r.isLt; omega⟩

/-- The argument of the residual stream. -/
abbrev xA (c : Dev nD) : FVec Ideal S2x16384x2048 .f32 := m ((c : Thread nD τ).loc main_arg0)
/-- The argument of the modulation. -/
abbrev mA (c : Dev nD) : FVec Ideal S2x12288 .f32 := m ((c : Thread nD τ).loc main_arg1)
/-- The argument of the weights. -/
abbrev wA (c : Dev nD) : FVec Ideal S2048x2560 .f32 := m ((c : Thread nD τ).loc main_arg2)
/-- The argument of the bias. -/
abbrev bA (c : Dev nD) : FVec Ideal S2560 .f32 := m ((c : Thread nD τ).loc main_arg3)
/-- The argument of cosines. -/
abbrev cA (c : Dev nD) : FVec Ideal S16384x32 .f32 := m ((c : Thread nD τ).loc main_arg4)
/-- The argument of sines. -/
abbrev sA (c : Dev nD) : FVec Ideal S16384x32 .f32 := m ((c : Thread nD τ).loc main_arg5)

/-- One entry of a row's product with the weights, with the bias. -/
def projRow (X : FVec Ideal S2x16384x2048 .f32) (M : FVec Ideal S2x12288 .f32) (W : FVec Ideal S2048x2560 .f32) (B : FVec Ideal S2560 .f32) (b : Fin 2) (s : Fin 16384) (e : Fin 2560) : EReal :=
  (∑ d : Fin 2048, hRow X M b s d * W (ix2 d e)) + B (ix1 e)

/-- The weights' column that a column of queries and keys uses: each key head serves twice. -/
def qkCol (e : Fin 2560) : Fin 2560 := ⟨if e.val < 2048 then e.val else 2048 + ((e.val - 2048) / 128 * 64 + e.val % 64), by split <;> omega⟩
/-- The weights' column that a column of values uses. -/
def vCol (e : Fin 256) : Fin 2560 := ⟨2304 + e.val, by omega⟩

/-- The factor the queries are scaled by: one over the root of the head's width, over the natural logarithm of two. -/
def scl : EReal := Ideal.div (Ideal.ofBits .f32 0x3E000000#32) (Ideal.log (Ideal.ofBits .f32 0x40000000#32))

/-- The rotary table of cosines: the same in each half of each head. -/
def cosT (C : FVec Ideal S16384x32 .f32) (s : Fin 16384) (l : Fin 128) : EReal := C (ix2 s ⟨l.val % 32, by omega⟩)
/-- The rotary table of sines: negated in the first half of each head. -/
def sinT (S : FVec Ideal S16384x32 .f32) (s : Fin 16384) (l : Fin 128) : EReal :=
  if l.val % 64 < 32 then -S (ix2 s ⟨l.val % 32, by omega⟩) else S (ix2 s ⟨l.val % 32, by omega⟩)

/-- The table of cosines as the call finds it. -/
theorem v17_apply (c : Dev nD) (s : Fin 16384) (l : Fin 128) : V m c main_v17 (ix2 s l) = cosT (cA m c) s l := by
  have hl := l.isLt
  entry_read
  pointwise [cosT]
  by_cases h : l.val % 64 < 32
  · rw [dif_pos h]
    blk_ext
  · rw [dif_neg h]
    blk_ext

/-- The table of sines as the call finds it. -/
theorem v22_apply (c : Dev nD) (s : Fin 16384) (l : Fin 128) : V m c main_v22 (ix2 s l) = sinT (sA m c) s l := by
  have hl := l.isLt
  entry_read
  pointwise [sinT]
  by_cases h : l.val % 64 < 32
  · rw [dif_pos h, if_pos h]
    refine congrArg (fun z : EReal => -z) ?_
    blk_ext
  · rw [dif_neg h, if_neg h]
    blk_ext

/-- The contents before the call, as the host operations from the `n`-th on leave them over those of the first `n`. -/
theorem V_split (n : ℕ) (c : Dev nD) (b : Ref sig .tc) : V m c b = StableHlo.after (hostOps0.drop n) (StableHlo.after (hostOps0.take n) (fun b => m (c, b))) b := by
  rw [← StableHlo.after_append, List.take_append_drop]

/-- The table of cosines before the call. -/
abbrev cosV (c : Dev nD) : FVec Ideal S16384x128 .f32 := V m c main_v17
/-- The table of sines before the call. -/
abbrev sinV (c : Dev nD) : FVec Ideal S16384x128 .f32 := V m c main_v22
/-- The queries' factor before the call. -/
abbrev sclV (c : Dev nD) : FVec Ideal S_ .f32 := V m c main_v13

/-- The queries' factor as the call's tables find it. -/
theorem v13_apply (c : Dev nD) : sclV m c ix0 = scl := by
  unfold sclV
  entry_read
  pointwise [scl]

/-- The table of cosines of the queries, scaled, as the call finds it. -/
theorem v27_q (c : Dev nD) (s : Fin 16384) (l : Fin 128) : V m c main_v27 (ix3 0 s l) = (cosV m c (ix2 s l) * sclV m c ix0 : EReal) := by
  unfold cosV sclV
  rw [V_split m 25 c main_v27, V_split m 25 c main_v17, V_split m 25 c main_v13]
  generalize StableHlo.after (hostOps0.take 25) (fun b => m (c, b)) = W
  simp only [List.drop]
  after_results
  pointwise

/-- The table of cosines of the keys, as the call finds it. -/
theorem v27_k (c : Dev nD) (s : Fin 16384) (l : Fin 128) : V m c main_v27 (ix3 1 s l) = cosV m c (ix2 s l) := by
  unfold cosV
  rw [V_split m 25 c main_v27, V_split m 25 c main_v17]
  generalize StableHlo.after (hostOps0.take 25) (fun b => m (c, b)) = W
  simp only [List.drop]
  after_results
  pointwise

/-- The table of sines of the queries, scaled, as the call finds it. -/
theorem v32_q (c : Dev nD) (s : Fin 16384) (l : Fin 128) : V m c main_v32 (ix3 0 s l) = (sinV m c (ix2 s l) * sclV m c ix0 : EReal) := by
  unfold sinV sclV
  rw [V_split m 25 c main_v32, V_split m 25 c main_v22, V_split m 25 c main_v13]
  generalize StableHlo.after (hostOps0.take 25) (fun b => m (c, b)) = W
  simp only [List.drop]
  after_results
  pointwise

/-- The table of sines of the keys, as the call finds it. -/
theorem v32_k (c : Dev nD) (s : Fin 16384) (l : Fin 128) : V m c main_v32 (ix3 1 s l) = sinV m c (ix2 s l) := by
  unfold sinV
  rw [V_split m 25 c main_v32, V_split m 25 c main_v22]
  generalize StableHlo.after (hostOps0.take 25) (fun b => m (c, b)) = W
  simp only [List.drop]
  after_results
  pointwise

/-- The weights of queries as the host code holds them. -/
theorem v33_apply (c : Dev nD) (d : Fin 2048) (e : Fin 2048) : V m c main_v33 (ix2 d e) = wA m c (ix2 d ⟨e.val, by omega⟩) := by
  entry_read
  pointwise

/-- The weights of keys as the host code holds them. -/
theorem v34_apply (c : Dev nD) (d : Fin 2048) (e : Fin 256) : V m c main_v34 (ix2 d e) = wA m c (ix2 d ⟨2048 + e.val, by omega⟩) := by
  entry_read
  pointwise

/-- The bias of queries as the host code holds it. -/
theorem v36_apply (c : Dev nD) (e : Fin 2048) : V m c main_v36 (ix1 e) = bA m c (ix1 ⟨e.val, by omega⟩) := by
  entry_read
  pointwise

/-- The bias of keys as the host code holds it. -/
theorem v37_apply (c : Dev nD) (e : Fin 256) : V m c main_v37 (ix1 e) = bA m c (ix1 ⟨2048 + e.val, by omega⟩) := by
  entry_read
  pointwise

/-- A column of queries in the tiles of 512 the call finds. -/
theorem v50_q (c : Dev nD) (j : Fin 5) (d : Fin 2048) (l : Fin 512) (h : j.val * 512 + l.val < 2048) : V m c main_v50 (ix3 j d l) = V m c main_v33 (ix2 d ⟨j.val * 512 + l.val, h⟩) := by
  have hl := l.isLt
  have hj := j.isLt
  rw [V_split m 41 c main_v50, V_split m 41 c main_v33]
  generalize StableHlo.after (hostOps0.take 41) (fun b => m (c, b)) = W
  simp only [List.drop]
  after_results_simp
  pointwise
  after_results_simp
  rw [dif_pos h]

/-- A column of keys in the tiles of 512 the call finds. -/
theorem v50_k (c : Dev nD) (j : Fin 5) (d : Fin 2048) (l : Fin 512) (h : ¬ j.val * 512 + l.val < 2048) : V m c main_v50 (ix3 j d l) = V m c main_v34 (ix2 d ⟨(j.val * 512 + l.val - 2048) / 128 * 64 + l.val % 64, by omega⟩) := by
  have hl := l.isLt
  have hj := j.isLt
  rw [V_split m 41 c main_v50, V_split m 41 c main_v34]
  generalize StableHlo.after (hostOps0.take 41) (fun b => m (c, b)) = W
  simp only [List.drop]
  after_results_simp
  pointwise
  after_results_simp
  pointwise
  rw [dif_neg (by omega)]
  blk_ext

/-- The weights of queries and keys as the call finds them, in tiles of 512 columns. -/
theorem v50_apply (c : Dev nD) (j : Fin 5) (d : Fin 2048) (l : Fin 512) : V m c main_v50 (ix3 j d l) = wA m c (ix2 d (qkCol ⟨j.val * 512 + l.val, by omega⟩)) := by
  have hl := l.isLt
  have hj := j.isLt
  by_cases h : j.val * 512 + l.val < 2048
  · rw [v50_q m c j d l h, v33_apply]
    refine congrArg _ (congrArg _ (Fin.ext ?_))
    dsimp only [qkCol]
    rw [if_pos h]
  · rw [v50_k m c j d l h, v34_apply]
    refine congrArg _ (congrArg _ (Fin.ext ?_))
    dsimp only [qkCol]
    rw [if_neg h]
    omega

/-- The bias of queries and keys as the call finds it. -/
theorem v53_apply (c : Dev nD) (e : Fin 2560) : V m c main_v53 (ix2 0 e) = bA m c (ix1 (qkCol e)) := by
  have he := e.isLt
  by_cases h : e.val < 2048
  · have hq : V m c main_v53 (ix2 0 e) = V m c main_v36 (ix1 ⟨e.val, h⟩) := by
      rw [V_split m 41 c main_v53, V_split m 41 c main_v36]
      generalize StableHlo.after (hostOps0.take 41) (fun b => m (c, b)) = W
      simp only [List.drop]
      after_results_simp
      pointwise
      after_results_simp
      rw [dif_pos h]
    rw [hq, v36_apply]
    refine congrArg _ (congrArg _ (Fin.ext ?_))
    dsimp only [qkCol]
    rw [if_pos h]
  · have hk : V m c main_v53 (ix2 0 e) = V m c main_v37 (ix1 ⟨(e.val - 2048) / 128 * 64 + e.val % 64, by omega⟩) := by
      rw [V_split m 41 c main_v53, V_split m 41 c main_v37]
      generalize StableHlo.after (hostOps0.take 41) (fun b => m (c, b)) = W
      simp only [List.drop]
      after_results_simp
      pointwise
      after_results_simp
      pointwise
      rw [dif_neg h]
      refine congrArg _ (congrArg _ (Fin.ext ?_))
      dsimp only
      omega
    rw [hk, v37_apply]
    refine congrArg _ (congrArg _ (Fin.ext ?_))
    dsimp only [qkCol]
    rw [if_neg h]

/-- The weights of values as the call finds them. -/
theorem v52_apply (c : Dev nD) (d : Fin 2048) (e : Fin 256) : V m c main_v52 (ix3 0 d e) = wA m c (ix2 d (vCol e)) := by
  have he := e.isLt
  entry_read
  pointwise [vCol]

/-- The bias of values as the call finds it. -/
theorem v54_apply (c : Dev nD) (e : Fin 256) : V m c main_v54 (ix2 0 e) = bA m c (ix1 (vCol e)) := by
  have he := e.isLt
  entry_read
  pointwise [vCol]

/-- A point's rows of the residual stream. -/
theorem b0 (c : Dev nD) (t : Fin cfg0.N) (r : Fin 512) (d : Fin 2048) :
    iblk m c 0 t (ix3 0 r d) = xA m c (ix3 (bOf t) (sOf t r) d) := by
  blk_simp [iblk]
  entry_read
  blk_ext [idx t]

/-- A point's modulation scale. -/
theorem b1 (c : Dev nD) (t : Fin cfg0.N) (d : Fin 2048) :
    iblk m c 1 t (ix3 0 0 d) = mA m c (ix2 (bOf t) ⟨2048 + d.val, by omega⟩) := by
  blk_simp [iblk]
  entry_read
  pointwise
  blk_ext [idx t]

/-- A point's modulation shift. -/
theorem b2 (c : Dev nD) (t : Fin cfg0.N) (d : Fin 2048) :
    iblk m c 2 t (ix3 0 0 d) = mA m c (ix2 (bOf t) ⟨d.val, by omega⟩) := by
  blk_simp [iblk]
  entry_read
  pointwise
  blk_ext [idx t]

/-- A point's tile of the weights of queries and keys. -/
theorem b3 (c : Dev nD) (t : Fin cfg0.N) (j : Fin 5) (d : Fin 2048) (l : Fin 512) :
    iblk m c 3 t (ix3 j d l) = wA m c (ix2 d (qkCol ⟨j.val * 512 + l.val, by omega⟩)) := by
  blk_simp [iblk]
  refine Eq.trans ?_ (v50_apply m c j d l)
  blk_ext [idx t]

/-- A point's weights of values. -/
theorem b4 (c : Dev nD) (t : Fin cfg0.N) (d : Fin 2048) (e : Fin 256) :
    iblk m c 4 t (ix3 0 d e) = wA m c (ix2 d (vCol e)) := by
  blk_simp [iblk]
  refine Eq.trans ?_ (v52_apply m c d e)
  blk_ext [idx t]

/-- A point's bias of queries and keys. -/
theorem b5 (c : Dev nD) (t : Fin cfg0.N) (e : Fin 2560) : iblk m c 5 t (ix2 0 e) = bA m c (ix1 (qkCol e)) := by
  blk_simp [iblk]
  refine Eq.trans ?_ (v53_apply m c e)
  blk_ext [idx t]

/-- A point's bias of values. -/
theorem b6 (c : Dev nD) (t : Fin cfg0.N) (e : Fin 256) : iblk m c 6 t (ix2 0 e) = bA m c (ix1 (vCol e)) := by
  blk_simp [iblk]
  refine Eq.trans ?_ (v54_apply m c e)
  blk_ext [idx t]

/-- A point's cosines of the queries. -/
theorem b7_q (c : Dev nD) (t : Fin cfg0.N) (r : Fin 512) (l : Fin 128) :
    iblk m c 7 t (ix3 0 r l) = cosT (cA m c) (sOf t r) l * scl := by
  blk_simp [iblk]
  rw [← v17_apply, ← v13_apply m c]
  refine Eq.trans ?_ (v27_q m c (sOf t r) l)
  blk_ext [idx t]

/-- A point's cosines of the keys. -/
theorem b7_k (c : Dev nD) (t : Fin cfg0.N) (r : Fin 512) (l : Fin 128) :
    iblk m c 7 t (ix3 1 r l) = cosT (cA m c) (sOf t r) l := by
  blk_simp [iblk]
  rw [← v17_apply]
  refine Eq.trans ?_ (v27_k m c (sOf t r) l)
  blk_ext [idx t]

/-- A point's sines of the queries. -/
theorem b8_q (c : Dev nD) (t : Fin cfg0.N) (r : Fin 512) (l : Fin 128) :
    iblk m c 8 t (ix3 0 r l) = sinT (sA m c) (sOf t r) l * scl := by
  blk_simp [iblk]
  rw [← v22_apply, ← v13_apply m c]
  refine Eq.trans ?_ (v32_q m c (sOf t r) l)
  blk_ext [idx t]

/-- A point's sines of the keys. -/
theorem b8_k (c : Dev nD) (t : Fin cfg0.N) (r : Fin 512) (l : Fin 128) :
    iblk m c 8 t (ix3 1 r l) = sinT (sA m c) (sOf t r) l := by
  blk_simp [iblk]
  rw [← v22_apply]
  refine Eq.trans ?_ (v32_k m c (sOf t r) l)
  blk_ext [idx t]

/-- A rotated entry `a` with its mate `p`, in the first or in the second half of its head. -/
def rot (a p c s : EReal) (l : ℕ) : EReal := if l < 32 then a * c - p * s else a * c + p * s

/-- The rotation by the tables. -/
theorem turn (a p : EReal) (C S : FVec Ideal S16384x32 .f32) (s : Fin 16384) (l : Fin 128) :
    a * cosT C s l + p * sinT S s l = rot a p (C (ix2 s ⟨l.val % 32, by omega⟩)) (S (ix2 s ⟨l.val % 32, by omega⟩)) (l.val % 64) := by
  unfold cosT sinT rot
  split
  · rw [mul_neg, ← sub_eq_add_neg]
  · rfl

/-- The queries' factor is a nonnegative real. -/
theorem scl_real : ∃ r : ℝ, 0 ≤ r ∧ scl = (r : EReal) := by
  have h2 : Ideal.ofBits .f32 0x40000000#32 = ((2 : ℝ) : EReal) := by
    simp [Ideal.ofBits, Ideal.ieee, -EReal.coe_mul]; norm_num
  have h1 : ∃ r : ℝ, 0 ≤ r ∧ Ideal.ofBits .f32 0x3E000000#32 = (r : EReal) := by
    refine ⟨_, ?_, by simp [Ideal.ofBits, Ideal.ieee, -EReal.coe_mul]; rfl⟩
    positivity
  obtain ⟨r, hr, h1⟩ := h1
  refine ⟨r / Real.log 2, div_nonneg hr (Real.log_nonneg (by norm_num)), ?_⟩
  unfold scl
  rw [h1, h2, Ideal.log_coe, if_neg (by norm_num), Cert.SwaMath.div_real _ _ (Real.log_pos (by norm_num)), ← EReal.coe_mul, div_eq_mul_inv]

/-- Scaling both tables scales the rotation. -/
theorem scale (a p c s : EReal) : a * (c * scl) + p * (s * scl) = (a * c + p * s) * scl := by
  obtain ⟨r, hr, h⟩ := scl_real
  rw [h, ← mul_assoc, ← mul_assoc]
  exact (EReal.right_distrib_of_nonneg_of_ne_top (by exact_mod_cast hr) (EReal.coe_ne_top _) _ _).symm

/-- One entry of the rotated queries and keys: the queries scaled. -/
def qkRow (X : FVec Ideal S2x16384x2048 .f32) (M : FVec Ideal S2x12288 .f32) (W : FVec Ideal S2048x2560 .f32) (B : FVec Ideal S2560 .f32) (C S : FVec Ideal S16384x32 .f32)
    (b : Fin 2) (s : Fin 16384) (e : Fin 2560) : EReal :=
  let y := rot (projRow X M W B b s (qkCol e)) (projRow X M W B b s (qkCol (mate e))) (C (ix2 s ⟨e.val % 128 % 32, by omega⟩)) (S (ix2 s ⟨e.val % 128 % 32, by omega⟩)) (e.val % 128 % 64)
  if e.val < 2048 then y * scl else y

/-- One entry of the values. -/
def vRow (X : FVec Ideal S2x16384x2048 .f32) (M : FVec Ideal S2x12288 .f32) (W : FVec Ideal S2048x2560 .f32) (B : FVec Ideal S2560 .f32) (b : Fin 2) (s : Fin 16384) (e : Fin 256) : EReal :=
  projRow X M W B b s (vCol e)

/-- A point's normalised rows. -/
theorem hB (c : Dev nD) (t : Fin cfg0.N) (r : Fin 512) :
    hBlk (iblk m c 0 t) (iblk m c 1 t) (iblk m c 2 t) r = hRow (xA m c) (mA m c) (bOf t) (sOf t r) := by
  funext d
  unfold hBlk hRow
  simp only [b0, b1, b2]

/-- A point's product with the columns of queries and keys. -/
theorem accB (c : Dev nD) (t : Fin cfg0.N) (r : Fin 512) (e : Fin 2560) :
    accBlk (hRow (xA m c) (mA m c) (bOf t) (sOf t r)) (iblk m c 3 t) (iblk m c 5 t) e = projRow (xA m c) (mA m c) (wA m c) (bA m c) (bOf t) (sOf t r) (qkCol e) := by
  unfold accBlk projRow
  rw [b5]
  refine congrArg (fun z : EReal => z + bA m c (ix1 (qkCol e))) (Finset.sum_congr rfl fun d _ => ?_)
  rw [b3]
  have h : (⟨e.val / 512 * 512 + e.val % 512, by omega⟩ : Fin 2560) = e := Fin.ext (by dsimp only; omega)
  simp only [h]

/-- A point's product with the columns of values. -/
theorem vB (c : Dev nD) (t : Fin cfg0.N) (r : Fin 512) (e : Fin 256) :
    vBlk (hRow (xA m c) (mA m c) (bOf t) (sOf t r)) (iblk m c 4 t) (iblk m c 6 t) e = vRow (xA m c) (mA m c) (wA m c) (bA m c) (bOf t) (sOf t r) e := by
  unfold vBlk vRow projRow
  rw [b6]
  refine congrArg (fun z : EReal => z + bA m c (ix1 (vCol e))) (Finset.sum_congr rfl fun d _ => ?_)
  rw [b4]

/-- The rows of queries and keys point `t` leaves. -/
theorem point9 (c : Dev nD) (t : Fin cfg0.N) (r : Fin 512) (e : Fin 2560) :
    out0_9 (iblk m c 0 t) (iblk m c 1 t) (iblk m c 2 t) (iblk m c 3 t) (iblk m c 4 t) (iblk m c 5 t) (iblk m c 6 t) (iblk m c 7 t) (iblk m c 8 t) (ix3 0 r e)
    = qkRow (xA m c) (mA m c) (wA m c) (bA m c) (cA m c) (sA m c) (bOf t) (sOf t r) e := by
  rw [qk_apply, hB]
  unfold qkBlk qkRow
  rw [accB, accB]
  by_cases h : e.val < 2048
  · have ht : tab e = 0 := Fin.ext (by unfold tab; dsimp only; omega)
    rw [ht, b7_q, b8_q, scale, turn, if_pos h]
  · have ht : tab e = 1 := Fin.ext (by unfold tab; dsimp only; omega)
    rw [ht, b7_k, b8_k, turn, if_neg h]

/-- The tile of values point `t` leaves. -/
theorem point10 (c : Dev nD) (t : Fin cfg0.N) (e : Fin 256) (r : Fin 512) :
    out0_10 (iblk m c 0 t) (iblk m c 1 t) (iblk m c 2 t) (iblk m c 3 t) (iblk m c 4 t) (iblk m c 5 t) (iblk m c 6 t) (iblk m c 7 t) (iblk m c 8 t) (ix4 0 0 e r)
    = vRow (xA m c) (mA m c) (wA m c) (bA m c) (bOf t) (sOf t r) e := by
  rw [v_apply, hB, vB]

/-- The array of queries and keys after the run. -/
def result9 (c : Dev nD) : Buf (Elt Ideal) ((c : Thread nD τ).loc main_v55_0) := fun i : S2x16384x2560.Idx =>
  qkRow (xA m c) (mA m c) (wA m c) (bA m c) (cA m c) (sA m c) (i 0) (i 1) (i 2)

/-- The array of values after the run, in transposed tiles of 512 rows. -/
def result10 (c : Dev nD) : Buf (Elt Ideal) ((c : Thread nD τ).loc main_v55_1) := fun i : S2x32x256x512.Idx =>
  vRow (xA m c) (mA m c) (wA m c) (bA m c) (i 0) ⟨(i 1).val * 512 + (i 3).val, by have h1 : (i 1).val < 32 := (i 1).isLt; have h3 : (i 3).val < 512 := (i 3).isLt; omega⟩ (i 2)

/-- The first array the run leaves is `result9`. -/
theorem final9 (c : Dev nD) : (dats m 0 c).arrAt 9 (cfgs 0).N = result9 m c := by
  refine (dats m 0 c).arrAt_eq_of_covers 9 _ (by decide +kernel) fun t hf y => ?_
  blk_simp
  rw [after0_9]
  have hy : (ix3 0 (y 1) (y 2) : S1x512x2560.Idx) = y := by blk_ext
  have h := point9 m c t (y 1) (y 2)
  rw [hy] at h
  refine h.trans ?_
  unfold result9
  have e0 : bOf t = (win0_9.blk t).view.emb y 0 := by apply Fin.ext; blk_simp [idx t]
  have e1 : sOf t (y 1) = (win0_9.blk t).view.emb y 1 := by apply Fin.ext; blk_simp [idx t]
  have e2 : y 2 = (win0_9.blk t).view.emb y 2 := by apply Fin.ext; blk_simp [idx t]
  rw [e0, e1, e2]

/-- The second array the run leaves is `result10`. -/
theorem final10 (c : Dev nD) : (dats m 0 c).arrAt 10 (cfgs 0).N = result10 m c := by
  refine (dats m 0 c).arrAt_eq_of_covers 10 _ (by decide +kernel) fun t hf y => ?_
  blk_simp
  rw [after0_10]
  have hy : (ix4 0 0 (y 2) (y 3) : S1x1x256x512.Idx) = y := by blk_ext
  have h := point10 m c t (y 2) (y 3)
  rw [hy] at h
  refine h.trans ?_
  unfold result10
  have e0 : bOf t = (win0_10.blk t).view.emb y 0 := by apply Fin.ext; blk_simp [idx t]
  have e1 : t.val % 32 = ((win0_10.blk t).view.emb y 1).val := by blk_simp [idx t]
  have e2 : y 2 = (win0_10.blk t).view.emb y 2 := by apply Fin.ext; blk_simp [idx t]
  have e3 : (y 3).val = ((win0_10.blk t).view.emb y 3).val := by blk_simp [idx t]
  rw [e0, ← e2]
  refine congrArg (fun s => vRow (xA m c) (mA m c) (wA m c) (bA m c) _ s (y 2)) (Fin.ext ?_)
  show t.val % 32 * 512 + (y 3).val = _
  rw [e1, e3]
end Cert.ProjOddIdeal.Step
end
-- ==== Proof.ProjOddRef.lean ====
module

public import proofs.«01_k».proof.Proof.ProjOdd
public import proofs.«01_k».proof.Proof.Gen.ProjOddRefIdeal.Read

@[expose] public section

set_option maxRecDepth 16384

noncomputable section
open Idealize.ShloMosaic Idealize.ShloMosaic.TcCoe Idealize.SL.Sem
namespace Cert.ProjOddRefIdeal.Eq
open Cert.ProjOddRefIdeal Cert.ProjOddRefIdeal.Gen Cert.ProjOddRefIdeal.Read
open Cert.ProjEvenIdeal.Step (hRow)
open Cert.ProjOddIdeal.Step (projRow qkCol vCol scl rot mate qkRow vRow)

variable (X : FVec Ideal S2x16384x2048 .f32) (M : FVec Ideal S2x12288 .f32) (W : FVec Ideal S2048x2560 .f32) (B : FVec Ideal S2560 .f32) (C S : FVec Ideal S16384x32 .f32)

/-- The reference's product with the weights, with the bias. -/
theorem proj (b : Fin 2) (s : Fin 16384) (e : Fin 2560) : val_main_v26 (F := Ideal) X M W B (ix3 b s e) = projRow X M W B b s e := by
  pointwise [val_main_v26, val_main_v25, val_main_v24, val_main_v23, val_main_v22, val_main_v21, val_main_v20, val_main_v19, val_main_v18, val_main_v17, val_main_cst_2, val_main_v16, val_main_v15, val_main_v14, val_main_v13, val_main_v12, val_main_cst_1, val_main_v11, val_main_v10, val_main_cst_0, val_main_v9, val_main_v8, val_main_cst, val_main_v7, val_main_v2, val_main_v1, val_main_v0, projRow, hRow]

/-- The reference's rotated queries. -/
theorem qs (b : Fin 2) (s : Fin 16384) (j : Fin 2048) : val_main_v71 (F := Ideal) X M W B C S (ix3 b s j)
    = rot (projRow X M W B b s ⟨j.val, by omega⟩) (projRow X M W B b s ⟨j.val / 64 * 64 + (j.val + 32) % 64, by omega⟩)
        (C (ix2 s ⟨j.val % 64 % 32, by omega⟩)) (S (ix2 s ⟨j.val % 64 % 32, by omega⟩)) (j.val % 64) := by
  have hj := j.isLt
  unfold rot
  simp only [← proj]
  by_cases h : j.val % 64 < 32
  · have e1 : j.val % 64 % 32 = j.val % 64 := by omega
    have e2 : (j.val + 32) % 64 = 32 + j.val % 64 := by omega
    simp only [if_pos h, e1, e2]
    pointwise [val_main_v71, val_main_v70, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v27]
    refine (dif_pos h).trans ?_
    rfl
  · have e1 : j.val % 64 % 32 = j.val % 64 - 32 := by omega
    have e2 : (j.val + 32) % 64 = j.val % 64 - 32 := by omega
    simp only [if_neg h, e1, e2]
    pointwise [val_main_v71, val_main_v70, val_main_v50, val_main_v49, val_main_v48, val_main_v47, val_main_v46, val_main_v45, val_main_v44, val_main_v43, val_main_v42, val_main_v41, val_main_v40, val_main_v39, val_main_v38, val_main_v37, val_main_v36, val_main_v35, val_main_v34, val_main_v33, val_main_v32, val_main_v27]
    refine (dif_neg h).trans ?_
    have e3 : j.val / 64 * 64 + (32 + (j.val % 64 - 32)) = j.val := by omega
    simp only [e3]

/-- The reference's rotated keys, each head twice. -/
theorem ks (b : Fin 2) (s : Fin 16384) (j : Fin 512) : val_main_v77 (F := Ideal) X M W B C S (ix3 b s j)
    = rot (projRow X M W B b s ⟨2048 + (j.val / 128 * 64 + j.val % 64), by omega⟩) (projRow X M W B b s ⟨2048 + (j.val / 128 * 64 + (j.val + 32) % 64), by omega⟩)
        (C (ix2 s ⟨j.val % 64 % 32, by omega⟩)) (S (ix2 s ⟨j.val % 64 % 32, by omega⟩)) (j.val % 64) := by
  have hj := j.isLt
  unfold rot
  simp only [← proj]
  by_cases h : j.val % 64 < 32
  · have e1 : j.val % 64 % 32 = j.val % 64 := by omega
    have e2 : (j.val + 32) % 64 = 32 + j.val % 64 := by omega
    simp only [if_pos h, e1, e2]
    pointwise [val_main_v77, val_main_v76, val_main_v75, val_main_v74, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v28]
    refine (dif_pos h).trans ?_
    have e3 : j.val / 64 / 2 = j.val / 128 := by omega
    simp only [e3]
  · have e1 : j.val % 64 % 32 = j.val % 64 - 32 := by omega
    have e2 : (j.val + 32) % 64 = j.val % 64 - 32 := by omega
    simp only [if_neg h, e1, e2]
    pointwise [val_main_v77, val_main_v76, val_main_v75, val_main_v74, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v28]
    refine (dif_neg h).trans ?_
    have e3 : j.val / 64 / 2 = j.val / 128 := by omega
    have e4 : 32 + (j.val % 64 - 32) = j.val % 64 := by omega
    simp only [e3, e4]

/-- The joined queries and keys: the queries. -/
theorem join_q (b : Fin 2) (s : Fin 16384) (j : Fin 2048) : val_main_v79 (F := Ideal) X M W B C S (ix3 b s ⟨j.val, by omega⟩) = val_main_v73 (F := Ideal) X M W B C S (ix3 b s j) := by
  have hj := j.isLt
  pointwise [val_main_v79, val_main_v78]

/-- The joined queries and keys: the keys. -/
theorem join_k (b : Fin 2) (s : Fin 16384) (j : Fin 512) : val_main_v79 (F := Ideal) X M W B C S (ix3 b s ⟨2048 + j.val, by omega⟩) = val_main_v77 (F := Ideal) X M W B C S (ix3 b s j) := by
  have hj := j.isLt
  pointwise [val_main_v79, val_main_v78]

/-- The reference's scale. -/
theorem v31 : val_main_v31 (F := Ideal) ix0 = scl := by
  pointwise [val_main_v31, val_main_v30, val_main_cst_4, val_main_cst_3, scl]

/-- The scaled queries. -/
theorem scl_q (b : Fin 2) (s : Fin 16384) (j : Fin 2048) : val_main_v73 (F := Ideal) X M W B C S (ix3 b s j) = val_main_v71 (F := Ideal) X M W B C S (ix3 b s j) * scl := by
  have hi : idx_main_v72 (ix3 b s j) = ix0 := funext fun a => a.elim0
  rw [← v31, val_main_v73_apply, val_main_v72_apply, hi]
  generalize val_main_v71 (F := Ideal) X M W B C S = z
  generalize val_main_v31 (F := Ideal) = w
  rfl

/-- The reference's joined array: the queries. -/
theorem ref_q (b : Fin 2) (s : Fin 16384) (j : Fin 2048) : val_main_v79 (F := Ideal) X M W B C S (ix3 b s ⟨j.val, by omega⟩) = qkRow X M W B C S b s ⟨j.val, by omega⟩ := by
  have hj := j.isLt
  have e0 : qkCol ⟨j.val, by omega⟩ = ⟨j.val, by omega⟩ := Fin.ext (by
    dsimp only [qkCol]
    rw [if_pos hj])
  have e1 : qkCol (mate ⟨j.val, by omega⟩) = ⟨j.val / 64 * 64 + (j.val + 32) % 64, by omega⟩ := Fin.ext (by
    dsimp only [qkCol, mate]
    rw [if_pos (by omega)])
  have e2 : j.val % 128 % 32 = j.val % 64 % 32 := by omega
  have e3 : j.val % 128 % 64 = j.val % 64 := by omega
  rw [join_q, scl_q, qs]
  unfold qkRow
  dsimp only
  rw [if_pos hj, e0, e1]
  simp only [e2, e3]

/-- The reference's joined array: the keys. -/
theorem ref_k (b : Fin 2) (s : Fin 16384) (j : Fin 512) : val_main_v79 (F := Ideal) X M W B C S (ix3 b s ⟨2048 + j.val, by omega⟩) = qkRow X M W B C S b s ⟨2048 + j.val, by omega⟩ := by
  have hj := j.isLt
  have e0 : qkCol ⟨2048 + j.val, by omega⟩ = ⟨2048 + (j.val / 128 * 64 + j.val % 64), by omega⟩ := Fin.ext (by
    dsimp only [qkCol]
    rw [if_neg (by omega)]
    omega)
  have e1 : qkCol (mate ⟨2048 + j.val, by omega⟩) = ⟨2048 + (j.val / 128 * 64 + (j.val + 32) % 64), by omega⟩ := Fin.ext (by
    dsimp only [qkCol, mate]
    rw [if_neg (by omega)]
    omega)
  have e2 : (2048 + j.val) % 128 % 32 = j.val % 64 % 32 := by omega
  have e3 : (2048 + j.val) % 128 % 64 = j.val % 64 := by omega
  rw [join_k, ks]
  unfold qkRow
  dsimp only
  rw [if_neg (by omega), e0, e1]
  simp only [e2, e3]

/-- The reference's queries and keys. -/
theorem ref9 (b : Fin 2) (s : Fin 16384) (e : Fin 2560) : val_main_v79 (F := Ideal) X M W B C S (ix3 b s e) = qkRow X M W B C S b s e := by
  have he := e.isLt
  have key : ∀ e' : Fin 2560, e' = e → val_main_v79 (F := Ideal) X M W B C S (ix3 b s e') = qkRow X M W B C S b s e' → val_main_v79 (F := Ideal) X M W B C S (ix3 b s e) = qkRow X M W B C S b s e := by
    rintro _ rfl h
    exact h
  by_cases h : e.val < 2048
  · exact key _ rfl (ref_q X M W B C S b s ⟨e.val, h⟩)
  · exact key _ (Fin.ext (by dsimp only; omega)) (ref_k X M W B C S b s ⟨e.val - 2048, by omega⟩)

/-- Where the values' cut into tiles of rows reads. -/
theorem cut_idx (b : Fin 2) (t : Fin 32) (e : Fin 256) (r : Fin 512) : idx_main_v80 (ix4 b t r e) = ix3 b ⟨t.val * 512 + r.val, by omega⟩ e := by
  have hb := b.isLt
  have ht := t.isLt
  have he := e.isLt
  have hr := r.isLt
  blk_ext

/-- Where the values' transposed tiles read. -/
theorem turn_idx (b : Fin 2) (t : Fin 32) (e : Fin 256) (r : Fin 512) : idx_main_v81 (ix4 b t e r) = ix4 b t r e := by
  blk_ext

/-- The values, laid out in tiles. -/
theorem vtile (b : Fin 2) (t : Fin 32) (e : Fin 256) (r : Fin 512) : val_main_v82 (F := Ideal) X M W B (ix4 b t e r) = val_main_v29 (F := Ideal) X M W B (ix3 b ⟨t.val * 512 + r.val, by omega⟩ e) := by
  rw [val_main_v82_apply, val_main_v81_apply, turn_idx, val_main_v80_apply, cut_idx]
  generalize val_main_v29 (F := Ideal) X M W B = z
  rfl

/-- The reference's values. -/
theorem ref10 (b : Fin 2) (t : Fin 32) (e : Fin 256) (r : Fin 512) : val_main_v82 (F := Ideal) X M W B (ix4 b t e r) = vRow X M W B b ⟨t.val * 512 + r.val, by omega⟩ e := by
  have he := e.isLt
  rw [vtile]
  unfold vRow
  rw [← proj]
  generalize ht : (⟨t.val * 512 + r.val, by omega⟩ : Fin 16384) = s
  pointwise [val_main_v29, vCol]

end Cert.ProjOddRefIdeal.Eq
end
-- ==== Proof.lean ====
/- The assembly: each claim from its program's run. -/
module

public import proofs.«01_k».proof.Defs
public import proofs.«01_k».proof.Proof.Gen.Swa.Frame
public import proofs.«01_k».proof.Proof.Gen.SwaIdeal.Value
public import proofs.«01_k».proof.Proof.Gen.SwaRefIdeal.Run
public import proofs.«01_k».proof.Proof.Gen.SwaRefIdeal.Read
public import proofs.«01_k».proof.Proof.Gen.Ffn.Frame
public import proofs.«01_k».proof.Proof.FfnRef
public import proofs.«01_k».proof.Proof.Gen.FfnRefIdeal.Run
public import proofs.«01_k».proof.Proof.Gen.Mid.Frame
public import proofs.«01_k».proof.Proof.Gen.MidRefIdeal.Run
public import proofs.«01_k».proof.Proof.MidRef
public import proofs.«01_k».proof.Proof.SwaRef
public import proofs.«01_k».proof.Proof.SwaFinite
public import proofs.«01_k».proof.Proof.Gen.OutEven.Frame
public import proofs.«01_k».proof.Proof.OutEven
public import proofs.«01_k».proof.Proof.Gen.OutEvenRefIdeal.Run
public import proofs.«01_k».proof.Proof.Gen.OutEvenRefIdeal.Read
public import proofs.«01_k».proof.Proof.Gen.OutOdd.Frame
public import proofs.«01_k».proof.Proof.OutOdd
public import proofs.«01_k».proof.Proof.Gen.OutOddRefIdeal.Run
public import proofs.«01_k».proof.Proof.Gen.OutOddRefIdeal.Read
public import proofs.«01_k».proof.Proof.Gen.ProjEven.Frame
public import proofs.«01_k».proof.Proof.Gen.ProjEvenIdeal.Value
public import proofs.«01_k».proof.Proof.Gen.ProjOdd.Frame
public import proofs.«01_k».proof.Proof.Gen.ProjOddIdeal.Value
public import proofs.«01_k».proof.Proof.Gen.ProjEvenRefIdeal.Run
public import proofs.«01_k».proof.Proof.Gen.ProjEvenRefIdeal.Read
public import proofs.«01_k».proof.Proof.ProjEvenRef
public import proofs.«01_k».proof.Proof.Gen.ProjOddRefIdeal.Run
public import proofs.«01_k».proof.Proof.Gen.ProjOddRefIdeal.Read
public import proofs.«01_k».proof.Proof.ProjOddRef
public import Idealize.ShloMosaic.Adequacy
public import Idealize.ShloMosaic.Init
public import Idealize.ShloMosaic.Lib.Quiescent

@[expose] public section

noncomputable section

namespace Cert.Proof

open Idealize.ShloMosaic Idealize.SL.Sem Idealize.ShloMosaic.TcCoe

/-- The feed-forward call and its reference leave the same result over the reals. -/
theorem ffn_algebraic : Cert.algebraic_FfnIdeal_FfnRefIdeal := by
  intro m ρ m' ρ' _ hagree
  refine ⟨_, Cert.FfnIdeal.Value.run (F := Ideal) m ρ, ?_⟩
  refine (θ_run Cert.FfnRefIdeal.defs _ _).mono (fun _ h c => ⟨?_, (h c).2⟩) (Cert.FfnRefIdeal.Value.run (F := Ideal) m' ρ')
  rw [(h c).1, Cert.FfnRefIdeal.Read.val_main_v50_eq, ← Cert.FfnIdeal.Value.final8, Cert.FfnIdeal.Step.final]
  obtain ⟨h0, h1, h2, h3, h4⟩ := hagree c
  rw [h0, h1, h2, h3, h4]
  funext i
  exact (congrArg _ (eq_ix3 i)).trans (Cert.FfnRefIdeal.Eq.ref_fin _ _ _ _ _ (i 0) (i 1) (i 2))

/-- The feed-forward call without the final norm and its reference leave the same result over the reals. -/
theorem mid_algebraic : Cert.algebraic_MidIdeal_MidRefIdeal := by
  intro m ρ m' ρ' _ hagree
  refine ⟨_, Cert.MidIdeal.Value.run (F := Ideal) m ρ, ?_⟩
  refine (θ_run Cert.MidRefIdeal.defs _ _).mono (fun _ h c => ⟨?_, (h c).2⟩) (Cert.MidRefIdeal.Value.run (F := Ideal) m' ρ')
  rw [(h c).1, Cert.MidRefIdeal.Read.val_main_v37_eq, ← Cert.MidIdeal.Value.final7, Cert.MidIdeal.Step.final]
  obtain ⟨h0, h1, h2, h3⟩ := hagree c
  rw [h0, h1, h2, h3]
  funext i
  exact (congrArg _ (eq_ix3 i)).trans (Cert.MidRefIdeal.Eq.ref_res _ _ _ _ (i 0) (i 1) (i 2))

/-- The sliding-window attention call and its reference leave the same result over the reals, where queries, keys and sinks are real numbers. -/
theorem swa_algebraic : Cert.algebraic_SwaIdeal_SwaRefIdeal_pre_finite := by
  intro m ρ m' ρ' hpre hagree
  refine ⟨_, Cert.SwaIdeal.Value.run_blocks (F := Ideal) m ρ, ?_⟩
  refine (θ_run Cert.SwaRefIdeal.defs _ _).mono (fun _ h c => ⟨?_, (h c).2⟩) (Cert.SwaRefIdeal.Value.run (F := Ideal) m' ρ')
  obtain ⟨p0, p1, p2⟩ := hpre c
  obtain ⟨hq, hk, hz⟩ := Cert.SwaFinite.finite_real _ _ _ _ p0 p1 p2
  rw [(h c).1, Cert.SwaRefIdeal.Read.val_main_v35_eq]
  refine Eq.trans ?_ (Cert.SwaIdeal.Block.final m _ _ _ c hq hk hz).symm
  obtain ⟨h0, h1, h2, h3⟩ := hagree c
  rw [h0, h1, h2, h3]
  funext i
  refine (congrArg _ ((eq_ix3 i).trans (congrArg (ix3 (i 0) (i 1)) (Fin.ext (Nat.div_add_mod' (i 2).val 64).symm)))).trans
    (Cert.SwaRefIdeal.Eq.ref _ _ _ _ _ _ _ hq hk hz (i 0) (i 1) ⟨(i 2).val / 64, by have := (i 2).isLt; change (i 2).val < 2048 at this; omega⟩ ⟨(i 2).val % 64, Nat.mod_lt _ (by decide)⟩)

/-- The attention reference runs to its end and leaves its arguments as they were. -/
theorem ref_frame_swa : Cert.quiescent_SwaRefIdeal := fun m ρ _ =>
  (θ_run Cert.SwaRefIdeal.defs _ _).mono (fun r h => ⟨fun c => (h c).2, sem_eq_zero_of_no_sems (by decide) r.2⟩) (Cert.SwaRefIdeal.Value.run (F := Ideal) m ρ)

/-- The output projection of an even layer leaves its reference's array, at every memory. -/
theorem out_even_algebraic : Cert.algebraic_OutEvenIdeal_OutEvenRefIdeal := by
  intro m ρ m' ρ' _ hagree
  refine ⟨_, Cert.OutEvenIdeal.Value.run_blocks (F := Ideal) m ρ, ?_⟩
  refine (θ_run Cert.OutEvenRefIdeal.defs _ _).mono (fun _ h c => ⟨?_, (h c).2⟩) (Cert.OutEvenRefIdeal.Value.run (F := Ideal) m' ρ')
  rw [(h c).1, Cert.OutEvenRefIdeal.Read.val_main_v15_eq]
  refine Eq.trans ?_ (Cert.OutEvenIdeal.Step.final m c).symm
  obtain ⟨h0, h1, h2, h3, h4⟩ := hagree c
  rw [h0, h1, h2, h3, h4]
  funext i
  exact (congrArg _ (eq_ix3 i)).trans (Cert.OutEvenRefIdeal.Eq.ref _ _ _ _ _ (i 0) (i 1) (i 2))

/-- The output projection of an odd layer leaves its reference's array, at every memory. -/
theorem out_odd_algebraic : Cert.algebraic_OutOddIdeal_OutOddRefIdeal := by
  intro m ρ m' ρ' _ hagree
  refine ⟨_, Cert.OutOddIdeal.Value.run_blocks (F := Ideal) m ρ, ?_⟩
  refine (θ_run Cert.OutOddRefIdeal.defs _ _).mono (fun _ h c => ⟨?_, (h c).2⟩) (Cert.OutOddRefIdeal.Value.run (F := Ideal) m' ρ')
  rw [(h c).1, Cert.OutOddRefIdeal.Read.val_main_v15_eq]
  refine Eq.trans ?_ (Cert.OutOddIdeal.Step.final m c).symm
  obtain ⟨h0, h1, h2, h3, h4⟩ := hagree c
  rw [h0, h1, h2, h3, h4]
  funext i
  exact (congrArg _ (eq_ix3 i)).trans (Cert.OutOddRefIdeal.Eq.ref _ _ _ _ _ (i 0) (i 1) (i 2))

/-- The projection of an even layer leaves its reference's two arrays, at every memory. -/
theorem proj_even_algebraic : Cert.algebraic_ProjEvenIdeal_ProjEvenRefIdeal := by
  intro m ρ m' ρ' _ hagree
  refine ⟨_, _, Cert.ProjEvenIdeal.Value.run_blocks (F := Ideal) m ρ, ?_⟩
  refine (θ_run Cert.ProjEvenRefIdeal.defs _ _).mono (fun _ h c => ⟨?_, ?_, (h c).2.2⟩) (Cert.ProjEvenRefIdeal.Value.run (F := Ideal) m' ρ')
  · refine ((h c).1.trans (Cert.ProjEvenRefIdeal.Read.val_main_v122_eq m' c)).trans (Eq.trans ?_ (Cert.ProjEvenIdeal.Step.final7 m c).symm)
    obtain ⟨h0, h1, h2, h3, h4⟩ := hagree c
    rw [h0, h1, h2, h3, h4]
    funext i
    exact (congrArg _ (eq_ix3 i)).trans (Cert.ProjEvenRefIdeal.Eq.ref7 _ _ _ _ _ (i 0) (i 1) (i 2))
  · refine ((h c).2.1.trans (Cert.ProjEvenRefIdeal.Read.val_main_v125_eq _ _ _)).trans (Eq.trans ?_ (Cert.ProjEvenIdeal.Step.final8 m c).symm)
    obtain ⟨h0, h1, h2, h3, h4⟩ := hagree c
    rw [h0, h1, h2]
    funext i
    exact (congrArg _ (eq_ix4 i)).trans (Cert.ProjEvenRefIdeal.Eq.ref8 _ _ _ (i 0) (i 1) (i 2) (i 3))

/-- The projection of an odd layer leaves its reference's two arrays, at every memory. -/
theorem proj_odd_algebraic : Cert.algebraic_ProjOddIdeal_ProjOddRefIdeal := by
  intro m ρ m' ρ' _ hagree
  refine ⟨_, _, Cert.ProjOddIdeal.Value.run_blocks (F := Ideal) m ρ, ?_⟩
  refine (θ_run Cert.ProjOddRefIdeal.defs _ _).mono (fun _ h c => ⟨?_, ?_, (h c).2.2⟩) (Cert.ProjOddRefIdeal.Value.run (F := Ideal) m' ρ')
  · refine ((h c).1.trans (Cert.ProjOddRefIdeal.Read.val_main_v79_eq m' c)).trans (Eq.trans ?_ (Cert.ProjOddIdeal.Step.final9 m c).symm)
    obtain ⟨h0, h1, h2, h3, h4, h5⟩ := hagree c
    rw [h0, h1, h2, h3, h4, h5]
    funext i
    exact (congrArg _ (eq_ix3 i)).trans (Cert.ProjOddRefIdeal.Eq.ref9 _ _ _ _ _ _ (i 0) (i 1) (i 2))
  · refine ((h c).2.1.trans (Cert.ProjOddRefIdeal.Read.val_main_v82_eq _ _ _ _)).trans (Eq.trans ?_ (Cert.ProjOddIdeal.Step.final10 m c).symm)
    obtain ⟨h0, h1, h2, h3, h4, h5⟩ := hagree c
    rw [h0, h1, h2, h3]
    funext i
    exact (congrArg _ (eq_ix4 i)).trans (Cert.ProjOddRefIdeal.Eq.ref10 _ _ _ _ (i 0) (i 1) (i 2) (i 3))

/-- Every claim of the module. -/
theorem claim : Cert.Claim := ⟨Cert.Swa.Gen.facts, Cert.SwaIdeal.Gen.facts, Cert.SwaRefIdeal.Gen.facts, Cert.Ffn.Gen.facts, Cert.FfnIdeal.Gen.facts, Cert.FfnRefIdeal.Gen.facts,
    Cert.Mid.Gen.facts, Cert.MidIdeal.Gen.facts, Cert.MidRefIdeal.Gen.facts,
    Cert.OutEven.Gen.facts, Cert.OutEvenIdeal.Gen.facts, Cert.OutEvenRefIdeal.Gen.facts, Cert.OutOdd.Gen.facts, Cert.OutOddIdeal.Gen.facts, Cert.OutOddRefIdeal.Gen.facts,
    Cert.ProjEven.Gen.facts, Cert.ProjEvenIdeal.Gen.facts, Cert.ProjEvenRefIdeal.Gen.facts, Cert.ProjOdd.Gen.facts, Cert.ProjOddIdeal.Gen.facts, Cert.ProjOddRefIdeal.Gen.facts,
    Cert.Pre_finite.Gen.facts, by
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩
  · exact fun m ρ _ => Cert.Swa.Gen.frame m ρ
  · exact fun m ρ _ => Cert.SwaIdeal.Gen.frame m ρ
  · exact fun m ρ _ => Cert.SwaIdeal.Gen.frame m ρ
  · exact fun m ρ _ => ref_frame_swa m ρ trivial
  · exact fun m ρ _ => ref_frame_swa m ρ trivial
  · exact fun m ρ _ => Cert.Ffn.Gen.frame m ρ
  · exact fun m ρ _ => Cert.FfnIdeal.Gen.frame m ρ
  · exact fun m ρ _ => (θ_run Cert.FfnRefIdeal.defs _ _).mono (fun r h => ⟨fun c => (h c).2, sem_eq_zero_of_no_sems (by decide) r.2⟩) (Cert.FfnRefIdeal.Value.run (F := Ideal) m ρ)
  · exact fun m ρ _ => Cert.Mid.Gen.frame m ρ
  · exact fun m ρ _ => Cert.MidIdeal.Gen.frame m ρ
  · exact fun m ρ _ => (θ_run Cert.MidRefIdeal.defs _ _).mono (fun r h => ⟨fun c => (h c).2, sem_eq_zero_of_no_sems (by decide) r.2⟩) (Cert.MidRefIdeal.Value.run (F := Ideal) m ρ)
  · exact fun m ρ _ => Cert.OutEven.Gen.frame m ρ
  · exact fun m ρ _ => Cert.OutEvenIdeal.Gen.frame m ρ
  · exact fun m ρ _ => (θ_run Cert.OutEvenRefIdeal.defs _ _).mono (fun r h => ⟨fun c => (h c).2, sem_eq_zero_of_no_sems (by decide) r.2⟩) (Cert.OutEvenRefIdeal.Value.run (F := Ideal) m ρ)
  · exact fun m ρ _ => Cert.OutOdd.Gen.frame m ρ
  · exact fun m ρ _ => Cert.OutOddIdeal.Gen.frame m ρ
  · exact fun m ρ _ => (θ_run Cert.OutOddRefIdeal.defs _ _).mono (fun r h => ⟨fun c => (h c).2, sem_eq_zero_of_no_sems (by decide) r.2⟩) (Cert.OutOddRefIdeal.Value.run (F := Ideal) m ρ)
  · exact fun m ρ _ => Cert.ProjEven.Gen.frame m ρ
  · exact fun m ρ _ => Cert.ProjEvenIdeal.Gen.frame m ρ
  · exact fun m ρ _ => (θ_run Cert.ProjEvenRefIdeal.defs _ _).mono (fun r h => ⟨fun c => (h c).2.2, sem_eq_zero_of_no_sems (by decide) r.2⟩) (Cert.ProjEvenRefIdeal.Value.run (F := Ideal) m ρ)
  · exact fun m ρ _ => Cert.ProjOdd.Gen.frame m ρ
  · exact fun m ρ _ => Cert.ProjOddIdeal.Gen.frame m ρ
  · exact fun m ρ _ => (θ_run Cert.ProjOddRefIdeal.defs _ _).mono (fun r h => ⟨fun c => (h c).2.2, sem_eq_zero_of_no_sems (by decide) r.2⟩) (Cert.ProjOddRefIdeal.Value.run (F := Ideal) m ρ)
  · exact ⟨IdealRules.named_const.statement Cert.SwaIdeal.κ "mask" .f32 0xF149F2CA#32 ⊥ rfl, IdealRules.named_const.statement Cert.SwaIdeal.κ "log2e" .f32 0x3FB8AA3B#32 (((Real.log 2)⁻¹ : ℝ) : EReal) rfl⟩
  · exact swa_algebraic
  · trivial
  · exact ffn_algebraic
  · trivial
  · exact mid_algebraic
  · trivial
  · exact out_even_algebraic
  · trivial
  · exact out_odd_algebraic
  · trivial
  · exact proj_even_algebraic
  · trivial
  · exact proj_odd_algebraic⟩

end Cert.Proof

end
